-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_memory [hPre_finite_memory : Cert.Pre_finite_memory.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_memory.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_memory [hPre_finite_memory : Cert.Pre_finite_memory.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_memory.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_memory0 [hPre_finite_memory0 : Cert.Pre_finite_memory0.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_memory0.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_memory0 [hPre_finite_memory0 : Cert.Pre_finite_memory0.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_memory0.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_memory1 [hPre_finite_memory1 : Cert.Pre_finite_memory1.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_memory1.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_memory1 [hPre_finite_memory1 : Cert.Pre_finite_memory1.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_memory1.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_keys [hPre_finite_keys : Cert.Pre_finite_keys.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_keys.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_keys [hPre_finite_keys : Cert.Pre_finite_keys.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_keys.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite_memory2 [hPre_finite_memory2 : Cert.Pre_finite_memory2.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite_memory2.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite_memory2 [hPre_finite_memory2 : Cert.Pre_finite_memory2.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite_memory2.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite_lses [hPre_finite_lses : Cert.Pre_finite_lses.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite_lses.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite_lses [hPre_finite_lses : Cert.Pre_finite_lses.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite_lses.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_memory [hKernel3Ideal : Cert.Kernel3Ideal.Facts] [hPre_finite_memory : Cert.Pre_finite_memory.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_memory m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_memory [hReference3Ideal : Cert.Reference3Ideal.Facts] [hPre_finite_memory : Cert.Pre_finite_memory.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_memory m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite_memory0 [hKernel8Ideal : Cert.Kernel8Ideal.Facts] [hPre_finite_memory0 : Cert.Pre_finite_memory0.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_memory0 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite_memory0 [hReference8Ideal : Cert.Reference8Ideal.Facts] [hPre_finite_memory0 : Cert.Pre_finite_memory0.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_memory0 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_finite_memory1 [hKernel9Ideal : Cert.Kernel9Ideal.Facts] [hPre_finite_memory1 : Cert.Pre_finite_memory1.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_memory1 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_finite_memory1 [hReference9Ideal : Cert.Reference9Ideal.Facts] [hPre_finite_memory1 : Cert.Pre_finite_memory1.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_memory1 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Kernel10Ideal_pre_finite_keys [hKernel10Ideal : Cert.Kernel10Ideal.Facts] [hPre_finite_keys : Cert.Pre_finite_keys.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_keys m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Reference10Ideal_pre_finite_keys [hReference10Ideal : Cert.Reference10Ideal.Facts] [hPre_finite_keys : Cert.Pre_finite_keys.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_keys m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Kernel13Ideal_pre_finite_memory2 [hKernel13Ideal : Cert.Kernel13Ideal.Facts] [hPre_finite_memory2 : Cert.Pre_finite_memory2.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite_memory2 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Reference13Ideal_pre_finite_memory2 [hReference13Ideal : Cert.Reference13Ideal.Facts] [hPre_finite_memory2 : Cert.Pre_finite_memory2.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite_memory2 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Kernel14Ideal_pre_finite_lses [hKernel14Ideal : Cert.Kernel14Ideal.Facts] [hPre_finite_lses : Cert.Pre_finite_lses.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite_lses m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Reference14Ideal_pre_finite_lses [hReference14Ideal : Cert.Reference14Ideal.Facts] [hPre_finite_lses : Cert.Pre_finite_lses.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite_lses m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def algebraic_Kernel3Ideal_Reference3Ideal_pre_finite_memory [hKernel3Ideal : Cert.Kernel3Ideal.Facts] [hReference3Ideal : Cert.Reference3Ideal.Facts] [hPre_finite_memory : Cert.Pre_finite_memory.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_memory m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def algebraic_Kernel8Ideal_Reference8Ideal_pre_finite_memory0 [hKernel8Ideal : Cert.Kernel8Ideal.Facts] [hReference8Ideal : Cert.Reference8Ideal.Facts] [hPre_finite_memory0 : Cert.Pre_finite_memory0.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_memory0 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v34) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def algebraic_Kernel9Ideal_Reference9Ideal_pre_finite_memory1 [hKernel9Ideal : Cert.Kernel9Ideal.Facts] [hReference9Ideal : Cert.Reference9Ideal.Facts] [hPre_finite_memory1 : Cert.Pre_finite_memory1.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_memory1 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v36) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  IdealRules.named_const.Statement Cert.Kernel10Ideal.κ "mask" .f32 0xF149F2CA#32 ⊥

def algebraic_Kernel10Ideal_Reference10Ideal_pre_finite_keys [hKernel10Ideal : Cert.Kernel10Ideal.Facts] [hReference10Ideal : Cert.Reference10Ideal.Facts] [hPre_finite_keys : Cert.Pre_finite_keys.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_keys m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v69) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v17) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v17) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def algebraic_Kernel13Ideal_Reference13Ideal_pre_finite_memory2 [hKernel13Ideal : Cert.Kernel13Ideal.Facts] [hReference13Ideal : Cert.Reference13Ideal.Facts] [hPre_finite_memory2 : Cert.Pre_finite_memory2.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite_memory2 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v37) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def algebraic_Kernel14Ideal_Reference14Ideal_pre_finite_lses [hKernel14Ideal : Cert.Kernel14Ideal.Facts] [hReference14Ideal : Cert.Reference14Ideal.Facts] [hPre_finite_lses : Cert.Pre_finite_lses.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite_lses m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v20) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite_memory : Cert.Pre_finite_memory.Facts) (hPre_finite_memory0 : Cert.Pre_finite_memory0.Facts) (hPre_finite_memory1 : Cert.Pre_finite_memory1.Facts) (hPre_finite_keys : Cert.Pre_finite_keys.Facts) (hPre_finite_memory2 : Cert.Pre_finite_memory2.Facts) (hPre_finite_lses : Cert.Pre_finite_lses.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_memory (hKernel3Ideal := hKernel3Ideal) (hPre_finite_memory := hPre_finite_memory)
    ∧ quiescent_Reference3Ideal (hReference3Ideal := hReference3Ideal)
    ∧ quiescent_Reference3Ideal_pre_finite_memory (hReference3Ideal := hReference3Ideal) (hPre_finite_memory := hPre_finite_memory)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_memory0 (hKernel8Ideal := hKernel8Ideal) (hPre_finite_memory0 := hPre_finite_memory0)
    ∧ quiescent_Reference8Ideal (hReference8Ideal := hReference8Ideal)
    ∧ quiescent_Reference8Ideal_pre_finite_memory0 (hReference8Ideal := hReference8Ideal) (hPre_finite_memory0 := hPre_finite_memory0)
    ∧ quiescent_Kernel9 (hKernel9 := hKernel9)
    ∧ quiescent_Kernel9Ideal (hKernel9Ideal := hKernel9Ideal)
    ∧ quiescent_Kernel9Ideal_pre_finite_memory1 (hKernel9Ideal := hKernel9Ideal) (hPre_finite_memory1 := hPre_finite_memory1)
    ∧ quiescent_Reference9Ideal (hReference9Ideal := hReference9Ideal)
    ∧ quiescent_Reference9Ideal_pre_finite_memory1 (hReference9Ideal := hReference9Ideal) (hPre_finite_memory1 := hPre_finite_memory1)
    ∧ quiescent_Kernel10 (hKernel10 := hKernel10)
    ∧ quiescent_Kernel10Ideal (hKernel10Ideal := hKernel10Ideal)
    ∧ quiescent_Kernel10Ideal_pre_finite_keys (hKernel10Ideal := hKernel10Ideal) (hPre_finite_keys := hPre_finite_keys)
    ∧ quiescent_Reference10Ideal (hReference10Ideal := hReference10Ideal)
    ∧ quiescent_Reference10Ideal_pre_finite_keys (hReference10Ideal := hReference10Ideal) (hPre_finite_keys := hPre_finite_keys)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite_memory2 (hKernel13Ideal := hKernel13Ideal) (hPre_finite_memory2 := hPre_finite_memory2)
    ∧ quiescent_Reference13Ideal (hReference13Ideal := hReference13Ideal)
    ∧ quiescent_Reference13Ideal_pre_finite_memory2 (hReference13Ideal := hReference13Ideal) (hPre_finite_memory2 := hPre_finite_memory2)
    ∧ quiescent_Kernel14 (hKernel14 := hKernel14)
    ∧ quiescent_Kernel14Ideal (hKernel14Ideal := hKernel14Ideal)
    ∧ quiescent_Kernel14Ideal_pre_finite_lses (hKernel14Ideal := hKernel14Ideal) (hPre_finite_lses := hPre_finite_lses)
    ∧ quiescent_Reference14Ideal (hReference14Ideal := hReference14Ideal)
    ∧ quiescent_Reference14Ideal_pre_finite_lses (hReference14Ideal := hReference14Ideal) (hPre_finite_lses := hPre_finite_lses)
    ∧ preserves_Kernel_KernelIdeal
    ∧ algebraic_KernelIdeal_ReferenceIdeal_pre_finite (hKernelIdeal := hKernelIdeal) (hReferenceIdeal := hReferenceIdeal) (hPre_finite := hPre_finite)
    ∧ algebraic_Kernel2Ideal_Reference2Ideal (hKernel2Ideal := hKernel2Ideal) (hReference2Ideal := hReference2Ideal)
    ∧ algebraic_Kernel3Ideal_Reference3Ideal_pre_finite_memory (hKernel3Ideal := hKernel3Ideal) (hReference3Ideal := hReference3Ideal) (hPre_finite_memory := hPre_finite_memory)
    ∧ algebraic_Kernel4Ideal_Reference4Ideal (hKernel4Ideal := hKernel4Ideal) (hReference4Ideal := hReference4Ideal)
    ∧ algebraic_Kernel5Ideal_Reference5Ideal (hKernel5Ideal := hKernel5Ideal) (hReference5Ideal := hReference5Ideal)
    ∧ algebraic_Kernel6Ideal_Reference6Ideal (hKernel6Ideal := hKernel6Ideal) (hReference6Ideal := hReference6Ideal)
    ∧ algebraic_Kernel7Ideal_Reference7Ideal (hKernel7Ideal := hKernel7Ideal) (hReference7Ideal := hReference7Ideal)
    ∧ algebraic_Kernel8Ideal_Reference8Ideal_pre_finite_memory0 (hKernel8Ideal := hKernel8Ideal) (hReference8Ideal := hReference8Ideal) (hPre_finite_memory0 := hPre_finite_memory0)
    ∧ algebraic_Kernel9Ideal_Reference9Ideal_pre_finite_memory1 (hKernel9Ideal := hKernel9Ideal) (hReference9Ideal := hReference9Ideal) (hPre_finite_memory1 := hPre_finite_memory1)
    ∧ preserves_Kernel10_Kernel10Ideal
    ∧ algebraic_Kernel10Ideal_Reference10Ideal_pre_finite_keys (hKernel10Ideal := hKernel10Ideal) (hReference10Ideal := hReference10Ideal) (hPre_finite_keys := hPre_finite_keys)
    ∧ algebraic_Kernel11Ideal_Reference11Ideal (hKernel11Ideal := hKernel11Ideal) (hReference11Ideal := hReference11Ideal)
    ∧ algebraic_Kernel12Ideal_Reference12Ideal (hKernel12Ideal := hKernel12Ideal) (hReference12Ideal := hReference12Ideal)
    ∧ algebraic_Kernel13Ideal_Reference13Ideal_pre_finite_memory2 (hKernel13Ideal := hKernel13Ideal) (hReference13Ideal := hReference13Ideal) (hPre_finite_memory2 := hPre_finite_memory2)
    ∧ algebraic_Kernel14Ideal_Reference14Ideal_pre_finite_lses (hKernel14Ideal := hKernel14Ideal) (hReference14Ideal := hReference14Ideal) (hPre_finite_lses := hPre_finite_lses)
-- ==== Pre_finite.lean ====
abbrev S4x2048x9728 : Shape := ⟨3, ![4, 2048, 9728]⟩
abbrev S4x16x2048 : Shape := ⟨3, ![4, 16, 2048]⟩
abbrev S_ : Shape := ⟨0, ![]⟩

class Facts : Prop where
  bitsLt_bf16_f32 : FTy.bits .bf16 < FTy.bits .f32
  bcast_S_S4x2048x9728 : S_.BroadcastsInDim S4x2048x9728 (![] : Fin 0 → Fin S4x2048x9728.rank)
  reducesTo_S4x2048x9728_S_d0_1_2 : S4x2048x9728.ReducesTo [0, 1, 2] S_
  h_S_ : 0 < S_.numel
  bcast_S_S4x16x2048 : S_.BroadcastsInDim S4x16x2048 (![] : Fin 0 → Fin S4x16x2048.rank)
  reducesTo_S4x16x2048_S_d0_1_2 : S4x16x2048.ReducesTo [0, 1, 2] S_

variable [Facts]

def fn {F : FTy → Type} [FloatOps F] (main_arg0 : FVec F S4x2048x9728 .bf16) (main_arg1 : FVec F S4x16x2048 .f32) : IVec S_ 1 :=
  let main_v0 : FVec F S4x2048x9728 .f32 := (extf .f32 · bitsLt_bf16_f32) main_arg0
  let main_v1 : FVec F S4x2048x9728 .f32 := Host.absf main_v0
  let main_cst : FVec F S_ .f32 := constant S_ .f32 0x7F800000#32
  let main_v2 : FVec F S4x2048x9728 .f32 := broadcastInDim S4x2048x9728 ![] bcast_S_S4x2048x9728 main_cst
  let main_v3 : IVec S4x2048x9728 1 := cmpf .olt main_v1 main_v2
  let main_c : IVec S_ 1 := constantI S_ 1 1#1
  let main_v4 : IVec S_ 1 := (fun x v => Host.reduce IntOp.andi x v reducesTo_S4x2048x9728_S_d0_1_2 h_S_) main_v3 main_c
  let main_v5 : FVec F S4x16x2048 .f32 := Host.absf main_arg1
  let main_cst_0 : FVec F S_ .f32 := constant S_ .f32 0x7F800000#32
  let main_v6 : FVec F S4x16x2048 .f32 := broadcastInDim S4x16x2048 ![] bcast_S_S4x16x2048 main_cst_0
  let main_v7 : IVec S4x16x2048 1 := cmpf .olt main_v5 main_v6
  let main_c_1 : IVec S_ 1 := constantI S_ 1 1#1
  let main_v8 : IVec S_ 1 := (fun x v => Host.reduce IntOp.andi x v reducesTo_S4x16x2048_S_d0_1_2 h_S_) main_v7 main_c_1
  let main_v9 : IVec S_ 1 := andi main_v4 main_v8
  main_v9
-- ==== Pre_finite_keys.lean ====
abbrev S4x2048x3072 : Shape := ⟨3, ![4, 2048, 3072]⟩
abbrev S4x2048x4096 : Shape := ⟨3, ![4, 2048, 4096]⟩
abbrev S4x2048x4608 : Shape := ⟨3, ![4, 2048, 4608]⟩
abbrev S4x2048x32 : Shape := ⟨3, ![4, 2048, 32]⟩
abbrev S_ : Shape := ⟨0, ![]⟩
abbrev S4x2048x2048 : Shape := ⟨3, ![4, 2048, 2048]⟩
abbrev S4x2048x64 : Shape := ⟨3, ![4, 2048, 64]⟩

class Facts : Prop where
  bitsLt_bf16_f32 : FTy.bits .bf16 < FTy.bits .f32
  bcast_S_S4x2048x3072 : S_.BroadcastsInDim S4x2048x3072 (![] : Fin 0 → Fin S4x2048x3072.rank)
  reducesTo_S4x2048x3072_S_d0_1_2 : S4x2048x3072.ReducesTo [0, 1, 2] S_
  h_S_ : 0 < S_.numel
  slices_S4x2048x4096_S4x2048x2048_0_0_0 : S4x2048x4096.Slices ![0, 0, 0] S4x2048x2048
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S4x2048x32 : S_.BroadcastsInDim S4x2048x32 (![] : Fin 0 → Fin S4x2048x32.rank)
  reducesTo_S4x2048x32_S_d0_1_2 : S4x2048x32.ReducesTo [0, 1, 2] S_
  slices_S4x2048x4608_S4x2048x64_0_0_4096 : S4x2048x4608.Slices ![0, 0, 4096] S4x2048x64
  bcast_S_S4x2048x64 : S_.BroadcastsInDim S4x2048x64 (![] : Fin 0 → Fin S4x2048x64.rank)
  reducesTo_S4x2048x64_S_d0_1_2 : S4x2048x64.ReducesTo [0, 1, 2] S_

variable [Facts]

def fn_part1 {F : FTy → Type} [FloatOps F] (main_arg2 : FVec F S4x2048x4608 .bf16) (main_v11 : IVec S_ 1) (main_v15 : IVec S_ 1) (main_v16 : FVec F S4x2048x32 .f32) (main_cst_4 : FVec F S_ .f32) : IVec S_ 1 :=
  let main_v17 : FVec F S4x2048x32 .f32 := broadcastInDim S4x2048x32 ![] bcast_S_S4x2048x32 main_cst_4
  let main_v18 : IVec S4x2048x32 1 := cmpf .olt main_v16 main_v17
  let main_c_5 : IVec S_ 1 := constantI S_ 1 1#1
  let main_v19 : IVec S_ 1 := (fun x v => Host.reduce IntOp.andi x v reducesTo_S4x2048x32_S_d0_1_2 h_S_) main_v18 main_c_5
  let main_v20 : IVec S_ 1 := andi main_v15 main_v19
  let main_v21 : FVec F S4x2048x64 .bf16 := (extractStridedSlice S4x2048x64 ![0, 0, 4096] · slices_S4x2048x4608_S4x2048x64_0_0_4096) main_arg2
  let main_v22 : FVec F S4x2048x64 .f32 := (extf .f32 · bitsLt_bf16_f32) main_v21
  let main_v23 : FVec F S4x2048x64 .f32 := Host.absf main_v22
  let main_cst_6 : FVec F S_ .f32 := constant S_ .f32 0x7F800000#32
  let main_v24 : FVec F S4x2048x64 .f32 := broadcastInDim S4x2048x64 ![] bcast_S_S4x2048x64 main_cst_6
  let main_v25 : IVec S4x2048x64 1 := cmpf .olt main_v23 main_v24
  let main_c_7 : IVec S_ 1 := constantI S_ 1 1#1
  let main_v26 : IVec S_ 1 := (fun x v => Host.reduce IntOp.andi x v reducesTo_S4x2048x64_S_d0_1_2 h_S_) main_v25 main_c_7
  let main_v27 : IVec S_ 1 := andi main_v11 main_v26
  let main_v28 : IVec S_ 1 := andi main_v27 main_v20
  main_v28

def fn {F : FTy → Type} [FloatOps F] (main_arg0 : FVec F S4x2048x3072 .bf16) (main_arg1 : FVec F S4x2048x4096 .bf16) (main_arg2 : FVec F S4x2048x4608 .bf16) (main_arg3 : FVec F S4x2048x32 .f32) (main_arg4 : FVec F S4x2048x32 .f32) : IVec S_ 1 :=
  let main_v0 : FVec F S4x2048x3072 .f32 := (extf .f32 · bitsLt_bf16_f32) main_arg0
  let main_v1 : FVec F S4x2048x3072 .f32 := Host.absf main_v0
  let main_cst : FVec F S_ .f32 := constant S_ .f32 0x7F800000#32
  let main_v2 : FVec F S4x2048x3072 .f32 := broadcastInDim S4x2048x3072 ![] bcast_S_S4x2048x3072 main_cst
  let main_v3 : IVec S4x2048x3072 1 := cmpf .olt main_v1 main_v2
  let main_c : IVec S_ 1 := constantI S_ 1 1#1
  let main_v4 : IVec S_ 1 := (fun x v => Host.reduce IntOp.andi x v reducesTo_S4x2048x3072_S_d0_1_2 h_S_) main_v3 main_c
  let main_v5 : FVec F S4x2048x2048 .bf16 := (extractStridedSlice S4x2048x2048 ![0, 0, 0] · slices_S4x2048x4096_S4x2048x2048_0_0_0) main_arg1
  let main_v6 : FVec F S4x2048x2048 .f32 := (extf .f32 · bitsLt_bf16_f32) main_v5
  let main_v7 : FVec F S4x2048x2048 .f32 := Host.absf main_v6
  let main_cst_0 : FVec F S_ .f32 := constant S_ .f32 0x7F800000#32
  let main_v8 : FVec F S4x2048x2048 .f32 := broadcastInDim S4x2048x2048 ![] bcast_S_S4x2048x2048 main_cst_0
  let main_v9 : IVec S4x2048x2048 1 := cmpf .olt main_v7 main_v8
  let main_c_1 : IVec S_ 1 := constantI S_ 1 1#1
  let main_v10 : IVec S_ 1 := (fun x v => Host.reduce IntOp.andi x v reducesTo_S4x2048x2048_S_d0_1_2 h_S_) main_v9 main_c_1
  let main_v11 : IVec S_ 1 := andi main_v4 main_v10
  let main_v12 : FVec F S4x2048x32 .f32 := Host.absf main_arg3
  let main_cst_2 : FVec F S_ .f32 := constant S_ .f32 0x7F800000#32
  let main_v13 : FVec F S4x2048x32 .f32 := broadcastInDim S4x2048x32 ![] bcast_S_S4x2048x32 main_cst_2
  let main_v14 : IVec S4x2048x32 1 := cmpf .olt main_v12 main_v13
  let main_c_3 : IVec S_ 1 := constantI S_ 1 1#1
  let main_v15 : IVec S_ 1 := (fun x v => Host.reduce IntOp.andi x v reducesTo_S4x2048x32_S_d0_1_2 h_S_) main_v14 main_c_3
  let main_v16 : FVec F S4x2048x32 .f32 := Host.absf main_arg4
  let main_cst_4 : FVec F S_ .f32 := constant S_ .f32 0x7F800000#32
  fn_part1 (F := F) main_arg2 main_v11 main_v15 main_v16 main_cst_4
-- ==== Pre_finite_lses.lean ====
abbrev S8192x768 : Shape := ⟨2, ![8192, 768]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel

variable [Facts]

def fn {F : FTy → Type} [FloatOps F] (main_arg0 : FVec F S8192x768 .f32) (main_arg1 : FVec F S8192x768 .f32) (main_arg2 : FVec F S8192x768 .f32) (main_arg3 : FVec F S8192x768 .f32) (main_arg4 : FVec F S8192x768 .f32) (main_arg5 : FVec F S8192x768 .f32) : IVec S_ 1 :=
  let main_v0 : FVec F S8192x768 .f32 := Host.absf main_arg3
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S8192x768 .f32 := Host.absf main_arg4
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  let main_v9 : FVec F S8192x768 .f32 := Host.absf main_arg5
  let main_cst_2 : FVec F S_ .f32 := constant S_ .f32 0x7F800000#32
  let main_v10 : FVec F S8192x768 .f32 := broadcastInDim S8192x768 ![] bcast_S_S8192x768 main_cst_2
  let main_v11 : IVec S8192x768 1 := cmpf .olt main_v9 main_v10
  let main_c_3 : IVec S_ 1 := constantI S_ 1 1#1
  let main_v12 : IVec S_ 1 := (fun x v => Host.reduce IntOp.andi x v reducesTo_S8192x768_S_d0_1 h_S_) main_v11 main_c_3
  let main_v13 : IVec S_ 1 := andi main_v8 main_v12
  main_v13
-- ==== Pre_finite_memory.lean ====
abbrev S4x2048x2048 : Shape := ⟨3, ![4, 2048, 2048]⟩
abbrev S8192x4608 : Shape := ⟨2, ![8192, 4608]⟩
abbrev S1024x1024 : Shape := ⟨2, ![1024, 1024]⟩
abbrev S8192x2048 : Shape := ⟨2, ![8192, 2048]⟩
abbrev S2560x2048 : Shape := ⟨2, ![2560, 2048]⟩
abbrev S2048 : Shape := ⟨1, ![2048]⟩
abbrev S8192x512 : Shape := ⟨2, ![8192, 512]⟩
abbrev S1024x512 : Shape := ⟨2, ![1024, 512]⟩
abbrev S_ : Shape := ⟨0, ![]⟩

class Facts : Prop where
  slices_S8192x4608_S8192x512_0_2560 : S8192x4608.Slices ![0, 2560] S8192x512
  bitsLt_bf16_f32 : FTy.bits .bf16 < FTy.bits .f32
  slices_S1024x1024_S1024x512_0_0 : S1024x1024.Slices ![0, 0] S1024x512
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S4x2048x2048 .bf16) (main_arg1 : FVec F S8192x4608 .bf16) (main_arg2 : FVec F S1024x1024 .bf16) (main_arg3 : FVec F S8192x2048 .f32) (main_arg4 : FVec F S2560x2048 .f32) (main_arg5 : FVec F S2048 .f32) : IVec S_ 1 :=
  let main_v0 : FVec F S8192x512 .bf16 := (extractStridedSlice S8192x512 ![0, 2560] · slices_S8192x4608_S8192x512_0_2560) main_arg1
  let main_v1 : FVec F S8192x512 .f32 := (extf .f32 · bitsLt_bf16_f32) main_v0
  let main_v2 : FVec F S1024x512 .bf16 := (extractStridedSlice S1024x512 ![0, 0] · slices_S1024x1024_S1024x512_0_0) main_arg2
  let main_v3 : FVec F S1024x512 .f32 := (extf .f32 · bitsLt_bf16_f32) main_v2
  let main_v4 : FVec F S8192x512 .f32 := Host.absf main_v1
  let main_cst : FVec F S_ .f32 := constant S_ .f32 0x7F800000#32
  let main_v5 : FVec F S8192x512 .f32 := broadcastInDim S8192x512 ![] bcast_S_S8192x512 main_cst
  let main_v6 : IVec S8192x512 1 := cmpf .olt main_v4 main_v5
  let main_c : IVec S_ 1 := constantI S_ 1 1#1
  let main_v7 : IVec S_ 1 := (fun x v => Host.reduce IntOp.andi x v reducesTo_S8192x512_S_d0_1 h_S_) main_v6 main_c
  let main_v8 : FVec F S1024x512 .f32 := Host.absf main_v3
  let main_cst_0 : FVec F S_ .f32 := constant S_ .f32 0x7F800000#32
  let main_v9 : FVec F S1024x512 .f32 := broadcastInDim S1024x512 ![] bcast_S_S1024x512 main_cst_0
  let main_v10 : IVec S1024x512 1 := cmpf .olt main_v8 main_v9
  let main_c_1 : IVec S_ 1 := constantI S_ 1 1#1
  let main_v11 : IVec S_ 1 := (fun x v => Host.reduce IntOp.andi x v reducesTo_S1024x512_S_d0_1 h_S_) main_v10 main_c_1
  let main_v12 : IVec S_ 1 := andi main_v7 main_v11
  main_v12
-- ==== Pre_finite_memory0.lean ====
abbrev S4x2048x2048 : Shape := ⟨3, ![4, 2048, 2048]⟩
abbrev S8192x9728 : Shape := ⟨2, ![8192, 9728]⟩
abbrev S1024x1024 : Shape := ⟨2, ![1024, 1024]⟩
abbrev S8192x2048 : Shape := ⟨2, ![8192, 2048]⟩
abbrev S2560x2048 : Shape := ⟨2, ![2560, 2048]⟩
abbrev S8192x512 : Shape := ⟨2, ![8192, 512]⟩
abbrev S1024x512 : Shape := ⟨2, ![1024, 512]⟩
abbrev S_ : Shape := ⟨0, ![]⟩

class Facts : Prop where
  slices_S8192x9728_S8192x512_0_2560 : S8192x9728.Slices ![0, 2560] S8192x512
  bitsLt_bf16_f32 : FTy.bits .bf16 < FTy.bits .f32
  slices_S1024x1024_S1024x512_0_0 : S1024x1024.Slices ![0, 0] S1024x512
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S4x2048x2048 .bf16) (main_arg1 : FVec F S8192x9728 .bf16) (main_arg2 : FVec F S1024x1024 .bf16) (main_arg3 : FVec F S8192x2048 .f32) (main_arg4 : FVec F S2560x2048 .f32) : IVec S_ 1 :=
  let main_v0 : FVec F S8192x512 .bf16 := (extractStridedSlice S8192x512 ![0, 2560] · slices_S8192x9728_S8192x512_0_2560) main_arg1
  let main_v1 : FVec F S8192x512 .f32 := (extf .f32 · bitsLt_bf16_f32) main_v0
  let main_v2 : FVec F S1024x512 .bf16 := (extractStridedSlice S1024x512 ![0, 0] · slices_S1024x1024_S1024x512_0_0) main_arg2
  let main_v3 : FVec F S1024x512 .f32 := (extf .f32 · bitsLt_bf16_f32) main_v2
  let main_v4 : FVec F S8192x512 .f32 := Host.absf main_v1
  let main_cst : FVec F S_ .f32 := constant S_ .f32 0x7F800000#32
  let main_v5 : FVec F S8192x512 .f32 := broadcastInDim S8192x512 ![] bcast_S_S8192x512 main_cst
  let main_v6 : IVec S8192x512 1 := cmpf .olt main_v4 main_v5
  let main_c : IVec S_ 1 := constantI S_ 1 1#1
  let main_v7 : IVec S_ 1 := (fun x v => Host.reduce IntOp.andi x v reducesTo_S8192x512_S_d0_1 h_S_) main_v6 main_c
  let main_v8 : FVec F S1024x512 .f32 := Host.absf main_v3
  let main_cst_0 : FVec F S_ .f32 := constant S_ .f32 0x7F800000#32
  let main_v9 : FVec F S1024x512 .f32 := broadcastInDim S1024x512 ![] bcast_S_S1024x512 main_cst_0
  let main_v10 : IVec S1024x512 1 := cmpf .olt main_v8 main_v9
  let main_c_1 : IVec S_ 1 := constantI S_ 1 1#1
  let main_v11 : IVec S_ 1 := (fun x v => Host.reduce IntOp.andi x v reducesTo_S1024x512_S_d0_1 h_S_) main_v10 main_c_1
  let main_v12 : IVec S_ 1 := andi main_v7 main_v11
  main_v12
-- ==== Pre_finite_memory1.lean ====
abbrev S4x2048x2048 : Shape := ⟨3, ![4, 2048, 2048]⟩
abbrev S8192x6656 : Shape := ⟨2, ![8192, 6656]⟩
abbrev S1024x1024 : Shape := ⟨2, ![1024, 1024]⟩
abbrev S8192x2048 : Shape := ⟨2, ![8192, 2048]⟩
abbrev S2560x2048 : Shape := ⟨2, ![2560, 2048]⟩
abbrev S8192x512 : Shape := ⟨2, ![8192, 512]⟩
abbrev S1024x512 : Shape := ⟨2, ![1024, 512]⟩
abbrev S_ : Shape := ⟨0, ![]⟩

class Facts : Prop where
  slices_S8192x6656_S8192x512_0_5632 : S8192x6656.Slices ![0, 5632] S8192x512
  bitsLt_bf16_f32 : FTy.bits .bf16 < FTy.bits .f32
  slices_S1024x1024_S1024x512_0_0 : S1024x1024.Slices ![0, 0] S1024x512
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S4x2048x2048 .bf16) (main_arg1 : FVec F S8192x6656 .bf16) (main_arg2 : FVec F S1024x1024 .bf16) (main_arg3 : FVec F S8192x2048 .f32) (main_arg4 : FVec F S2560x2048 .f32) : IVec S_ 1 :=
  let main_v0 : FVec F S8192x512 .bf16 := (extractStridedSlice S8192x512 ![0, 5632] · slices_S8192x6656_S8192x512_0_5632) main_arg1
  let main_v1 : FVec F S8192x512 .f32 := (extf .f32 · bitsLt_bf16_f32) main_v0
  let main_v2 : FVec F S1024x512 .bf16 := (extractStridedSlice S1024x512 ![0, 0] · slices_S1024x1024_S1024x512_0_0) main_arg2
  let main_v3 : FVec F S1024x512 .f32 := (extf .f32 · bitsLt_bf16_f32) main_v2
  let main_v4 : FVec F S8192x512 .f32 := Host.absf main_v1
  let main_cst : FVec F S_ .f32 := constant S_ .f32 0x7F800000#32
  let main_v5 : FVec F S8192x512 .f32 := broadcastInDim S8192x512 ![] bcast_S_S8192x512 main_cst
  let main_v6 : IVec S8192x512 1 := cmpf .olt main_v4 main_v5
  let main_c : IVec S_ 1 := constantI S_ 1 1#1
  let main_v7 : IVec S_ 1 := (fun x v => Host.reduce IntOp.andi x v reducesTo_S8192x512_S_d0_1 h_S_) main_v6 main_c
  let main_v8 : FVec F S1024x512 .f32 := Host.absf main_v3
  let main_cst_0 : FVec F S_ .f32 := constant S_ .f32 0x7F800000#32
  let main_v9 : FVec F S1024x512 .f32 := broadcastInDim S1024x512 ![] bcast_S_S1024x512 main_cst_0
  let main_v10 : IVec S1024x512 1 := cmpf .olt main_v8 main_v9
  let main_c_1 : IVec S_ 1 := constantI S_ 1 1#1
  let main_v11 : IVec S_ 1 := (fun x v => Host.reduce IntOp.andi x v reducesTo_S1024x512_S_d0_1 h_S_) main_v10 main_c_1
  let main_v12 : IVec S_ 1 := andi main_v7 main_v11
  main_v12
-- ==== Pre_finite_memory2.lean ====
abbrev S8192x768 : Shape := ⟨2, ![8192, 768]⟩
abbrev S8192x9216 : Shape := ⟨2, ![8192, 9216]⟩
abbrev S1024x1024 : Shape := ⟨2, ![1024, 1024]⟩
abbrev S8192x2048 : Shape := ⟨2, ![8192, 2048]⟩
abbrev S1280x2048 : Shape := ⟨2, ![1280, 2048]⟩
abbrev S8192x512 : Shape := ⟨2, ![8192, 512]⟩
abbrev S1024x512 : Shape := ⟨2, ![1024, 512]⟩
abbrev S_ : Shape := ⟨0, ![]⟩

class Facts : Prop where
  slices_S8192x9216_S8192x512_0_8192 : S8192x9216.Slices ![0, 8192] S8192x512
  bitsLt_bf16_f32 : FTy.bits .bf16 < FTy.bits .f32
  slices_S1024x1024_S1024x512_0_0 : S1024x1024.Slices ![0, 0] S1024x512
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S8192x768 .bf16) (main_arg1 : FVec F S8192x9216 .bf16) (main_arg2 : FVec F S1024x1024 .bf16) (main_arg3 : FVec F S8192x2048 .f32) (main_arg4 : FVec F S1280x2048 .f32) : IVec S_ 1 :=
  let main_v0 : FVec F S8192x512 .bf16 := (extractStridedSlice S8192x512 ![0, 8192] · slices_S8192x9216_S8192x512_0_8192) main_arg1
  let main_v1 : FVec F S8192x512 .f32 := (extf .f32 · bitsLt_bf16_f32) main_v0
  let main_v2 : FVec F S1024x512 .bf16 := (extractStridedSlice S1024x512 ![0, 0] · slices_S1024x1024_S1024x512_0_0) main_arg2
  let main_v3 : FVec F S1024x512 .f32 := (extf .f32 · bitsLt_bf16_f32) main_v2
  let main_v4 : FVec F S8192x512 .f32 := Host.absf main_v1
  let main_cst : FVec F S_ .f32 := constant S_ .f32 0x7F800000#32
  let main_v5 : FVec F S8192x512 .f32 := broadcastInDim S8192x512 ![] bcast_S_S8192x512 main_cst
  let main_v6 : IVec S8192x512 1 := cmpf .olt main_v4 main_v5
  let main_c : IVec S_ 1 := constantI S_ 1 1#1
  let main_v7 : IVec S_ 1 := (fun x v => Host.reduce IntOp.andi x v reducesTo_S8192x512_S_d0_1 h_S_) main_v6 main_c
  let main_v8 : FVec F S1024x512 .f32 := Host.absf main_v3
  let main_cst_0 : FVec F S_ .f32 := constant S_ .f32 0x7F800000#32
  let main_v9 : FVec F S1024x512 .f32 := broadcastInDim S1024x512 ![] bcast_S_S1024x512 main_cst_0
  let main_v10 : IVec S1024x512 1 := cmpf .olt main_v8 main_v9
  let main_c_1 : IVec S_ 1 := constantI S_ 1 1#1
  let main_v11 : IVec S_ 1 := (fun x v => Host.reduce IntOp.andi x v reducesTo_S1024x512_S_d0_1 h_S_) main_v10 main_c_1
  let main_v12 : IVec S_ 1 := andi main_v7 main_v11
  main_v12
-- ==== Kernel.lean ====
abbrev S4x2048x9728 : Shape := ⟨3, ![4, 2048, 9728]⟩
abbrev S4x16x2048 : Shape := ⟨3, ![4, 16, 2048]⟩
abbrev S4x16x4x1x512 : Shape := ⟨5, ![4, 16, 4, 1, 512]⟩
abbrev S4x2048x2048 : Shape := ⟨3, ![4, 2048, 2048]⟩
abbrev S1x512x128 : Shape := ⟨3, ![1, 512, 128]⟩
abbrev S1x2048x128 : Shape := ⟨3, ![1, 2048, 128]⟩
abbrev S1x1x4x1x512 : Shape := ⟨5, ![1, 1, 4, 1, 512]⟩
abbrev S512x128 : Shape := ⟨2, ![512, 128]⟩
abbrev S512x1 : Shape := ⟨2, ![512, 1]⟩
abbrev S512x512 : Shape := ⟨2, ![512, 512]⟩
abbrev S1x1x1x1x512 : Shape := ⟨5, ![1, 1, 1, 1, 512]⟩
abbrev S1x512 : Shape := ⟨2, ![1, 512]⟩
abbrev S512 : Shape := ⟨1, ![512]⟩

abbrev nBuf : Space → Nat
  | .hbm => 4
  | .vmem => 10
  | .smem => 0
  | _ => 0

abbrev bufTy : (tb : Table) → Fin (tcTables nBuf tb) → BufTy
  | .hbm, ⟨0, _⟩ => ⟨S4x2048x9728, .bf16⟩
  | .hbm, ⟨1, _⟩ => ⟨S4x16x2048, .f32⟩
  | .hbm, ⟨2, _⟩ => ⟨S4x16x4x1x512, .f32⟩
  | .hbm, ⟨3, _⟩ => ⟨S4x2048x2048, .bf16⟩
  | .local _ .vmem, ⟨0, _⟩ => ⟨S1x512x128, .bf16⟩
  | .local _ .vmem, ⟨1, _⟩ => ⟨S1x512x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1x4x1x512, .f32⟩
  | .local _ .vmem, ⟨7, _⟩ => ⟨S1x1x4x1x512, .f32⟩
  | .local _ .vmem, ⟨8, _⟩ => ⟨S1x512x128, .bf16⟩
  | .local _ .vmem, ⟨9, _⟩ => ⟨S1x512x128, .bf16⟩
  | _, _ => ⟨S4x2048x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 16, 4], ![false, false, false]⟩

@[reducible] def k0_t1_loop (i : grid0.Coords) : Scf.Loop 32 :=
  let c0_i32 : BitVec 32 := 0#32
  let arg2 : BitVec 32 := BitVec.ofNat 32 (i 2).val
  let v5 : BitVec 32 := Scalar.subi arg2 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  ⟨c0_i32, v9, c1_i32_4⟩
def k0_mult1 (i : grid0.Coords) (k0_t1 : Fin (k0_t1_loop i).trips) : BitVec 32 :=
  let c0_i32 : BitVec 32 := 0#32
  let c1_i32_4 : BitVec 32 := 1#32
  let arg8 : BitVec 32 := Scf.iv c0_i32 c1_i32_4 k0_t1
  let c512_i32_25 : BitVec 32 := 512#32
  let v62 : BitVec 32 := Scalar.muli arg8 c512_i32_25
  v62
def k0_off1 (i : grid0.Coords) (k0_t1 : Fin (k0_t1_loop i).trips) : Fin 3 → Nat :=
  let c0_26 : Index := 0#32
  let c0_i32 : BitVec 32 := 0#32
  let c1_i32_4 : BitVec 32 := 1#32
  let arg8 : BitVec 32 := Scf.iv c0_i32 c1_i32_4 k0_t1
  let c512_i32_25 : BitVec 32 := 512#32
  let v62 : BitVec 32 := Scalar.muli arg8 c512_i32_25
  let v63 : BitVec 32 := v62
  let v64 : Index := Scalar.indexCast v63
  let c0_27 : Index := 0#32
  ![0, v64.toNat, 0]
def k0_off2 (i : grid0.Coords) (k0_t1 : Fin (k0_t1_loop i).trips) : Fin 5 → Nat :=
  let c0_30 : Index := 0#32
  let c0_31 : Index := 0#32
  let c0_i32 : BitVec 32 := 0#32
  let c1_i32_4 : BitVec 32 := 1#32
  let arg8 : BitVec 32 := Scf.iv c0_i32 c1_i32_4 k0_t1
  let v70 : Index := Scalar.indexCast arg8
  let c0_32 : Index := 0#32
  let c0_33 : Index := 0#32
  ![0, 0, v70.toNat, 0, 0]
@[reducible] def k0_t2_loop (i : grid0.Coords) : Scf.Loop 32 :=
  let c0_i32 : BitVec 32 := 0#32
  let arg2 : BitVec 32 := BitVec.ofNat 32 (i 2).val
  let v5 : BitVec 32 := Scalar.subi arg2 c0_i32
  let c1_i32 : BitVec 32 := 1#32
  let v7 : BitVec 32 := Scalar.divsi v5 c1_i32
  let v8 : BitVec 32 := Scalar.muli v7 c1_i32
  let v9 : BitVec 32 := Scalar.addi c0_i32 v8
  let v6 : BitVec 32 := Scalar.addi c0_i32 v5
  let c1_i32_5 : BitVec 32 := 1#32
  ⟨v9, v6, c1_i32_5⟩
def k0_mult2 (i : grid0.Coords) (k0_t2 : Fin (k0_t2_loop i).trips) : BitVec 32 :=
  let c0_i32 : BitVec 32 := 0#32
  let arg2 : BitVec 32 := BitVec.ofNat 32 (i 2).val
  let v5 : BitVec 32 := Scalar.subi arg2 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_5 : BitVec 32 := 1#32
  let arg8 : BitVec 32 := Scf.iv v9 c1_i32_5 k0_t2
  let c512_i32_25 : BitVec 32 := 512#32
  let v62 : BitVec 32 := Scalar.muli arg8 c512_i32_25
  v62
def k0_off3 (i : grid0.Coords) (k0_t2 : Fin (k0_t2_loop i).trips) : Fin 3 → Nat :=
  let c0_26 : Index := 0#32
  let c0_i32 : BitVec 32 := 0#32
  let arg2 : BitVec 32 := BitVec.ofNat 32 (i 2).val
  let v5 : BitVec 32 := Scalar.subi arg2 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_5 : BitVec 32 := 1#32
  let arg8 : BitVec 32 := Scf.iv v9 c1_i32_5 k0_t2
  let c512_i32_25 : BitVec 32 := 512#32
  let v62 : BitVec 32 := Scalar.muli arg8 c512_i32_25
  let v63 : BitVec 32 := v62
  let v64 : Index := Scalar.indexCast v63
  let c0_27 : Index := 0#32
  ![0, v64.toNat, 0]
def k0_off4 (i : grid0.Coords) (k0_t2 : Fin (k0_t2_loop i).trips) : Fin 5 → Nat :=
  let c0_30 : Index := 0#32
  let c0_31 : Index := 0#32
  let c0_i32 : BitVec 32 := 0#32
  let arg2 : BitVec 32 := BitVec.ofNat 32 (i 2).val
  let v5 : BitVec 32 := Scalar.subi arg2 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_5 : BitVec 32 := 1#32
  let arg8 : BitVec 32 := Scf.iv v9 c1_i32_5 k0_t2
  let v70 : Index := Scalar.indexCast arg8
  let c0_32 : Index := 0#32
  let c0_33 : Index := 0#32
  ![0, 0, v70.toNat, 0, 0]
def k0_mult3 (i : grid0.Coords) : BitVec 32 :=
  let arg2 : BitVec 32 := BitVec.ofNat 32 (i 2).val
  let c512_i32 : BitVec 32 := 512#32
  let v12 : BitVec 32 := Scalar.muli arg2 c512_i32
  v12
def k0_off5 (i : grid0.Coords) : Fin 3 → Nat :=
  let c0_6 : Index := 0#32
  let arg2 : BitVec 32 := BitVec.ofNat 32 (i 2).val
  let c512_i32 : BitVec 32 := 512#32
  let v12 : BitVec 32 := Scalar.muli arg2 c512_i32
  let v13 : BitVec 32 := v12
  let v14 : Index := Scalar.indexCast v13
  let c0_7 : Index := 0#32
  ![0, v14.toNat, 0]
def k0_off6 (i : grid0.Coords) : Fin 5 → Nat :=
  let c0_10 : Index := 0#32
  let c0_11 : Index := 0#32
  let arg2 : BitVec 32 := BitVec.ofNat 32 (i 2).val
  let v20 : Index := Scalar.indexCast arg2
  let c0_12 : Index := 0#32
  let c0_13 : Index := 0#32
  ![0, 0, v20.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c56_i32 : BitVec 32 := 56#32
  let v0 : BitVec 32 := Scalar.addi c56_i32 arg1
  let c0_i32 : BitVec 32 := 0#32
  let c0_i32_0 : BitVec 32 := 0#32
  ![arg0.toNat, c0_i32.toNat, v0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x2048x9728 : Shape := ⟨3, ![4, 2048, 9728]⟩
abbrev S4x16x2048 : Shape := ⟨3, ![4, 16, 2048]⟩
abbrev S4x2048x2048 : Shape := ⟨3, ![4, 2048, 2048]⟩
abbrev S4x2048x16x128 : Shape := ⟨4, ![4, 2048, 16, 128]⟩
abbrev S4x16x2048x2048 : Shape := ⟨4, ![4, 16, 2048, 2048]⟩
abbrev S_ : Shape := ⟨0, ![]⟩
abbrev S4x16x2048x1 : Shape := ⟨4, ![4, 16, 2048, 1]⟩
abbrev S4x16x1x2048 : Shape := ⟨4, ![4, 16, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x16x128x2048 : Shape := ⟨4, ![4, 16, 128, 2048]⟩

abbrev nBuf : Space → Nat
  | .hbm => 50
  | .vmem => 0
  | .smem => 0
  | _ => 0

abbrev bufTy : (tb : Table) → Fin (tcTables nBuf tb) → BufTy
  | .hbm, ⟨0, _⟩ => ⟨S4x2048x9728, .bf16⟩
  | .hbm, ⟨1, _⟩ => ⟨S4x16x2048, .f32⟩
  | .hbm, ⟨2, _⟩ => ⟨S4x2048x2048, .bf16⟩
  | .hbm, ⟨3, _⟩ => ⟨S4x2048x2048, .f32⟩
  | .hbm, ⟨4, _⟩ => ⟨S4x2048x16x128, .f32⟩
  | .hbm, ⟨5, _⟩ => ⟨S4x2048x2048, .bf16⟩
  | .hbm, ⟨6, _⟩ => ⟨S4x2048x2048, .f32⟩
  | .hbm, ⟨7, _⟩ => ⟨S4x2048x16x128, .f32⟩
  | .hbm, ⟨8, _⟩ => ⟨S4x2048x2048, .bf16⟩
  | .hbm, ⟨9, _⟩ => ⟨S4x2048x2048, .f32⟩
  | .hbm, ⟨10, _⟩ => ⟨S4x2048x16x128, .f32⟩
  | .hbm, ⟨11, _⟩ => ⟨S4x16x2048x2048, .f32⟩
  | .hbm, ⟨12, _⟩ => ⟨S_, .f32⟩
  | .hbm, ⟨13, _⟩ => ⟨S4x16x2048x2048, .f32⟩
  | .hbm, ⟨14, _⟩ => ⟨S4x16x2048x2048, .f32⟩
  | .hbm, ⟨15, _⟩ => ⟨S4x16x2048x1, .f32⟩
  | .hbm, ⟨16, _⟩ => ⟨S4x16x2048x2048, .f32⟩
  | .hbm, ⟨17, _⟩ => ⟨S4x16x2048x2048, .f32⟩
  | .hbm, ⟨18, _⟩ => ⟨S4x16x1x2048, .f32⟩
  | .hbm, ⟨19, _⟩ => ⟨S4x16x2048x2048, .f32⟩
  | .hbm, ⟨20, _⟩ => ⟨S4x16x2048x2048, .f32⟩
  | .hbm, ⟨21, _⟩ => ⟨S2048, .i32⟩
  | .hbm, ⟨22, _⟩ => ⟨S1x2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S4x16x2048x2048, .i1⟩
  | .hbm, ⟨30, _⟩ => ⟨S4x16x2048x2048, .f32⟩
  | .hbm, ⟨31, _⟩ => ⟨S4x16x2048x2048, .f32⟩
  | .hbm, ⟨32, _⟩ => ⟨S_, .f32⟩
  | .hbm, ⟨33, _⟩ => ⟨S4x16x2048, .f32⟩
  | .hbm, ⟨34, _⟩ => ⟨S_, .f32⟩
  | .hbm, ⟨35, _⟩ => ⟨S4x16x2048, .f32⟩
  | .hbm, ⟨36, _⟩ => ⟨S4x16x2048, .f32⟩
  | .hbm, ⟨37, _⟩ => ⟨S4x16x2048x1, .f32⟩
  | .hbm, ⟨38, _⟩ => ⟨S4x16x2048x2048, .f32⟩
  | .hbm, ⟨39, _⟩ => ⟨S4x16x2048x2048, .f32⟩
  | .hbm, ⟨40, _⟩ => ⟨S4x16x2048x2048, .f32⟩
  | .hbm, ⟨41, _⟩ => ⟨S_, .f32⟩
  | .hbm, ⟨42, _⟩ => ⟨S4x16x2048, .f32⟩
  | .hbm, ⟨43, _⟩ => ⟨S4x16x2048x1, .f32⟩
  | .hbm, ⟨44, _⟩ => ⟨S4x16x2048x2048, .f32⟩
  | .hbm, ⟨45, _⟩ => ⟨S4x16x2048x2048, .f32⟩
  | .hbm, ⟨46, _⟩ => ⟨S4x16x128x2048, .f32⟩
  | .hbm, ⟨47, _⟩ => ⟨S4x2048x16x128, .f32⟩
  | .hbm, ⟨48, _⟩ => ⟨S4x2048x2048, .f32⟩
  | .hbm, ⟨49, _⟩ => ⟨S4x2048x2048, .bf16⟩
  | _, _ => ⟨S4x2048x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Kernel2.lean ====
abbrev S4x2048x2048 : Shape := ⟨3, ![4, 2048, 2048]⟩
abbrev S2048 : Shape := ⟨1, ![2048]⟩
abbrev S2048x9728 : Shape := ⟨2, ![2048, 9728]⟩
abbrev S8192x2048 : Shape := ⟨2, ![8192, 2048]⟩
abbrev S1x2048 : Shape := ⟨2, ![1, 2048]⟩
abbrev S8192x9728 : Shape := ⟨2, ![8192, 9728]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x9728, .bf16⟩
  | .hbm, ⟨3, _⟩ => ⟨S8192x2048, .f32⟩
  | .hbm, ⟨4, _⟩ => ⟨S1x2048, .f32⟩
  | .hbm, ⟨5, _⟩ => ⟨S8192x9728, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 19], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x2048x2048 : Shape := ⟨3, ![4, 2048, 2048]⟩
abbrev S2048 : Shape := ⟨1, ![2048]⟩
abbrev S2048x9728 : Shape := ⟨2, ![2048, 9728]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x9728 : Shape := ⟨3, ![4, 2048, 9728]⟩
abbrev S8192x9728 : Shape := ⟨2, ![8192, 9728]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x9728, .bf16⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | .hbm, ⟨19, _⟩ => ⟨S2048x9728, .f32⟩
  | .hbm, ⟨20, _⟩ => ⟨S4x2048x9728, .f32⟩
  | .hbm, ⟨21, _⟩ => ⟨S8192x9728, .f32⟩
  | .hbm, ⟨22, _⟩ => ⟨S8192x9728, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel3.lean ====
abbrev S4x2048x2048 : Shape := ⟨3, ![4, 2048, 2048]⟩
abbrev S8192x4608 : Shape := ⟨2, ![8192, 4608]⟩
abbrev S1024x1024 : Shape := ⟨2, ![1024, 1024]⟩
abbrev S8192x2048 : Shape := ⟨2, ![8192, 2048]⟩
abbrev S2560x2048 : Shape := ⟨2, ![2560, 2048]⟩
abbrev S2048 : Shape := ⟨1, ![2048]⟩
abbrev S1x2048 : Shape := ⟨2, ![1, 2048]⟩
abbrev S256x2048 : Shape := ⟨2, ![256, 2048]⟩
abbrev S256x512 : Shape := ⟨2, ![256, 512]⟩
abbrev S256x1024 : Shape := ⟨2, ![256, 1024]⟩
abbrev S256x2560 : Shape := ⟨2, ![256, 2560]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 10
  | .vmem => 17
  | .smem => 0
  | _ => 0

abbrev bufTy : (tb : Table) → Fin (tcTables nBuf tb) → BufTy
  | .hbm, ⟨0, _⟩ => ⟨S4x2048x2048, .bf16⟩
  | .hbm, ⟨1, _⟩ => ⟨S8192x4608, .bf16⟩
  | .hbm, ⟨2, _⟩ => ⟨S1024x1024, .bf16⟩
  | .hbm, ⟨3, _⟩ => ⟨S8192x2048, .f32⟩
  | .hbm, ⟨4, _⟩ => ⟨S2560x2048, .f32⟩
  | .hbm, ⟨5, _⟩ => ⟨S2048, .f32⟩
  | .hbm, ⟨6, _⟩ => ⟨S8192x2048, .bf16⟩
  | .hbm, ⟨7, _⟩ => ⟨S2560x2048, .bf16⟩
  | .hbm, ⟨8, _⟩ => ⟨S1x2048, .f32⟩
  | .hbm, ⟨9, _⟩ => ⟨S8192x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x1024, .bf16⟩
  | .local _ .vmem, ⟨9, _⟩ => ⟨S256x1024, .bf16⟩
  | .local _ .vmem, ⟨10, _⟩ => ⟨S256x2048, .f32⟩
  | .local _ .vmem, ⟨11, _⟩ => ⟨S256x2048, .f32⟩
  | .local _ .vmem, ⟨12, _⟩ => ⟨S2560x2048, .bf16⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2560, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2560x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S4x2048x2048 : Shape := ⟨3, ![4, 2048, 2048]⟩
abbrev S8192x4608 : Shape := ⟨2, ![8192, 4608]⟩
abbrev S1024x1024 : Shape := ⟨2, ![1024, 1024]⟩
abbrev S8192x2048 : Shape := ⟨2, ![8192, 2048]⟩
abbrev S2560x2048 : Shape := ⟨2, ![2560, 2048]⟩
abbrev S2048 : Shape := ⟨1, ![2048]⟩
abbrev S4x2048x4608 : Shape := ⟨3, ![4, 2048, 4608]⟩
abbrev S4x256x2x4x128 : Shape := ⟨5, ![4, 256, 2, 4, 128]⟩
abbrev S4x2048x2560 : Shape := ⟨3, ![4, 2048, 2560]⟩
abbrev S4x2048x512 : Shape := ⟨3, ![4, 2048, 512]⟩
abbrev S4x2048x4x128 : Shape := ⟨4, ![4, 2048, 4, 128]⟩
abbrev S4x256x1x4x128 : Shape := ⟨5, ![4, 256, 1, 4, 128]⟩
abbrev S4x256x4x128 : Shape := ⟨4, ![4, 256, 4, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 69
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S8192x4608, .bf16⟩
  | .hbm, ⟨2, _⟩ => ⟨S1024x1024, .bf16⟩
  | .hbm, ⟨3, _⟩ => ⟨S8192x2048, .f32⟩
  | .hbm, ⟨4, _⟩ => ⟨S2560x2048, .f32⟩
  | .hbm, ⟨5, _⟩ => ⟨S2048, .f32⟩
  | .hbm, ⟨6, _⟩ => ⟨S8192x4608, .f32⟩
  | .hbm, ⟨7, _⟩ => ⟨S4x2048x4608, .f32⟩
  | .hbm, ⟨8, _⟩ => ⟨S1024x1024, .f32⟩
  | .hbm, ⟨9, _⟩ => ⟨S4x256x2x4x128, .f32⟩
  | .hbm, ⟨10, _⟩ => ⟨S4x2048x2560, .f32⟩
  | .hbm, ⟨11, _⟩ => ⟨S4x2048x512, .f32⟩
  | .hbm, ⟨12, _⟩ => ⟨S4x2048x4x128, .f32⟩
  | .hbm, ⟨13, _⟩ => ⟨S4x256x1x4x128, .f32⟩
  | .hbm, ⟨14, _⟩ => ⟨S4x256x4x128, .f32⟩
  | .hbm, ⟨15, _⟩ => ⟨S4x4x2048x256, .f32⟩
  | .hbm, ⟨16, _⟩ => ⟨S_, .f32⟩
  | .hbm, ⟨17, _⟩ => ⟨S4x4x2048x256, .f32⟩
  | .hbm, ⟨18, _⟩ => ⟨S4x4x2048x256, .f32⟩
  | .hbm, ⟨19, _⟩ => ⟨S_, .f32⟩
  | .hbm, ⟨20, _⟩ => ⟨S4x4x2048, .f32⟩
  | .hbm, ⟨21, _⟩ => ⟨S_, .f32⟩
  | .hbm, ⟨22, _⟩ => ⟨S4x4x2048, .f32⟩
  | .hbm, ⟨23, _⟩ => ⟨S4x4x2048, .f32⟩
  | .hbm, ⟨24, _⟩ => ⟨S4x4x2048x1, .f32⟩
  | .hbm, ⟨25, _⟩ => ⟨S4x4x2048x256, .f32⟩
  | .hbm, ⟨26, _⟩ => ⟨S4x4x2048x256, .f32⟩
  | .hbm, ⟨27, _⟩ => ⟨S4x4x2048x256, .f32⟩
  | .hbm, ⟨28, _⟩ => ⟨S_, .f32⟩
  | .hbm, ⟨29, _⟩ => ⟨S4x4x2048, .f32⟩
  | .hbm, ⟨30, _⟩ => ⟨S4x4x2048x1, .f32⟩
  | .hbm, ⟨31, _⟩ => ⟨S4x4x2048x256, .f32⟩
  | .hbm, ⟨32, _⟩ => ⟨S4x4x2048x256, .f32⟩
  | .hbm, ⟨33, _⟩ => ⟨S4x256x1x4x128, .f32⟩
  | .hbm, ⟨34, _⟩ => ⟨S4x256x4x128, .f32⟩
  | .hbm, ⟨35, _⟩ => ⟨S4x4x128x2048, .f32⟩
  | .hbm, ⟨36, _⟩ => ⟨S4x2048x4x128, .f32⟩
  | .hbm, ⟨37, _⟩ => ⟨S4x2048x2048, .f32⟩
  | .hbm, ⟨38, _⟩ => ⟨S4x2048x512, .f32⟩
  | .hbm, ⟨39, _⟩ => ⟨S4x2048x2560, .f32⟩
  | .hbm, ⟨40, _⟩ => ⟨S4x2048x2560, .f32⟩
  | .hbm, ⟨41, _⟩ => ⟨S4x2048x2560, .f32⟩
  | .hbm, ⟨42, _⟩ => ⟨S_, .f32⟩
  | .hbm, ⟨43, _⟩ => ⟨S4x2048x2560, .f32⟩
  | .hbm, ⟨44, _⟩ => ⟨S4x2048x2560, .f32⟩
  | .hbm, ⟨45, _⟩ => ⟨S_, .f32⟩
  | .hbm, ⟨46, _⟩ => ⟨S4x2048x2560, .f32⟩
  | .hbm, ⟨47, _⟩ => ⟨S4x2048x2560, .f32⟩
  | .hbm, ⟨48, _⟩ => ⟨S4x2048x2560, .f32⟩
  | .hbm, ⟨49, _⟩ => ⟨S4x2048x2560, .f32⟩
  | .hbm, ⟨50, _⟩ => ⟨S4x2048x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S8192x2048, .f32⟩
  | .hbm, ⟨65, _⟩ => ⟨S8192x2048, .f32⟩
  | .hbm, ⟨66, _⟩ => ⟨S1x2048, .f32⟩
  | .hbm, ⟨67, _⟩ => ⟨S8192x2048, .f32⟩
  | .hbm, ⟨68, _⟩ => ⟨S8192x2048, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]
-- ==== Kernel4.lean ====
abbrev S8192x2048 : Shape := ⟨2, ![8192, 2048]⟩
abbrev S2048 : Shape := ⟨1, ![2048]⟩
abbrev S2048x6656 : Shape := ⟨2, ![2048, 6656]⟩
abbrev S1x2048 : Shape := ⟨2, ![1, 2048]⟩
abbrev S8192x6656 : Shape := ⟨2, ![8192, 6656]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6656, .bf16⟩
  | .hbm, ⟨3, _⟩ => ⟨S1x2048, .f32⟩
  | .hbm, ⟨4, _⟩ => ⟨S8192x6656, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel4Ideal.lean ====
abbrev S8192x2048 : Shape := ⟨2, ![8192, 2048]⟩
abbrev S2048 : Shape := ⟨1, ![2048]⟩
abbrev S2048x6656 : Shape := ⟨2, ![2048, 6656]⟩
abbrev S1x2048 : Shape := ⟨2, ![1, 2048]⟩
abbrev S8192x6656 : Shape := ⟨2, ![8192, 6656]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6656, .bf16⟩
  | .hbm, ⟨3, _⟩ => ⟨S1x2048, .f32⟩
  | .hbm, ⟨4, _⟩ => ⟨S8192x6656, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x2048 : Shape := ⟨2, ![8192, 2048]⟩
abbrev S2048 : Shape := ⟨1, ![2048]⟩
abbrev S2048x6656 : Shape := ⟨2, ![2048, 6656]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x6656 : Shape := ⟨2, ![8192, 6656]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6656, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2048x6656, .f32⟩
  | .hbm, ⟨20, _⟩ => ⟨S8192x6656, .f32⟩
  | .hbm, ⟨21, _⟩ => ⟨S8192x6656, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel5.lean ====
abbrev S8192x2048 : Shape := ⟨2, ![8192, 2048]⟩
abbrev S2048 : Shape := ⟨1, ![2048]⟩
abbrev S2048x9216 : Shape := ⟨2, ![2048, 9216]⟩
abbrev S1x2048 : Shape := ⟨2, ![1, 2048]⟩
abbrev S8192x9216 : Shape := ⟨2, ![8192, 9216]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x9216, .bf16⟩
  | .hbm, ⟨3, _⟩ => ⟨S1x2048, .f32⟩
  | .hbm, ⟨4, _⟩ => ⟨S8192x9216, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel5Ideal.lean ====
abbrev S8192x2048 : Shape := ⟨2, ![8192, 2048]⟩
abbrev S2048 : Shape := ⟨1, ![2048]⟩
abbrev S2048x9216 : Shape := ⟨2, ![2048, 9216]⟩
abbrev S1x2048 : Shape := ⟨2, ![1, 2048]⟩
abbrev S8192x9216 : Shape := ⟨2, ![8192, 9216]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x9216, .bf16⟩
  | .hbm, ⟨3, _⟩ => ⟨S1x2048, .f32⟩
  | .hbm, ⟨4, _⟩ => ⟨S8192x9216, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8192x2048 : Shape := ⟨2, ![8192, 2048]⟩
abbrev S2048 : Shape := ⟨1, ![2048]⟩
abbrev S2048x9216 : Shape := ⟨2, ![2048, 9216]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x9216 : Shape := ⟨2, ![8192, 9216]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x9216, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2048x9216, .f32⟩
  | .hbm, ⟨20, _⟩ => ⟨S8192x9216, .f32⟩
  | .hbm, ⟨21, _⟩ => ⟨S8192x9216, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel6.lean ====
abbrev S8192x2048 : Shape := ⟨2, ![8192, 2048]⟩
abbrev S2048 : Shape := ⟨1, ![2048]⟩
abbrev S2048x4608 : Shape := ⟨2, ![2048, 4608]⟩
abbrev S1x2048 : Shape := ⟨2, ![1, 2048]⟩
abbrev S8192x4608 : Shape := ⟨2, ![8192, 4608]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4608, .bf16⟩
  | .hbm, ⟨3, _⟩ => ⟨S1x2048, .f32⟩
  | .hbm, ⟨4, _⟩ => ⟨S8192x4608, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel6Ideal.lean ====
abbrev S8192x2048 : Shape := ⟨2, ![8192, 2048]⟩
abbrev S2048 : Shape := ⟨1, ![2048]⟩
abbrev S2048x4608 : Shape := ⟨2, ![2048, 4608]⟩
abbrev S1x2048 : Shape := ⟨2, ![1, 2048]⟩
abbrev S8192x4608 : Shape := ⟨2, ![8192, 4608]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4608, .bf16⟩
  | .hbm, ⟨3, _⟩ => ⟨S1x2048, .f32⟩
  | .hbm, ⟨4, _⟩ => ⟨S8192x4608, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8192x2048 : Shape := ⟨2, ![8192, 2048]⟩
abbrev S2048 : Shape := ⟨1, ![2048]⟩
abbrev S2048x4608 : Shape := ⟨2, ![2048, 4608]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x4608 : Shape := ⟨2, ![8192, 4608]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4608, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2048x4608, .f32⟩
  | .hbm, ⟨20, _⟩ => ⟨S8192x4608, .f32⟩
  | .hbm, ⟨21, _⟩ => ⟨S8192x4608, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel7.lean ====
abbrev S1024x2048 : Shape := ⟨2, ![1024, 2048]⟩
abbrev S2048 : Shape := ⟨1, ![2048]⟩
abbrev S2048x1024 : Shape := ⟨2, ![2048, 1024]⟩
abbrev S1x2048 : Shape := ⟨2, ![1, 2048]⟩
abbrev S1024x1024 : Shape := ⟨2, ![1024, 1024]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2048x1024, .bf16⟩
  | .hbm, ⟨3, _⟩ => ⟨S1x2048, .f32⟩
  | .hbm, ⟨4, _⟩ => ⟨S1024x1024, .bf16⟩
  | .local _ .vmem, ⟨0, _⟩ => ⟨S1024x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S1024x2048 : Shape := ⟨2, ![1024, 2048]⟩
abbrev S2048 : Shape := ⟨1, ![2048]⟩
abbrev S2048x1024 : Shape := ⟨2, ![2048, 1024]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S1024x1024 : Shape := ⟨2, ![1024, 1024]⟩

abbrev nBuf : Space → Nat
  | .hbm => 22
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2048x1024, .bf16⟩
  | .hbm, ⟨3, _⟩ => ⟨S1024x2048, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x2048, .f32⟩
  | .hbm, ⟨15, _⟩ => ⟨S1024x2048, .f32⟩
  | .hbm, ⟨16, _⟩ => ⟨S1x2048, .f32⟩
  | .hbm, ⟨17, _⟩ => ⟨S1024x2048, .f32⟩
  | .hbm, ⟨18, _⟩ => ⟨S1024x2048, .f32⟩
  | .hbm, ⟨19, _⟩ => ⟨S2048x1024, .f32⟩
  | .hbm, ⟨20, _⟩ => ⟨S1024x1024, .f32⟩
  | .hbm, ⟨21, _⟩ => ⟨S1024x1024, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel8.lean ====
abbrev S4x2048x2048 : Shape := ⟨3, ![4, 2048, 2048]⟩
abbrev S8192x9728 : Shape := ⟨2, ![8192, 9728]⟩
abbrev S1024x1024 : Shape := ⟨2, ![1024, 1024]⟩
abbrev S8192x2048 : Shape := ⟨2, ![8192, 2048]⟩
abbrev S2560x2048 : Shape := ⟨2, ![2560, 2048]⟩
abbrev S256x2048 : Shape := ⟨2, ![256, 2048]⟩
abbrev S256x512 : Shape := ⟨2, ![256, 512]⟩
abbrev S256x1024 : Shape := ⟨2, ![256, 1024]⟩
abbrev S256x2560 : Shape := ⟨2, ![256, 2560]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x2048, .bf16⟩
  | .hbm, ⟨1, _⟩ => ⟨S8192x9728, .bf16⟩
  | .hbm, ⟨2, _⟩ => ⟨S1024x1024, .bf16⟩
  | .hbm, ⟨3, _⟩ => ⟨S8192x2048, .f32⟩
  | .hbm, ⟨4, _⟩ => ⟨S2560x2048, .f32⟩
  | .hbm, ⟨5, _⟩ => ⟨S8192x2048, .bf16⟩
  | .hbm, ⟨6, _⟩ => ⟨S2560x2048, .bf16⟩
  | .hbm, ⟨7, _⟩ => ⟨S8192x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x1024, .bf16⟩
  | .local _ .vmem, ⟨9, _⟩ => ⟨S256x1024, .bf16⟩
  | .local _ .vmem, ⟨10, _⟩ => ⟨S256x2048, .f32⟩
  | .local _ .vmem, ⟨11, _⟩ => ⟨S256x2048, .f32⟩
  | .local _ .vmem, ⟨12, _⟩ => ⟨S2560x2048, .bf16⟩
  | .local _ .vmem, ⟨13, _⟩ => ⟨S256x2048, .f32⟩
  | .local _ .vmem, ⟨14, _⟩ => ⟨S256x2048, .f32⟩
  | .local _ .vmem, ⟨15, _⟩ => ⟨S256x2560, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2560x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S4x2048x2048 : Shape := ⟨3, ![4, 2048, 2048]⟩
abbrev S8192x9728 : Shape := ⟨2, ![8192, 9728]⟩
abbrev S1024x1024 : Shape := ⟨2, ![1024, 1024]⟩
abbrev S8192x2048 : Shape := ⟨2, ![8192, 2048]⟩
abbrev S2560x2048 : Shape := ⟨2, ![2560, 2048]⟩
abbrev S4x2048x9728 : Shape := ⟨3, ![4, 2048, 9728]⟩
abbrev S4x2048x2560 : Shape := ⟨3, ![4, 2048, 2560]⟩
abbrev S4x2048x512 : Shape := ⟨3, ![4, 2048, 512]⟩
abbrev S4x256x2x4x128 : Shape := ⟨5, ![4, 256, 2, 4, 128]⟩
abbrev S4x2048x4x128 : Shape := ⟨4, ![4, 2048, 4, 128]⟩
abbrev S4x256x1x4x128 : Shape := ⟨5, ![4, 256, 1, 4, 128]⟩
abbrev S4x256x4x128 : Shape := ⟨4, ![4, 256, 4, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S8192x9728, .bf16⟩
  | .hbm, ⟨2, _⟩ => ⟨S1024x1024, .bf16⟩
  | .hbm, ⟨3, _⟩ => ⟨S8192x2048, .f32⟩
  | .hbm, ⟨4, _⟩ => ⟨S2560x2048, .f32⟩
  | .hbm, ⟨5, _⟩ => ⟨S8192x9728, .f32⟩
  | .hbm, ⟨6, _⟩ => ⟨S4x2048x9728, .f32⟩
  | .hbm, ⟨7, _⟩ => ⟨S4x2048x2560, .f32⟩
  | .hbm, ⟨8, _⟩ => ⟨S4x2048x512, .f32⟩
  | .hbm, ⟨9, _⟩ => ⟨S1024x1024, .f32⟩
  | .hbm, ⟨10, _⟩ => ⟨S4x256x2x4x128, .f32⟩
  | .hbm, ⟨11, _⟩ => ⟨S4x2048x4x128, .f32⟩
  | .hbm, ⟨12, _⟩ => ⟨S4x256x1x4x128, .f32⟩
  | .hbm, ⟨13, _⟩ => ⟨S4x256x4x128, .f32⟩
  | .hbm, ⟨14, _⟩ => ⟨S4x4x2048x256, .f32⟩
  | .hbm, ⟨15, _⟩ => ⟨S_, .f32⟩
  | .hbm, ⟨16, _⟩ => ⟨S4x4x2048x256, .f32⟩
  | .hbm, ⟨17, _⟩ => ⟨S4x4x2048x256, .f32⟩
  | .hbm, ⟨18, _⟩ => ⟨S_, .f32⟩
  | .hbm, ⟨19, _⟩ => ⟨S4x4x2048, .f32⟩
  | .hbm, ⟨20, _⟩ => ⟨S_, .f32⟩
  | .hbm, ⟨21, _⟩ => ⟨S4x4x2048, .f32⟩
  | .hbm, ⟨22, _⟩ => ⟨S4x4x2048, .f32⟩
  | .hbm, ⟨23, _⟩ => ⟨S4x4x2048x1, .f32⟩
  | .hbm, ⟨24, _⟩ => ⟨S4x4x2048x256, .f32⟩
  | .hbm, ⟨25, _⟩ => ⟨S4x4x2048x256, .f32⟩
  | .hbm, ⟨26, _⟩ => ⟨S4x4x2048x256, .f32⟩
  | .hbm, ⟨27, _⟩ => ⟨S_, .f32⟩
  | .hbm, ⟨28, _⟩ => ⟨S4x4x2048, .f32⟩
  | .hbm, ⟨29, _⟩ => ⟨S4x4x2048x1, .f32⟩
  | .hbm, ⟨30, _⟩ => ⟨S4x4x2048x256, .f32⟩
  | .hbm, ⟨31, _⟩ => ⟨S4x4x2048x256, .f32⟩
  | .hbm, ⟨32, _⟩ => ⟨S4x256x1x4x128, .f32⟩
  | .hbm, ⟨33, _⟩ => ⟨S4x256x4x128, .f32⟩
  | .hbm, ⟨34, _⟩ => ⟨S4x4x128x2048, .f32⟩
  | .hbm, ⟨35, _⟩ => ⟨S4x2048x4x128, .f32⟩
  | .hbm, ⟨36, _⟩ => ⟨S4x2048x2048, .f32⟩
  | .hbm, ⟨37, _⟩ => ⟨S4x2048x512, .f32⟩
  | .hbm, ⟨38, _⟩ => ⟨S4x2048x2560, .f32⟩
  | .hbm, ⟨39, _⟩ => ⟨S4x2048x2560, .f32⟩
  | .hbm, ⟨40, _⟩ => ⟨S4x2048x2560, .f32⟩
  | .hbm, ⟨41, _⟩ => ⟨S_, .f32⟩
  | .hbm, ⟨42, _⟩ => ⟨S4x2048x2560, .f32⟩
  | .hbm, ⟨43, _⟩ => ⟨S4x2048x2560, .f32⟩
  | .hbm, ⟨44, _⟩ => ⟨S_, .f32⟩
  | .hbm, ⟨45, _⟩ => ⟨S4x2048x2560, .f32⟩
  | .hbm, ⟨46, _⟩ => ⟨S4x2048x2560, .f32⟩
  | .hbm, ⟨47, _⟩ => ⟨S4x2048x2560, .f32⟩
  | .hbm, ⟨48, _⟩ => ⟨S4x2048x2560, .f32⟩
  | .hbm, ⟨49, _⟩ => ⟨S4x2048x2048, .f32⟩
  | .hbm, ⟨50, _⟩ => ⟨S8192x2048, .f32⟩
  | .hbm, ⟨51, _⟩ => ⟨S8192x2048, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Kernel9.lean ====
abbrev S4x2048x2048 : Shape := ⟨3, ![4, 2048, 2048]⟩
abbrev S8192x6656 : Shape := ⟨2, ![8192, 6656]⟩
abbrev S1024x1024 : Shape := ⟨2, ![1024, 1024]⟩
abbrev S8192x2048 : Shape := ⟨2, ![8192, 2048]⟩
abbrev S2560x2048 : Shape := ⟨2, ![2560, 2048]⟩
abbrev S256x2048 : Shape := ⟨2, ![256, 2048]⟩
abbrev S256x512 : Shape := ⟨2, ![256, 512]⟩
abbrev S256x1024 : Shape := ⟨2, ![256, 1024]⟩
abbrev S256x2560 : Shape := ⟨2, ![256, 2560]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x2048, .bf16⟩
  | .hbm, ⟨1, _⟩ => ⟨S8192x6656, .bf16⟩
  | .hbm, ⟨2, _⟩ => ⟨S1024x1024, .bf16⟩
  | .hbm, ⟨3, _⟩ => ⟨S8192x2048, .f32⟩
  | .hbm, ⟨4, _⟩ => ⟨S2560x2048, .f32⟩
  | .hbm, ⟨5, _⟩ => ⟨S8192x2048, .bf16⟩
  | .hbm, ⟨6, _⟩ => ⟨S2560x2048, .bf16⟩
  | .hbm, ⟨7, _⟩ => ⟨S8192x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x1024, .bf16⟩
  | .local _ .vmem, ⟨9, _⟩ => ⟨S256x1024, .bf16⟩
  | .local _ .vmem, ⟨10, _⟩ => ⟨S256x2048, .f32⟩
  | .local _ .vmem, ⟨11, _⟩ => ⟨S256x2048, .f32⟩
  | .local _ .vmem, ⟨12, _⟩ => ⟨S2560x2048, .bf16⟩
  | .local _ .vmem, ⟨13, _⟩ => ⟨S256x2048, .f32⟩
  | .local _ .vmem, ⟨14, _⟩ => ⟨S256x2048, .f32⟩
  | .local _ .vmem, ⟨15, _⟩ => ⟨S256x2560, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_4 (i : grid0.Coords) : Fin 2 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2560x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S4x2048x2048 : Shape := ⟨3, ![4, 2048, 2048]⟩
abbrev S8192x6656 : Shape := ⟨2, ![8192, 6656]⟩
abbrev S1024x1024 : Shape := ⟨2, ![1024, 1024]⟩
abbrev S8192x2048 : Shape := ⟨2, ![8192, 2048]⟩
abbrev S2560x2048 : Shape := ⟨2, ![2560, 2048]⟩
abbrev S4x2048x6656 : Shape := ⟨3, ![4, 2048, 6656]⟩
abbrev S4x2048x512 : Shape := ⟨3, ![4, 2048, 512]⟩
abbrev S4x2048x2560 : Shape := ⟨3, ![4, 2048, 2560]⟩
abbrev S4x256x2x4x128 : Shape := ⟨5, ![4, 256, 2, 4, 128]⟩
abbrev S4x2048x4x128 : Shape := ⟨4, ![4, 2048, 4, 128]⟩
abbrev S4x256x1x4x128 : Shape := ⟨5, ![4, 256, 1, 4, 128]⟩
abbrev S4x256x4x128 : Shape := ⟨4, ![4, 256, 4, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩

abbrev nBuf : Space → Nat
  | .hbm => 54
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S8192x6656, .bf16⟩
  | .hbm, ⟨2, _⟩ => ⟨S1024x1024, .bf16⟩
  | .hbm, ⟨3, _⟩ => ⟨S8192x2048, .f32⟩
  | .hbm, ⟨4, _⟩ => ⟨S2560x2048, .f32⟩
  | .hbm, ⟨5, _⟩ => ⟨S8192x6656, .f32⟩
  | .hbm, ⟨6, _⟩ => ⟨S4x2048x6656, .f32⟩
  | .hbm, ⟨7, _⟩ => ⟨S4x2048x2048, .f32⟩
  | .hbm, ⟨8, _⟩ => ⟨S4x2048x512, .f32⟩
  | .hbm, ⟨9, _⟩ => ⟨S4x2048x2560, .f32⟩
  | .hbm, ⟨10, _⟩ => ⟨S4x2048x512, .f32⟩
  | .hbm, ⟨11, _⟩ => ⟨S1024x1024, .f32⟩
  | .hbm, ⟨12, _⟩ => ⟨S4x256x2x4x128, .f32⟩
  | .hbm, ⟨13, _⟩ => ⟨S4x2048x4x128, .f32⟩
  | .hbm, ⟨14, _⟩ => ⟨S4x256x1x4x128, .f32⟩
  | .hbm, ⟨15, _⟩ => ⟨S4x256x4x128, .f32⟩
  | .hbm, ⟨16, _⟩ => ⟨S4x4x2048x256, .f32⟩
  | .hbm, ⟨17, _⟩ => ⟨S_, .f32⟩
  | .hbm, ⟨18, _⟩ => ⟨S4x4x2048x256, .f32⟩
  | .hbm, ⟨19, _⟩ => ⟨S4x4x2048x256, .f32⟩
  | .hbm, ⟨20, _⟩ => ⟨S_, .f32⟩
  | .hbm, ⟨21, _⟩ => ⟨S4x4x2048, .f32⟩
  | .hbm, ⟨22, _⟩ => ⟨S_, .f32⟩
  | .hbm, ⟨23, _⟩ => ⟨S4x4x2048, .f32⟩
  | .hbm, ⟨24, _⟩ => ⟨S4x4x2048, .f32⟩
  | .hbm, ⟨25, _⟩ => ⟨S4x4x2048x1, .f32⟩
  | .hbm, ⟨26, _⟩ => ⟨S4x4x2048x256, .f32⟩
  | .hbm, ⟨27, _⟩ => ⟨S4x4x2048x256, .f32⟩
  | .hbm, ⟨28, _⟩ => ⟨S4x4x2048x256, .f32⟩
  | .hbm, ⟨29, _⟩ => ⟨S_, .f32⟩
  | .hbm, ⟨30, _⟩ => ⟨S4x4x2048, .f32⟩
  | .hbm, ⟨31, _⟩ => ⟨S4x4x2048x1, .f32⟩
  | .hbm, ⟨32, _⟩ => ⟨S4x4x2048x256, .f32⟩
  | .hbm, ⟨33, _⟩ => ⟨S4x4x2048x256, .f32⟩
  | .hbm, ⟨34, _⟩ => ⟨S4x256x1x4x128, .f32⟩
  | .hbm, ⟨35, _⟩ => ⟨S4x256x4x128, .f32⟩
  | .hbm, ⟨36, _⟩ => ⟨S4x4x128x2048, .f32⟩
  | .hbm, ⟨37, _⟩ => ⟨S4x2048x4x128, .f32⟩
  | .hbm, ⟨38, _⟩ => ⟨S4x2048x2048, .f32⟩
  | .hbm, ⟨39, _⟩ => ⟨S4x2048x512, .f32⟩
  | .hbm, ⟨40, _⟩ => ⟨S4x2048x2560, .f32⟩
  | .hbm, ⟨41, _⟩ => ⟨S4x2048x2560, .f32⟩
  | .hbm, ⟨42, _⟩ => ⟨S4x2048x2560, .f32⟩
  | .hbm, ⟨43, _⟩ => ⟨S_, .f32⟩
  | .hbm, ⟨44, _⟩ => ⟨S4x2048x2560, .f32⟩
  | .hbm, ⟨45, _⟩ => ⟨S4x2048x2560, .f32⟩
  | .hbm, ⟨46, _⟩ => ⟨S_, .f32⟩
  | .hbm, ⟨47, _⟩ => ⟨S4x2048x2560, .f32⟩
  | .hbm, ⟨48, _⟩ => ⟨S4x2048x2560, .f32⟩
  | .hbm, ⟨49, _⟩ => ⟨S4x2048x2560, .f32⟩
  | .hbm, ⟨50, _⟩ => ⟨S4x2048x2560, .f32⟩
  | .hbm, ⟨51, _⟩ => ⟨S4x2048x2048, .f32⟩
  | .hbm, ⟨52, _⟩ => ⟨S8192x2048, .f32⟩
  | .hbm, ⟨53, _⟩ => ⟨S8192x2048, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]
-- ==== Kernel10.lean ====
abbrev S4x2048x3072 : Shape := ⟨3, ![4, 2048, 3072]⟩
abbrev S4x2048x4096 : Shape := ⟨3, ![4, 2048, 4096]⟩
abbrev S4x2048x4608 : Shape := ⟨3, ![4, 2048, 4608]⟩
abbrev S4x2048x32 : Shape := ⟨3, ![4, 2048, 32]⟩
abbrev S4x2048x64 : Shape := ⟨3, ![4, 2048, 64]⟩
abbrev S4x2048x128 : Shape := ⟨3, ![4, 2048, 128]⟩
abbrev S4x2048x2048 : Shape := ⟨3, ![4, 2048, 2048]⟩
abbrev S1x512x256 : Shape := ⟨3, ![1, 512, 256]⟩
abbrev S1x512x128 : Shape := ⟨3, ![1, 512, 128]⟩
abbrev S1x2048x256 : Shape := ⟨3, ![1, 2048, 256]⟩
abbrev S1x2048x128 : Shape := ⟨3, ![1, 2048, 128]⟩
abbrev S2048x64 : Shape := ⟨2, ![2048, 64]⟩
abbrev S2048x128 : Shape := ⟨2, ![2048, 128]⟩
abbrev S512x128 : Shape := ⟨2, ![512, 128]⟩
abbrev S512x64 : Shape := ⟨2, ![512, 64]⟩
abbrev S512x1 : Shape := ⟨2, ![512, 1]⟩
abbrev S512x512 : Shape := ⟨2, ![512, 512]⟩
abbrev S512 : Shape := ⟨1, ![512]⟩

abbrev nBuf : Space → Nat
  | .hbm => 11
  | .vmem => 21
  | .smem => 0
  | _ => 0

abbrev bufTy : (tb : Table) → Fin (tcTables nBuf tb) → BufTy
  | .hbm, ⟨0, _⟩ => ⟨S4x2048x3072, .bf16⟩
  | .hbm, ⟨1, _⟩ => ⟨S4x2048x4096, .bf16⟩
  | .hbm, ⟨2, _⟩ => ⟨S4x2048x4608, .bf16⟩
  | .hbm, ⟨3, _⟩ => ⟨S4x2048x32, .f32⟩
  | .hbm, ⟨4, _⟩ => ⟨S4x2048x32, .f32⟩
  | .hbm, ⟨5, _⟩ => ⟨S4x2048x64, .f32⟩
  | .hbm, ⟨6, _⟩ => ⟨S4x2048x32, .f32⟩
  | .hbm, ⟨7, _⟩ => ⟨S4x2048x64, .f32⟩
  | .hbm, ⟨8, _⟩ => ⟨S4x2048x128, .f32⟩
  | .hbm, ⟨9, _⟩ => ⟨S4x2048x128, .f32⟩
  | .hbm, ⟨10, _⟩ => ⟨S4x2048x2048, .bf16⟩
  | .local _ .vmem, ⟨0, _⟩ => ⟨S1x512x256, .bf16⟩
  | .local _ .vmem, ⟨1, _⟩ => ⟨S1x512x256, .bf16⟩
  | .local _ .vmem, ⟨2, _⟩ => ⟨S1x512x128, .bf16⟩
  | .local _ .vmem, ⟨3, _⟩ => ⟨S1x512x128, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x2048x128, .f32⟩
  | .local _ .vmem, ⟨15, _⟩ => ⟨S1x2048x128, .f32⟩
  | .local _ .vmem, ⟨16, _⟩ => ⟨S1x2048x128, .f32⟩
  | .local _ .vmem, ⟨17, _⟩ => ⟨S1x2048x128, .f32⟩
  | .local _ .vmem, ⟨18, _⟩ => ⟨S1x512x256, .bf16⟩
  | .local _ .vmem, ⟨19, _⟩ => ⟨S1x512x256, .bf16⟩
  | .local _ .vmem, ⟨20, _⟩ => ⟨S2048x64, .bf16⟩
  | _, _ => ⟨S4x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 8, 4], ![false, false, false]⟩

@[reducible] def k0_t1_loop (i : grid0.Coords) : Scf.Loop 32 :=
  let c0_i32_29 : BitVec 32 := 0#32
  let arg2 : BitVec 32 := BitVec.ofNat 32 (i 2).val
  let v48 : BitVec 32 := Scalar.subi arg2 c0_i32_29
  let c1_i32 : BitVec 32 := 1#32
  let v50 : BitVec 32 := Scalar.divsi v48 c1_i32
  let v51 : BitVec 32 := Scalar.muli v50 c1_i32
  let v52 : BitVec 32 := Scalar.addi c0_i32_29 v51
  let c1_i32_30 : BitVec 32 := 1#32
  ⟨c0_i32_29, v52, c1_i32_30⟩
def k0_mult1 (i : grid0.Coords) (k0_t1 : Fin (k0_t1_loop i).trips) : BitVec 32 :=
  let c0_i32_29 : BitVec 32 := 0#32
  let c1_i32_30 : BitVec 32 := 1#32
  let arg14 : BitVec 32 := Scf.iv c0_i32_29 c1_i32_30 k0_t1
  let c512_i32_76 : BitVec 32 := 512#32
  let v166 : BitVec 32 := Scalar.muli arg14 c512_i32_76
  v166
def k0_off1 (i : grid0.Coords) (k0_t1 : Fin (k0_t1_loop i).trips) : Fin 3 → Nat :=
  let c0_77 : Index := 0#32
  let c0_i32_29 : BitVec 32 := 0#32
  let c1_i32_30 : BitVec 32 := 1#32
  let arg14 : BitVec 32 := Scf.iv c0_i32_29 c1_i32_30 k0_t1
  let c512_i32_76 : BitVec 32 := 512#32
  let v166 : BitVec 32 := Scalar.muli arg14 c512_i32_76
  let v167 : BitVec 32 := v166
  let v168 : Index := Scalar.indexCast v167
  let c0_78 : Index := 0#32
  ![0, v168.toNat, 0]
def k0_off2 (i : grid0.Coords) (k0_t1 : Fin (k0_t1_loop i).trips) : Fin 2 → Nat :=
  let c0_i32_29 : BitVec 32 := 0#32
  let c1_i32_30 : BitVec 32 := 1#32
  let arg14 : BitVec 32 := Scf.iv c0_i32_29 c1_i32_30 k0_t1
  let c512_i32_76 : BitVec 32 := 512#32
  let v166 : BitVec 32 := Scalar.muli arg14 c512_i32_76
  let v167 : BitVec 32 := v166
  let v172 : Index := Scalar.indexCast v167
  let c0_80 : Index := 0#32
  ![v172.toNat, 0]
@[reducible] def k0_t2_loop (i : grid0.Coords) : Scf.Loop 32 :=
  let c0_i32_29 : BitVec 32 := 0#32
  let arg2 : BitVec 32 := BitVec.ofNat 32 (i 2).val
  let v48 : BitVec 32 := Scalar.subi arg2 c0_i32_29
  let c1_i32 : BitVec 32 := 1#32
  let v50 : BitVec 32 := Scalar.divsi v48 c1_i32
  let v51 : BitVec 32 := Scalar.muli v50 c1_i32
  let v52 : BitVec 32 := Scalar.addi c0_i32_29 v51
  let v49 : BitVec 32 := Scalar.addi c0_i32_29 v48
  let c1_i32_31 : BitVec 32 := 1#32
  ⟨v52, v49, c1_i32_31⟩
def k0_mult2 (i : grid0.Coords) (k0_t2 : Fin (k0_t2_loop i).trips) : BitVec 32 :=
  let c0_i32_29 : BitVec 32 := 0#32
  let arg2 : BitVec 32 := BitVec.ofNat 32 (i 2).val
  let v48 : BitVec 32 := Scalar.subi arg2 c0_i32_29
  let c1_i32 : BitVec 32 := 1#32
  let v50 : BitVec 32 := Scalar.divsi v48 c1_i32
  let v51 : BitVec 32 := Scalar.muli v50 c1_i32
  let v52 : BitVec 32 := Scalar.addi c0_i32_29 v51
  let c1_i32_31 : BitVec 32 := 1#32
  let arg14 : BitVec 32 := Scf.iv v52 c1_i32_31 k0_t2
  let c512_i32_76 : BitVec 32 := 512#32
  let v166 : BitVec 32 := Scalar.muli arg14 c512_i32_76
  v166
def k0_off3 (i : grid0.Coords) (k0_t2 : Fin (k0_t2_loop i).trips) : Fin 3 → Nat :=
  let c0_77 : Index := 0#32
  let c0_i32_29 : BitVec 32 := 0#32
  let arg2 : BitVec 32 := BitVec.ofNat 32 (i 2).val
  let v48 : BitVec 32 := Scalar.subi arg2 c0_i32_29
  let c1_i32 : BitVec 32 := 1#32
  let v50 : BitVec 32 := Scalar.divsi v48 c1_i32
  let v51 : BitVec 32 := Scalar.muli v50 c1_i32
  let v52 : BitVec 32 := Scalar.addi c0_i32_29 v51
  let c1_i32_31 : BitVec 32 := 1#32
  let arg14 : BitVec 32 := Scf.iv v52 c1_i32_31 k0_t2
  let c512_i32_76 : BitVec 32 := 512#32
  let v166 : BitVec 32 := Scalar.muli arg14 c512_i32_76
  let v167 : BitVec 32 := v166
  let v168 : Index := Scalar.indexCast v167
  let c0_78 : Index := 0#32
  ![0, v168.toNat, 0]
def k0_off4 (i : grid0.Coords) (k0_t2 : Fin (k0_t2_loop i).trips) : Fin 2 → Nat :=
  let c0_i32_29 : BitVec 32 := 0#32
  let arg2 : BitVec 32 := BitVec.ofNat 32 (i 2).val
  let v48 : BitVec 32 := Scalar.subi arg2 c0_i32_29
  let c1_i32 : BitVec 32 := 1#32
  let v50 : BitVec 32 := Scalar.divsi v48 c1_i32
  let v51 : BitVec 32 := Scalar.muli v50 c1_i32
  let v52 : BitVec 32 := Scalar.addi c0_i32_29 v51
  let c1_i32_31 : BitVec 32 := 1#32
  let arg14 : BitVec 32 := Scf.iv v52 c1_i32_31 k0_t2
  let c512_i32_76 : BitVec 32 := 512#32
  let v166 : BitVec 32 := Scalar.muli arg14 c512_i32_76
  let v167 : BitVec 32 := v166
  let v172 : Index := Scalar.indexCast v167
  let c0_80 : Index := 0#32
  ![v172.toNat, 0]
def k0_mult3 (i : grid0.Coords) : BitVec 32 :=
  let arg2 : BitVec 32 := BitVec.ofNat 32 (i 2).val
  let c512_i32 : BitVec 32 := 512#32
  let v55 : BitVec 32 := Scalar.muli arg2 c512_i32
  v55
def k0_off5 (i : grid0.Coords) : Fin 3 → Nat :=
  let c0_32 : Index := 0#32
  let arg2 : BitVec 32 := BitVec.ofNat 32 (i 2).val
  let c512_i32 : BitVec 32 := 512#32
  let v55 : BitVec 32 := Scalar.muli arg2 c512_i32
  let v56 : BitVec 32 := v55
  let v57 : Index := Scalar.indexCast v56
  let c0_33 : Index := 0#32
  ![0, v57.toNat, 0]
def k0_off6 (i : grid0.Coords) : Fin 2 → Nat :=
  let arg2 : BitVec 32 := BitVec.ofNat 32 (i 2).val
  let c512_i32 : BitVec 32 := 512#32
  let v55 : BitVec 32 := Scalar.muli arg2 c512_i32
  let v56 : BitVec 32 := v55
  let v61 : Index := Scalar.indexCast v56
  let c0_35 : Index := 0#32
  ![v61.toNat, 0]
@[reducible] def k0_t3_loop (i : grid0.Coords) : Scf.Loop 32 :=
  let c0_i32_54 : BitVec 32 := 0#32
  let arg2 : BitVec 32 := BitVec.ofNat 32 (i 2).val
  let v110 : BitVec 32 := Scalar.subi arg2 c0_i32_54
  let c1_i32_55 : BitVec 32 := 1#32
  let v112 : BitVec 32 := Scalar.divsi v110 c1_i32_55
  let v113 : BitVec 32 := Scalar.muli v112 c1_i32_55
  let v114 : BitVec 32 := Scalar.addi c0_i32_54 v113
  let c1_i32_56 : BitVec 32 := 1#32
  ⟨c0_i32_54, v114, c1_i32_56⟩
def k0_mult4 (i : grid0.Coords) (k0_t3 : Fin (k0_t3_loop i).trips) : BitVec 32 :=
  let c0_i32_54 : BitVec 32 := 0#32
  let c1_i32_56 : BitVec 32 := 1#32
  let arg14 : BitVec 32 := Scf.iv c0_i32_54 c1_i32_56 k0_t3
  let c512_i32_76 : BitVec 32 := 512#32
  let v166 : BitVec 32 := Scalar.muli arg14 c512_i32_76
  v166
def k0_off7 (i : grid0.Coords) (k0_t3 : Fin (k0_t3_loop i).trips) : Fin 3 → Nat :=
  let c0_77 : Index := 0#32
  let c0_i32_54 : BitVec 32 := 0#32
  let c1_i32_56 : BitVec 32 := 1#32
  let arg14 : BitVec 32 := Scf.iv c0_i32_54 c1_i32_56 k0_t3
  let c512_i32_76 : BitVec 32 := 512#32
  let v166 : BitVec 32 := Scalar.muli arg14 c512_i32_76
  let v167 : BitVec 32 := v166
  let v168 : Index := Scalar.indexCast v167
  let c128_78 : Index := 128#32
  ![0, v168.toNat, 128]
def k0_off8 (i : grid0.Coords) (k0_t3 : Fin (k0_t3_loop i).trips) : Fin 2 → Nat :=
  let c0_i32_54 : BitVec 32 := 0#32
  let c1_i32_56 : BitVec 32 := 1#32
  let arg14 : BitVec 32 := Scf.iv c0_i32_54 c1_i32_56 k0_t3
  let c512_i32_76 : BitVec 32 := 512#32
  let v166 : BitVec 32 := Scalar.muli arg14 c512_i32_76
  let v167 : BitVec 32 := v166
  let v172 : Index := Scalar.indexCast v167
  let c0_80 : Index := 0#32
  ![v172.toNat, 0]
@[reducible] def k0_t4_loop (i : grid0.Coords) : Scf.Loop 32 :=
  let c0_i32_54 : BitVec 32 := 0#32
  let arg2 : BitVec 32 := BitVec.ofNat 32 (i 2).val
  let v110 : BitVec 32 := Scalar.subi arg2 c0_i32_54
  let c1_i32_55 : BitVec 32 := 1#32
  let v112 : BitVec 32 := Scalar.divsi v110 c1_i32_55
  let v113 : BitVec 32 := Scalar.muli v112 c1_i32_55
  let v114 : BitVec 32 := Scalar.addi c0_i32_54 v113
  let v111 : BitVec 32 := Scalar.addi c0_i32_54 v110
  let c1_i32_57 : BitVec 32 := 1#32
  ⟨v114, v111, c1_i32_57⟩
def k0_mult5 (i : grid0.Coords) (k0_t4 : Fin (k0_t4_loop i).trips) : BitVec 32 :=
  let c0_i32_54 : BitVec 32 := 0#32
  let arg2 : BitVec 32 := BitVec.ofNat 32 (i 2).val
  let v110 : BitVec 32 := Scalar.subi arg2 c0_i32_54
  let c1_i32_55 : BitVec 32 := 1#32
  let v112 : BitVec 32 := Scalar.divsi v110 c1_i32_55
  let v113 : BitVec 32 := Scalar.muli v112 c1_i32_55
  let v114 : BitVec 32 := Scalar.addi c0_i32_54 v113
  let c1_i32_57 : BitVec 32 := 1#32
  let arg14 : BitVec 32 := Scf.iv v114 c1_i32_57 k0_t4
  let c512_i32_76 : BitVec 32 := 512#32
  let v166 : BitVec 32 := Scalar.muli arg14 c512_i32_76
  v166
def k0_off9 (i : grid0.Coords) (k0_t4 : Fin (k0_t4_loop i).trips) : Fin 3 → Nat :=
  let c0_77 : Index := 0#32
  let c0_i32_54 : BitVec 32 := 0#32
  let arg2 : BitVec 32 := BitVec.ofNat 32 (i 2).val
  let v110 : BitVec 32 := Scalar.subi arg2 c0_i32_54
  let c1_i32_55 : BitVec 32 := 1#32
  let v112 : BitVec 32 := Scalar.divsi v110 c1_i32_55
  let v113 : BitVec 32 := Scalar.muli v112 c1_i32_55
  let v114 : BitVec 32 := Scalar.addi c0_i32_54 v113
  let c1_i32_57 : BitVec 32 := 1#32
  let arg14 : BitVec 32 := Scf.iv v114 c1_i32_57 k0_t4
  let c512_i32_76 : BitVec 32 := 512#32
  let v166 : BitVec 32 := Scalar.muli arg14 c512_i32_76
  let v167 : BitVec 32 := v166
  let v168 : Index := Scalar.indexCast v167
  let c128_78 : Index := 128#32
  ![0, v168.toNat, 128]
def k0_off10 (i : grid0.Coords) (k0_t4 : Fin (k0_t4_loop i).trips) : Fin 2 → Nat :=
  let c0_i32_54 : BitVec 32 := 0#32
  let arg2 : BitVec 32 := BitVec.ofNat 32 (i 2).val
  let v110 : BitVec 32 := Scalar.subi arg2 c0_i32_54
  let c1_i32_55 : BitVec 32 := 1#32
  let v112 : BitVec 32 := Scalar.divsi v110 c1_i32_55
  let v113 : BitVec 32 := Scalar.muli v112 c1_i32_55
  let v114 : BitVec 32 := Scalar.addi c0_i32_54 v113
  let c1_i32_57 : BitVec 32 := 1#32
  let arg14 : BitVec 32 := Scf.iv v114 c1_i32_57 k0_t4
  let c512_i32_76 : BitVec 32 := 512#32
  let v166 : BitVec 32 := Scalar.muli arg14 c512_i32_76
  let v167 : BitVec 32 := v166
  let v172 : Index := Scalar.indexCast v167
  let c0_80 : Index := 0#32
  ![v172.toNat, 0]
def k0_mult6 (i : grid0.Coords) : BitVec 32 :=
  let arg2 : BitVec 32 := BitVec.ofNat 32 (i 2).val
  let c512_i32_58 : BitVec 32 := 512#32
  let v117 : BitVec 32 := Scalar.muli arg2 c512_i32_58
  v117
def k0_off11 (i : grid0.Coords) : Fin 3 → Nat :=
  let c0_59 : Index := 0#32
  let arg2 : BitVec 32 := BitVec.ofNat 32 (i 2).val
  let c512_i32_58 : BitVec 32 := 512#32
  let v117 : BitVec 32 := Scalar.muli arg2 c512_i32_58
  let v118 : BitVec 32 := v117
  let v119 : Index := Scalar.indexCast v118
  let c128_60 : Index := 128#32
  ![0, v119.toNat, 128]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c32_i32 : BitVec 32 := 32#32
  let c0_i32_0 : BitVec 32 := 0#32
  ![arg0.toNat, c0_i32.toNat, c32_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Kernel10Ideal.lean ====
variable {F : FTy → Type} [FloatOps F] [Named F]
def κ : String → Option EReal := fun
  | "mask" => some ⊥
  | _ => none
-- ==== Reference10Ideal.lean ====
abbrev S4x2048x3072 : Shape := ⟨3, ![4, 2048, 3072]⟩
abbrev S4x2048x4096 : Shape := ⟨3, ![4, 2048, 4096]⟩
abbrev S4x2048x4608 : Shape := ⟨3, ![4, 2048, 4608]⟩
abbrev S4x2048x32 : Shape := ⟨3, ![4, 2048, 32]⟩
abbrev S4x2048x2048 : Shape := ⟨3, ![4, 2048, 2048]⟩
abbrev S4x2048x16x128 : Shape := ⟨4, ![4, 2048, 16, 128]⟩
abbrev S4x2048x1024 : Shape := ⟨3, ![4, 2048, 1024]⟩
abbrev S4x2048x16x64 : Shape := ⟨4, ![4, 2048, 16, 64]⟩
abbrev S4x2048x16x32 : Shape := ⟨4, ![4, 2048, 16, 32]⟩
abbrev S4x2048x1x32 : Shape := ⟨4, ![4, 2048, 1, 32]⟩
abbrev S4x2048x64 : Shape := ⟨3, ![4, 2048, 64]⟩
abbrev S4x2048x1x64 : Shape := ⟨4, ![4, 2048, 1, 64]⟩
abbrev S4x16x2048x2048 : Shape := ⟨4, ![4, 16, 2048, 2048]⟩
abbrev S4x2048x2048x16 : Shape := ⟨4, ![4, 2048, 2048, 16]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x16x2048 : Shape := ⟨3, ![4, 16, 2048]⟩
abbrev S4x16x2048x1 : Shape := ⟨4, ![4, 16, 2048, 1]⟩
abbrev S4x16x128x2048 : Shape := ⟨4, ![4, 16, 128, 2048]⟩

abbrev nBuf : Space → Nat
  | .hbm => 83
  | .vmem => 0
  | .smem => 0
  | _ => 0

abbrev bufTy : (tb : Table) → Fin (tcTables nBuf tb) → BufTy
  | .hbm, ⟨0, _⟩ => ⟨S4x2048x3072, .bf16⟩
  | .hbm, ⟨1, _⟩ => ⟨S4x2048x4096, .bf16⟩
  | .hbm, ⟨2, _⟩ => ⟨S4x2048x4608, .bf16⟩
  | .hbm, ⟨3, _⟩ => ⟨S4x2048x32, .f32⟩
  | .hbm, ⟨4, _⟩ => ⟨S4x2048x32, .f32⟩
  | .hbm, ⟨5, _⟩ => ⟨S4x2048x2048, .bf16⟩
  | .hbm, ⟨6, _⟩ => ⟨S4x2048x2048, .f32⟩
  | .hbm, ⟨7, _⟩ => ⟨S4x2048x16x128, .f32⟩
  | .hbm, ⟨8, _⟩ => ⟨S4x2048x1024, .bf16⟩
  | .hbm, ⟨9, _⟩ => ⟨S4x2048x1024, .f32⟩
  | .hbm, ⟨10, _⟩ => ⟨S4x2048x16x64, .f32⟩
  | .hbm, ⟨11, _⟩ => ⟨S4x2048x16x32, .f32⟩
  | .hbm, ⟨12, _⟩ => ⟨S4x2048x16x32, .f32⟩
  | .hbm, ⟨13, _⟩ => ⟨S4x2048x1x32, .f32⟩
  | .hbm, ⟨14, _⟩ => ⟨S4x2048x1x32, .f32⟩
  | .hbm, ⟨15, _⟩ => ⟨S4x2048x16x32, .f32⟩
  | .hbm, ⟨16, _⟩ => ⟨S4x2048x16x32, .f32⟩
  | .hbm, ⟨17, _⟩ => ⟨S4x2048x16x32, .f32⟩
  | .hbm, ⟨18, _⟩ => ⟨S4x2048x16x32, .f32⟩
  | .hbm, ⟨19, _⟩ => ⟨S4x2048x16x32, .f32⟩
  | .hbm, ⟨20, _⟩ => ⟨S4x2048x16x32, .f32⟩
  | .hbm, ⟨21, _⟩ => ⟨S4x2048x16x32, .f32⟩
  | .hbm, ⟨22, _⟩ => ⟨S4x2048x16x32, .f32⟩
  | .hbm, ⟨23, _⟩ => ⟨S4x2048x16x32, .f32⟩
  | .hbm, ⟨24, _⟩ => ⟨S4x2048x16x32, .f32⟩
  | .hbm, ⟨25, _⟩ => ⟨S4x2048x16x64, .f32⟩
  | .hbm, ⟨26, _⟩ => ⟨S4x2048x2048, .bf16⟩
  | .hbm, ⟨27, _⟩ => ⟨S4x2048x2048, .f32⟩
  | .hbm, ⟨28, _⟩ => ⟨S4x2048x16x128, .f32⟩
  | .hbm, ⟨29, _⟩ => ⟨S4x2048x2048, .bf16⟩
  | .hbm, ⟨30, _⟩ => ⟨S4x2048x2048, .f32⟩
  | .hbm, ⟨31, _⟩ => ⟨S4x2048x16x128, .f32⟩
  | .hbm, ⟨32, _⟩ => ⟨S4x2048x64, .bf16⟩
  | .hbm, ⟨33, _⟩ => ⟨S4x2048x1x64, .bf16⟩
  | .hbm, ⟨34, _⟩ => ⟨S4x2048x1x64, .f32⟩
  | .hbm, ⟨35, _⟩ => ⟨S4x2048x1x32, .f32⟩
  | .hbm, ⟨36, _⟩ => ⟨S4x2048x1x32, .f32⟩
  | .hbm, ⟨37, _⟩ => ⟨S4x2048x1x32, .f32⟩
  | .hbm, ⟨38, _⟩ => ⟨S4x2048x1x32, .f32⟩
  | .hbm, ⟨39, _⟩ => ⟨S4x2048x1x32, .f32⟩
  | .hbm, ⟨40, _⟩ => ⟨S4x2048x1x32, .f32⟩
  | .hbm, ⟨41, _⟩ => ⟨S4x2048x1x32, .f32⟩
  | .hbm, ⟨42, _⟩ => ⟨S4x2048x1x32, .f32⟩
  | .hbm, ⟨43, _⟩ => ⟨S4x2048x1x32, .f32⟩
  | .hbm, ⟨44, _⟩ => ⟨S4x2048x1x32, .f32⟩
  | .hbm, ⟨45, _⟩ => ⟨S4x2048x1x64, .f32⟩
  | .hbm, ⟨46, _⟩ => ⟨S4x2048x64, .f32⟩
  | .hbm, ⟨47, _⟩ => ⟨S4x16x2048x2048, .f32⟩
  | .hbm, ⟨48, _⟩ => ⟨S4x2048x2048x16, .f32⟩
  | .hbm, ⟨49, _⟩ => ⟨S4x16x2048x2048, .f32⟩
  | .hbm, ⟨50, _⟩ => ⟨S4x16x2048x2048, .f32⟩
  | .hbm, ⟨51, _⟩ => ⟨S_, .f32⟩
  | .hbm, ⟨52, _⟩ => ⟨S4x16x2048x2048, .f32⟩
  | .hbm, ⟨53, _⟩ => ⟨S4x16x2048x2048, .f32⟩
  | .hbm, ⟨54, _⟩ => ⟨S2048, .i32⟩
  | .hbm, ⟨55, _⟩ => ⟨S1x2048, .i32⟩
  | .hbm, ⟨56, _⟩ => ⟨S2048x1, .i32⟩
  | .hbm, ⟨57, _⟩ => ⟨S2048x2048, .i32⟩
  | .hbm, ⟨58, _⟩ => ⟨S2048x2048, .i32⟩
  | .hbm, ⟨59, _⟩ => ⟨S2048x2048, .i1⟩
  | .hbm, ⟨60, _⟩ => ⟨S_, .f32⟩
  | .hbm, ⟨61, _⟩ => ⟨S_, .f32⟩
  | .hbm, ⟨62, _⟩ => ⟨S4x16x2048x2048, .i1⟩
  | .hbm, ⟨63, _⟩ => ⟨S4x16x2048x2048, .f32⟩
  | .hbm, ⟨64, _⟩ => ⟨S4x16x2048x2048, .f32⟩
  | .hbm, ⟨65, _⟩ => ⟨S_, .f32⟩
  | .hbm, ⟨66, _⟩ => ⟨S4x16x2048, .f32⟩
  | .hbm, ⟨67, _⟩ => ⟨S_, .f32⟩
  | .hbm, ⟨68, _⟩ => ⟨S4x16x2048, .f32⟩
  | .hbm, ⟨69, _⟩ => ⟨S4x16x2048, .f32⟩
  | .hbm, ⟨70, _⟩ => ⟨S4x16x2048x1, .f32⟩
  | .hbm, ⟨71, _⟩ => ⟨S4x16x2048x2048, .f32⟩
  | .hbm, ⟨72, _⟩ => ⟨S4x16x2048x2048, .f32⟩
  | .hbm, ⟨73, _⟩ => ⟨S4x16x2048x2048, .f32⟩
  | .hbm, ⟨74, _⟩ => ⟨S_, .f32⟩
  | .hbm, ⟨75, _⟩ => ⟨S4x16x2048, .f32⟩
  | .hbm, ⟨76, _⟩ => ⟨S4x16x2048x1, .f32⟩
  | .hbm, ⟨77, _⟩ => ⟨S4x16x2048x2048, .f32⟩
  | .hbm, ⟨78, _⟩ => ⟨S4x16x2048x2048, .f32⟩
  | .hbm, ⟨79, _⟩ => ⟨S4x16x128x2048, .f32⟩
  | .hbm, ⟨80, _⟩ => ⟨S4x2048x16x128, .f32⟩
  | .hbm, ⟨81, _⟩ => ⟨S4x2048x2048, .f32⟩
  | .hbm, ⟨82, _⟩ => ⟨S4x2048x2048, .bf16⟩
  | _, _ => ⟨S4x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_cst : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_cst_0 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v54 : Ref sig .tc := ⟨.hbm, 64, rfl⟩
abbrev main_cst_1 : Ref sig .tc := ⟨.hbm, 65, rfl⟩
abbrev main_v55 : Ref sig .tc := ⟨.hbm, 66, rfl⟩
abbrev main_cst_2 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_3 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩

abbrev nD : Nat := 1
abbrev τ : Topo := Topo.v7x

variable {F : FTy → Type} [FloatOps F]
-- ==== Kernel11.lean ====
abbrev S8192x4608 : Shape := ⟨2, ![8192, 4608]⟩
abbrev S512 : Shape := ⟨1, ![512]⟩
abbrev S512x3072 : Shape := ⟨2, ![512, 3072]⟩
abbrev S1x512 : Shape := ⟨2, ![1, 512]⟩
abbrev S8192x3072 : Shape := ⟨2, ![8192, 3072]⟩
abbrev S1024x512 : Shape := ⟨2, ![1024, 512]⟩
abbrev S512x512 : Shape := ⟨2, ![512, 512]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x4608, .bf16⟩
  | .hbm, ⟨1, _⟩ => ⟨S512, .f32⟩
  | .hbm, ⟨2, _⟩ => ⟨S512x3072, .bf16⟩
  | .hbm, ⟨3, _⟩ => ⟨S1x512, .f32⟩
  | .hbm, ⟨4, _⟩ => ⟨S8192x3072, .bf16⟩
  | .local _ .vmem, ⟨0, _⟩ => ⟨S1024x512, .bf16⟩
  | .local _ .vmem, ⟨1, _⟩ => ⟨S1024x512, .bf16⟩
  | .local _ .vmem, ⟨2, _⟩ => ⟨S1x512, .f32⟩
  | .local _ .vmem, ⟨3, _⟩ => ⟨S512x512, .bf16⟩
  | .local _ .vmem, ⟨4, _⟩ => ⟨S512x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S8192x4608 : Shape := ⟨2, ![8192, 4608]⟩
abbrev S512 : Shape := ⟨1, ![512]⟩
abbrev S512x3072 : Shape := ⟨2, ![512, 3072]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S8192x3072 : Shape := ⟨2, ![8192, 3072]⟩

abbrev nBuf : Space → Nat
  | .hbm => 24
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S512, .f32⟩
  | .hbm, ⟨2, _⟩ => ⟨S512x3072, .bf16⟩
  | .hbm, ⟨3, _⟩ => ⟨S8192x512, .bf16⟩
  | .hbm, ⟨4, _⟩ => ⟨S8192x512, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x512, .f32⟩
  | .hbm, ⟨17, _⟩ => ⟨S8192x512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S512x3072, .f32⟩
  | .hbm, ⟨22, _⟩ => ⟨S8192x3072, .f32⟩
  | .hbm, ⟨23, _⟩ => ⟨S8192x3072, .bf16⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel12.lean ====
abbrev S8192x4608 : Shape := ⟨2, ![8192, 4608]⟩
abbrev S512 : Shape := ⟨1, ![512]⟩
abbrev S512x4096 : Shape := ⟨2, ![512, 4096]⟩
abbrev S1x512 : Shape := ⟨2, ![1, 512]⟩
abbrev S8192x4096 : Shape := ⟨2, ![8192, 4096]⟩
abbrev S1024x512 : Shape := ⟨2, ![1024, 512]⟩
abbrev S512x512 : Shape := ⟨2, ![512, 512]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x4608, .bf16⟩
  | .hbm, ⟨1, _⟩ => ⟨S512, .f32⟩
  | .hbm, ⟨2, _⟩ => ⟨S512x4096, .bf16⟩
  | .hbm, ⟨3, _⟩ => ⟨S1x512, .f32⟩
  | .hbm, ⟨4, _⟩ => ⟨S8192x4096, .bf16⟩
  | .local _ .vmem, ⟨0, _⟩ => ⟨S1024x512, .bf16⟩
  | .local _ .vmem, ⟨1, _⟩ => ⟨S1024x512, .bf16⟩
  | .local _ .vmem, ⟨2, _⟩ => ⟨S1x512, .f32⟩
  | .local _ .vmem, ⟨3, _⟩ => ⟨S512x512, .bf16⟩
  | .local _ .vmem, ⟨4, _⟩ => ⟨S512x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S8192x4608 : Shape := ⟨2, ![8192, 4608]⟩
abbrev S512 : Shape := ⟨1, ![512]⟩
abbrev S512x4096 : Shape := ⟨2, ![512, 4096]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S8192x4096 : Shape := ⟨2, ![8192, 4096]⟩

abbrev nBuf : Space → Nat
  | .hbm => 24
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S512, .f32⟩
  | .hbm, ⟨2, _⟩ => ⟨S512x4096, .bf16⟩
  | .hbm, ⟨3, _⟩ => ⟨S8192x512, .bf16⟩
  | .hbm, ⟨4, _⟩ => ⟨S8192x512, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x512, .f32⟩
  | .hbm, ⟨17, _⟩ => ⟨S8192x512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S512x4096, .f32⟩
  | .hbm, ⟨22, _⟩ => ⟨S8192x4096, .f32⟩
  | .hbm, ⟨23, _⟩ => ⟨S8192x4096, .bf16⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel13.lean ====
abbrev S8192x768 : Shape := ⟨2, ![8192, 768]⟩
abbrev S8192x9216 : Shape := ⟨2, ![8192, 9216]⟩
abbrev S1024x1024 : Shape := ⟨2, ![1024, 1024]⟩
abbrev S8192x2048 : Shape := ⟨2, ![8192, 2048]⟩
abbrev S1280x2048 : Shape := ⟨2, ![1280, 2048]⟩
abbrev S256x768 : Shape := ⟨2, ![256, 768]⟩
abbrev S256x512 : Shape := ⟨2, ![256, 512]⟩
abbrev S256x1024 : Shape := ⟨2, ![256, 1024]⟩
abbrev S256x2048 : Shape := ⟨2, ![256, 2048]⟩
abbrev S256x1280 : Shape := ⟨2, ![256, 1280]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 7
  | .vmem => 16
  | .smem => 0
  | _ => 0

abbrev bufTy : (tb : Table) → Fin (tcTables nBuf tb) → BufTy
  | .hbm, ⟨0, _⟩ => ⟨S8192x768, .bf16⟩
  | .hbm, ⟨1, _⟩ => ⟨S8192x9216, .bf16⟩
  | .hbm, ⟨2, _⟩ => ⟨S1024x1024, .bf16⟩
  | .hbm, ⟨3, _⟩ => ⟨S8192x2048, .f32⟩
  | .hbm, ⟨4, _⟩ => ⟨S1280x2048, .f32⟩
  | .hbm, ⟨5, _⟩ => ⟨S1280x2048, .bf16⟩
  | .hbm, ⟨6, _⟩ => ⟨S8192x2048, .f32⟩
  | .local _ .vmem, ⟨0, _⟩ => ⟨S256x768, .bf16⟩
  | .local _ .vmem, ⟨1, _⟩ => ⟨S256x768, .bf16⟩
  | .local _ .vmem, ⟨2, _⟩ => ⟨S256x768, .bf16⟩
  | .local _ .vmem, ⟨3, _⟩ => ⟨S256x768, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x1024, .bf16⟩
  | .local _ .vmem, ⟨9, _⟩ => ⟨S256x1024, .bf16⟩
  | .local _ .vmem, ⟨10, _⟩ => ⟨S256x2048, .f32⟩
  | .local _ .vmem, ⟨11, _⟩ => ⟨S256x2048, .f32⟩
  | .local _ .vmem, ⟨12, _⟩ => ⟨S1280x2048, .bf16⟩
  | .local _ .vmem, ⟨13, _⟩ => ⟨S256x2048, .f32⟩
  | .local _ .vmem, ⟨14, _⟩ => ⟨S256x2048, .f32⟩
  | .local _ .vmem, ⟨15, _⟩ => ⟨S256x1280, .bf16⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_3 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_4 (i : grid0.Coords) : Fin 2 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1280x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S8192x768 : Shape := ⟨2, ![8192, 768]⟩
abbrev S8192x9216 : Shape := ⟨2, ![8192, 9216]⟩
abbrev S1024x1024 : Shape := ⟨2, ![1024, 1024]⟩
abbrev S8192x2048 : Shape := ⟨2, ![8192, 2048]⟩
abbrev S1280x2048 : Shape := ⟨2, ![1280, 2048]⟩
abbrev S4x2048x9216 : Shape := ⟨3, ![4, 2048, 9216]⟩
abbrev S4x2048x768 : Shape := ⟨3, ![4, 2048, 768]⟩
abbrev S4x2048x512 : Shape := ⟨3, ![4, 2048, 512]⟩
abbrev S4x2048x1280 : Shape := ⟨3, ![4, 2048, 1280]⟩
abbrev S4x256x2x4x128 : Shape := ⟨5, ![4, 256, 2, 4, 128]⟩
abbrev S4x2048x4x128 : Shape := ⟨4, ![4, 2048, 4, 128]⟩
abbrev S4x256x1x4x128 : Shape := ⟨5, ![4, 256, 1, 4, 128]⟩
abbrev S4x256x4x128 : Shape := ⟨4, ![4, 256, 4, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S4x2048x2048 : Shape := ⟨3, ![4, 2048, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x9216, .bf16⟩
  | .hbm, ⟨2, _⟩ => ⟨S1024x1024, .bf16⟩
  | .hbm, ⟨3, _⟩ => ⟨S8192x2048, .f32⟩
  | .hbm, ⟨4, _⟩ => ⟨S1280x2048, .f32⟩
  | .hbm, ⟨5, _⟩ => ⟨S8192x9216, .f32⟩
  | .hbm, ⟨6, _⟩ => ⟨S4x2048x9216, .f32⟩
  | .hbm, ⟨7, _⟩ => ⟨S4x2048x768, .f32⟩
  | .hbm, ⟨8, _⟩ => ⟨S4x2048x512, .f32⟩
  | .hbm, ⟨9, _⟩ => ⟨S4x2048x1280, .f32⟩
  | .hbm, ⟨10, _⟩ => ⟨S4x2048x768, .bf16⟩
  | .hbm, ⟨11, _⟩ => ⟨S4x2048x512, .f32⟩
  | .hbm, ⟨12, _⟩ => ⟨S1024x1024, .f32⟩
  | .hbm, ⟨13, _⟩ => ⟨S4x256x2x4x128, .f32⟩
  | .hbm, ⟨14, _⟩ => ⟨S4x2048x4x128, .f32⟩
  | .hbm, ⟨15, _⟩ => ⟨S4x256x1x4x128, .f32⟩
  | .hbm, ⟨16, _⟩ => ⟨S4x256x4x128, .f32⟩
  | .hbm, ⟨17, _⟩ => ⟨S4x4x2048x256, .f32⟩
  | .hbm, ⟨18, _⟩ => ⟨S_, .f32⟩
  | .hbm, ⟨19, _⟩ => ⟨S4x4x2048x256, .f32⟩
  | .hbm, ⟨20, _⟩ => ⟨S4x4x2048x256, .f32⟩
  | .hbm, ⟨21, _⟩ => ⟨S_, .f32⟩
  | .hbm, ⟨22, _⟩ => ⟨S4x4x2048, .f32⟩
  | .hbm, ⟨23, _⟩ => ⟨S_, .f32⟩
  | .hbm, ⟨24, _⟩ => ⟨S4x4x2048, .f32⟩
  | .hbm, ⟨25, _⟩ => ⟨S4x4x2048, .f32⟩
  | .hbm, ⟨26, _⟩ => ⟨S4x4x2048x1, .f32⟩
  | .hbm, ⟨27, _⟩ => ⟨S4x4x2048x256, .f32⟩
  | .hbm, ⟨28, _⟩ => ⟨S4x4x2048x256, .f32⟩
  | .hbm, ⟨29, _⟩ => ⟨S4x4x2048x256, .f32⟩
  | .hbm, ⟨30, _⟩ => ⟨S_, .f32⟩
  | .hbm, ⟨31, _⟩ => ⟨S4x4x2048, .f32⟩
  | .hbm, ⟨32, _⟩ => ⟨S4x4x2048x1, .f32⟩
  | .hbm, ⟨33, _⟩ => ⟨S4x4x2048x256, .f32⟩
  | .hbm, ⟨34, _⟩ => ⟨S4x4x2048x256, .f32⟩
  | .hbm, ⟨35, _⟩ => ⟨S4x256x1x4x128, .f32⟩
  | .hbm, ⟨36, _⟩ => ⟨S4x256x4x128, .f32⟩
  | .hbm, ⟨37, _⟩ => ⟨S4x4x128x2048, .f32⟩
  | .hbm, ⟨38, _⟩ => ⟨S4x2048x4x128, .f32⟩
  | .hbm, ⟨39, _⟩ => ⟨S4x2048x768, .f32⟩
  | .hbm, ⟨40, _⟩ => ⟨S4x2048x512, .f32⟩
  | .hbm, ⟨41, _⟩ => ⟨S4x2048x1280, .f32⟩
  | .hbm, ⟨42, _⟩ => ⟨S4x2048x1280, .f32⟩
  | .hbm, ⟨43, _⟩ => ⟨S4x2048x1280, .f32⟩
  | .hbm, ⟨44, _⟩ => ⟨S_, .f32⟩
  | .hbm, ⟨45, _⟩ => ⟨S4x2048x1280, .f32⟩
  | .hbm, ⟨46, _⟩ => ⟨S4x2048x1280, .f32⟩
  | .hbm, ⟨47, _⟩ => ⟨S_, .f32⟩
  | .hbm, ⟨48, _⟩ => ⟨S4x2048x1280, .f32⟩
  | .hbm, ⟨49, _⟩ => ⟨S4x2048x1280, .f32⟩
  | .hbm, ⟨50, _⟩ => ⟨S4x2048x1280, .f32⟩
  | .hbm, ⟨51, _⟩ => ⟨S4x2048x1280, .f32⟩
  | .hbm, ⟨52, _⟩ => ⟨S4x2048x2048, .f32⟩
  | .hbm, ⟨53, _⟩ => ⟨S8192x2048, .f32⟩
  | .hbm, ⟨54, _⟩ => ⟨S8192x2048, .f32⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Kernel14.lean ====
abbrev S8192x768 : Shape := ⟨2, ![8192, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x768, .f32⟩
  | .hbm, ⟨3, _⟩ => ⟨S8192x768, .f32⟩
  | .hbm, ⟨4, _⟩ => ⟨S8192x768, .f32⟩
  | .hbm, ⟨5, _⟩ => ⟨S8192x768, .f32⟩
  | .hbm, ⟨6, _⟩ => ⟨S8192x768, .bf16⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .bf16⟩
  | .local _ .vmem, ⟨13, _⟩ => ⟨S512x768, .bf16⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S8192x768 : Shape := ⟨2, ![8192, 768]⟩
abbrev S8192x768x1 : Shape := ⟨3, ![8192, 768, 1]⟩
abbrev S8192x768x3 : Shape := ⟨3, ![8192, 768, 3]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x768, .f32⟩
  | .hbm, ⟨3, _⟩ => ⟨S8192x768, .f32⟩
  | .hbm, ⟨4, _⟩ => ⟨S8192x768, .f32⟩
  | .hbm, ⟨5, _⟩ => ⟨S8192x768, .f32⟩
  | .hbm, ⟨6, _⟩ => ⟨S8192x768x1, .f32⟩
  | .hbm, ⟨7, _⟩ => ⟨S8192x768x1, .f32⟩
  | .hbm, ⟨8, _⟩ => ⟨S8192x768x1, .f32⟩
  | .hbm, ⟨9, _⟩ => ⟨S8192x768x3, .f32⟩
  | .hbm, ⟨10, _⟩ => ⟨S_, .f32⟩
  | .hbm, ⟨11, _⟩ => ⟨S8192x768, .f32⟩
  | .hbm, ⟨12, _⟩ => ⟨S_, .f32⟩
  | .hbm, ⟨13, _⟩ => ⟨S8192x768, .f32⟩
  | .hbm, ⟨14, _⟩ => ⟨S8192x768, .f32⟩
  | .hbm, ⟨15, _⟩ => ⟨S8192x768x1, .f32⟩
  | .hbm, ⟨16, _⟩ => ⟨S8192x768x3, .f32⟩
  | .hbm, ⟨17, _⟩ => ⟨S8192x768x3, .f32⟩
  | .hbm, ⟨18, _⟩ => ⟨S8192x768x3, .f32⟩
  | .hbm, ⟨19, _⟩ => ⟨S_, .f32⟩
  | .hbm, ⟨20, _⟩ => ⟨S8192x768, .f32⟩
  | .hbm, ⟨21, _⟩ => ⟨S8192x768x1, .f32⟩
  | .hbm, ⟨22, _⟩ => ⟨S8192x768x3, .f32⟩
  | .hbm, ⟨23, _⟩ => ⟨S8192x768x3, .f32⟩
  | .hbm, ⟨24, _⟩ => ⟨S8192x768x1, .f32⟩
  | .hbm, ⟨25, _⟩ => ⟨S8192x768x1, .f32⟩
  | .hbm, ⟨26, _⟩ => ⟨S8192x768x1, .f32⟩
  | .hbm, ⟨27, _⟩ => ⟨S8192x768x3, .f32⟩
  | .hbm, ⟨28, _⟩ => ⟨S8192x768, .f32⟩
  | .hbm, ⟨29, _⟩ => ⟨S8192x768, .bf16⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Proof.Finite.lean ====
module

public import proofs.«01_k».proof.Defs
public import proofs.«01_k».proof.Proof.Gen.Pre_finite
public import Idealize.ShloMosaic.Lib.ReduceAll
public import Idealize.ShloMosaic.Lib.Pointwise

@[expose] public section

set_option maxRecDepth 16384

/-! # What the precondition says

Where the precondition holds, every element of both argument arrays is a real number. -/

noncomputable section

namespace Cert.Pre_finite

open Cert.Pre_finite Idealize.ShloMosaic

/-- An extended real whose absolute value is below `+∞` is a real number. -/
theorem real_of_abs_lt (x : EReal)
    (h : FloatOps.cmpf (F := Ideal) (φ := .f32) .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x using EReal.rec with
  | bot => simp [FloatOps.cmpf, Ideal.cmp] at h
  | coe r => exact ⟨r, rfl⟩
  | top => simp [FloatOps.cmpf, Ideal.cmp] at h

/-- Both argument arrays hold real numbers. -/
theorem reals (x0 : FVec Ideal S4x2048x9728 .bf16) (x1 : FVec Ideal S4x16x2048 .f32) [Facts]
    (h : fn (F := Ideal) x0 x1 = fun _ => 1#1) :
    (∀ i, ∃ r : ℝ, x0 i = (r : EReal)) ∧ ∀ i, ∃ r : ℝ, x1 i = (r : EReal) := by
  have h1 := congrFun h (Shape.Idx.first Facts.h_S_)
  have hs : Subsingleton S_.Idx := ⟨fun a b => funext fun k => k.elim0⟩
  have h2 := IntOp.andi_eq_one.mp h1
  refine ⟨fun i => ?_, fun i => ?_⟩
  · exact real_of_abs_lt _ (Host.reduce_andi_all _ _ _ _ _ h2.1 i)
  · exact real_of_abs_lt _ (Host.reduce_andi_all _ _ _ _ _ h2.2 i)

end Cert.Pre_finite

end
-- ==== Proof.Loads.lean ====
module

public import proofs.«01_k».proof.Proof.Gen.KernelIdeal.Value
public import Idealize.ShloMosaic.Lib.Pointwise

@[expose] public section

set_option maxRecDepth 16384

/-! # What one grid point loads

The number of trips of the two loops, the places the loads read, and the output block as one term
over the loop's state. -/

noncomputable section

namespace Cert.KernelIdeal.Attn

open Cert.KernelIdeal Cert.KernelIdeal.Gen Idealize.ShloMosaic Idealize.ShloMosaic.TcCoe Idealize.SL.Sem

/-- The first loop makes one trip per block of columns left of the diagonal block. -/
theorem trips1 (i : grid0.Coords) : (k0_t1_loop i).trips = (i 2).val :=
  (by decide +kernel : ∀ j : Fin 4, Scf.trips (0#32) (Scalar.addi 0#32 (Scalar.muli (Scalar.divsi
    (Scalar.subi (BitVec.ofNat 32 j.val) 0#32) 1#32) 1#32)) 1#32 = j.val) (i 2)

/-- The second loop, the remainder of the first, makes no trip. -/
theorem trips2 (i : grid0.Coords) : (k0_t2_loop i).trips = 0 :=
  (by decide +kernel : ∀ j : Fin 4, Scf.trips (Scalar.addi 0#32 (Scalar.muli (Scalar.divsi
    (Scalar.subi (BitVec.ofNat 32 j.val) 0#32) 1#32) 1#32))
    (Scalar.addi 0#32 (Scalar.subi (BitVec.ofNat 32 j.val) 0#32)) 1#32 = 0) (i 2)

/-- A trip's number is below four. -/
theorem trip_lt (i : grid0.Coords) (k : Fin (k0_t1_loop i).trips) : k.val < 4 :=
  (k.isLt.trans_eq (trips1 i)).trans (i 2).isLt

/-- Trip `k` loads the rows from `512 k` on. -/
theorem off1 (i : grid0.Coords) (k : Fin (k0_t1_loop i).trips) : k0_off1 i k = ![0, 512 * k.val, 0] := by
  have h : ∀ j : Fin 4, (Scalar.indexCast (Scalar.muli (Scf.iv (0#32) 1#32 j.val) 512#32)).toNat
      = 512 * j.val := by decide +kernel
  unfold k0_off1
  dsimp only
  rw [h ⟨k.val, trip_lt i k⟩]

/-- Trip `k` loads the `k`-th row of gates. -/
theorem off2 (i : grid0.Coords) (k : Fin (k0_t1_loop i).trips) : k0_off2 i k = ![0, 0, k.val, 0, 0] := by
  have h : ∀ j : Fin 4, (Scalar.indexCast (Scf.iv (0#32) 1#32 j.val)).toNat = j.val := by decide +kernel
  unfold k0_off2
  dsimp only
  rw [h ⟨k.val, trip_lt i k⟩]

/-- The diagonal block's rows. -/
theorem off5 (i : grid0.Coords) : k0_off5 i = ![0, 512 * (i 2).val, 0] := by
  have h : ∀ j : Fin 4, (Scalar.indexCast (Scalar.muli (BitVec.ofNat 32 j.val) 512#32)).toNat
      = 512 * j.val := by decide +kernel
  unfold k0_off5
  dsimp only
  rw [h (i 2)]

/-- The diagonal block's row of gates. -/
theorem off6 (i : grid0.Coords) : k0_off6 i = ![0, 0, (i 2).val, 0, 0] := by
  have h : ∀ j : Fin 4, (Scalar.indexCast (BitVec.ofNat 32 j.val)).toNat = j.val := by decide +kernel
  unfold k0_off6
  dsimp only
  rw [h (i 2)]

/-- 512 of the 2048 rows of keys or values. -/
abbrev rows (x : Vec Ideal S1x2048x128 .bf16) (off : Fin 3 → ℕ)
    (h : ∀ a, off a + S1x512x128.size a ≤ S1x2048x128.size a) : Vec Ideal S1x512x128 .bf16 :=
  View.ld x (Rect.unit (s := S1x2048x128) off S1x512x128.size h)

/-- One of the four rows of gates. -/
abbrev gates (x : Vec Ideal S1x1x4x1x512 .f32) (off : Fin 5 → ℕ)
    (h : ∀ a, off a + S1x1x1x1x512.size a ≤ S1x1x4x1x512.size a) : Vec Ideal S1x1x1x1x512 .f32 :=
  View.ld x (Rect.unit (s := S1x1x4x1x512) off S1x1x1x1x512.size h)

/-- The loaded rows read at an index. -/
theorem rows_apply (x : Vec Ideal S1x2048x128 .bf16) (off : Fin 3 → ℕ) (n : ℕ) (ho : off = ![0, n, 0])
    (h : ∀ a, off a + S1x512x128.size a ≤ S1x2048x128.size a) (c : Fin 512) (d : Fin 128) (j : Fin 2048)
    (hj : j.val = n + c.val) : rows x off h (ix3 0 c d) = x (ix3 0 j d) := by
  subst ho
  pointwise [rows]
  refine congrArg x (congrArg (fun a => ix3 0 a d) (Fin.ext ?_))
  exact hj.symm

/-- The loaded gates read at an index. -/
theorem gates_apply (x : Vec Ideal S1x1x4x1x512 .f32) (off : Fin 5 → ℕ) (n : Fin 4)
    (ho : off = ![0, 0, n.val, 0, 0])
    (h : ∀ a, off a + S1x1x1x1x512.size a ≤ S1x1x4x1x512.size a) (c : Fin 512) :
    gates x off h (ix5 0 0 0 0 c) = x (ix5 0 0 n 0 c) := by
  subst ho
  pointwise [gates]

variable (c : Dev nD) (i : grid0.Coords)
  (arg3 : Memref sig .tc .vmem S1x512x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x1x4x1x512 .f32) (harg6 : arg6.IsWhole)
  (arg7 : Memref sig .tc .vmem S1x512x128 .bf16) (harg7 : arg7.IsWhole)
  (x0 : Vec Ideal S1x512x128 .bf16) (x1 x2 : Vec Ideal S1x2048x128 .bf16) (x3 : Vec Ideal S1x1x4x1x512 .f32)

/-- What the loop carries before trip `k`: the reference scores, the sums of the weights and the sums
of the weighted values, one row each. -/
abbrev carried (k : ℕ) : FVec Ideal S512x1 .f32 × FVec Ideal S512x1 .f32 × FVec Ideal S512x128 .f32 :=
  st_k0_t1 (F := Ideal) Variants.none c none i arg3 harg3 arg4 harg4 arg5 harg5 arg6 harg6 arg7 harg7 x0
    (harg4.unread x1) (harg5.unread x2) (harg6.unread x3) (k0_pay3, k0_pay4, k0_pay5) k

/-- One trip: the three updates, at the keys, gates and values it loads. -/
theorem carried_succ (k : Fin (k0_t1_loop i).trips) :
    carried c i arg3 harg3 arg4 harg4 arg5 harg5 arg6 harg6 arg7 harg7 x0 x1 x2 x3 (k.val + 1)
      = let s := carried c i arg3 harg3 arg4 harg4 arg5 harg5 arg6 harg6 arg7 harg7 x0 x1 x2 x3 k.val
        (k0_pay7 x0 s.1 (rows x1 (k0_off1 i k) (k0_off1_inb i k)) (gates x3 (k0_off2 i k) (k0_off2_inb i k)),
         k0_pay10 x0 s.1 s.2.1 (rows x1 (k0_off1 i k) (k0_off1_inb i k)) (gates x3 (k0_off2 i k) (k0_off2_inb i k)),
         k0_pay11 x0 s.1 s.2.2 (rows x1 (k0_off1 i k) (k0_off1_inb i k)) (gates x3 (k0_off2 i k) (k0_off2_inb i k))
           (rows x2 (k0_off1 i k) (k0_off1_inb i k))) := by
  show st_k0_t1 (F := Ideal) Variants.none c none i arg3 harg3 arg4 harg4 arg5 harg5 arg6 harg6 arg7 harg7 x0
    (harg4.unread x1) (harg5.unread x2) (harg6.unread x3) (k0_pay3, k0_pay4, k0_pay5) (k.val + 1) = _
  rw [st_k0_t1_succ]
  generalize hs : st_k0_t1 (F := Ideal) Variants.none c none i arg3 harg3 arg4 harg4 arg5 harg5 arg6 harg6 arg7 harg7 x0
    (harg4.unread x1) (harg5.unread x2) (harg6.unread x3) (k0_pay3, k0_pay4, k0_pay5) k.val = s
  unfold carried
  rw [hs]
  unfold tripR_k0_t1 trip_k0_t1
  dsimp only
  sl_unfold_words
  simp only [View.readAt_eq_ld, harg4.read_unread, harg5.read_unread, harg6.read_unread]

/-- The output block: the last, masked update on the diagonal block, divided and stored. -/
theorem out_eq :
    out0_A_4 (F := Ideal) c i arg3 harg3 arg4 harg4 arg5 harg5 arg6 harg6 arg7 harg7 x0 x1 x2 x3
      = let s := carried c i arg3 harg3 arg4 harg4 arg5 harg5 arg6 harg6 arg7 harg7 x0 x1 x2 x3 (i 2).val
        k0_pay1 s.1 s.2.1 s.2.2
          (k0_pay18 x0 (rows x1 (k0_off5 i) (k0_off5_inb i)) (gates x3 (k0_off6 i) (k0_off6_inb i)))
          (k0_pay19 (rows x2 (k0_off5 i) (k0_off5_inb i))) (k0_pay20 i)
          (iota Kind.tc S512x512 32 [1] iota_S512x512_d1_w32)
          (Scalar.muli (BitVec.ofNat 32 (i 2).val) 512#32) := by
  unfold out0_A_4
  rw [View.read_writes_eq_canon _ _ _ (cover0_A_4 c i arg3 harg3 arg4 harg4 arg5 harg5 arg6 harg6 arg7 harg7 x0 x1 x2 x3)]
  unfold kernelRun0_A
  dsimp only
  sl_unfold_words
  rw [View.canon_unit_zero (funext fun a => by fin_cases a <;> rfl)]
  have h2 : Scf.trips (k0_t2_loop i).lb (k0_t2_loop i).ub (k0_t2_loop i).st = 0 := trips2 i
  have h1 : Scf.trips (k0_t1_loop i).lb (k0_t1_loop i).ub (k0_t1_loop i).st = (i 2).val := trips1 i
  have h0 : ∀ h, View.ld x0 (Rect.unit (s := S1x512x128) ![0, 0, 0] ![1, 512, 128] h) = x0 := fun h =>
    View.ld_unit_zero (S := S1x512x128) (funext fun a => by fin_cases a <;> rfl) h x0
  simp only [View.readAt_eq_ld, harg3.read_unread, harg4.read_unread, harg5.read_unread, harg6.read_unread,
    h0, h1, h2]
  rfl

end Cert.KernelIdeal.Attn

end
-- ==== Proof.Online.lean ====
module

public import Idealize.ShloMosaic.Lib.Pointwise

@[expose] public section

/-! # Softmax taken block by block

For one row of real scores `σ 0, σ 1, …` and one column of values `v 0, v 1, …`, which may be
infinite: the weighted mean of the
first `n` values with weights `exp (σ j)` can be accumulated over blocks of columns, each block
rescaling what the earlier ones left to a new reference score.  Only that the reference score is a
real number matters, not which one it is. -/

noncomputable section

namespace Cert.Online

open Idealize.ShloMosaic

/-- The sum of the first `n` weights, relative to the reference score `μ`. -/
def weight (n : ℕ) (σ : ℕ → ℝ) (μ : ℝ) : ℝ := ∑ j ∈ Finset.range n, Real.exp (σ j - μ)

/-- The sum of the first `n` weighted values, relative to the reference score `μ`. -/
def weighted (n : ℕ) (σ : ℕ → ℝ) (v : ℕ → EReal) (μ : ℝ) : EReal :=
  ∑ j ∈ Finset.range n, (Real.exp (σ j - μ) : EReal) * v j

/-- The weighted mean of the first `n` values, the weights being the softmax of the scores. -/
def mean (n : ℕ) (σ : ℕ → ℝ) (v : ℕ → EReal) : EReal := weighted n σ v 0 * ((1 / weight n σ 0 : ℝ) : EReal)

/-- A sum of extended reals multiplied by a real that is not negative. -/
theorem sum_mul_real {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (EReal.coe_nonneg.2 hr) (EReal.coe_ne_top r)]

/-- A nonempty sum of weights is positive. -/
theorem weight_pos {n : ℕ} (hn : 0 < n) (σ : ℕ → ℝ) (μ : ℝ) : 0 < weight n σ μ :=
  Finset.sum_pos (fun _ _ => Real.exp_pos _) ⟨0, Finset.mem_range.2 hn⟩

/-- Moving the reference score multiplies the sum of the weights by one factor. -/
theorem weight_shift (n : ℕ) (σ : ℕ → ℝ) (μ μ' : ℝ) :
    Real.exp (μ - μ') * weight n σ μ = weight n σ μ' := by
  rw [weight, weight, Finset.mul_sum]
  refine Finset.sum_congr rfl fun j _ => ?_
  rw [← Real.exp_add]; congr 1; ring

/-- Moving the reference score multiplies the sum of the weighted values by the same factor. -/
theorem weighted_shift (n : ℕ) (σ : ℕ → ℝ) (v : ℕ → EReal) (μ μ' : ℝ) :
    (Real.exp (μ - μ') : EReal) * weighted n σ v μ = weighted n σ v μ' := by
  rw [mul_comm, weighted, weighted, sum_mul_real _ _ (Real.exp_pos _).le]
  refine Finset.sum_congr rfl fun j _ => ?_
  rw [mul_right_comm, ← EReal.coe_mul, ← Real.exp_add]
  congr 3
  ring

/-- The weighted mean does not depend on the reference score. -/
theorem weighted_div_weight (n : ℕ) (σ : ℕ → ℝ) (v : ℕ → EReal) (μ : ℝ) :
    weighted n σ v μ * ((1 / weight n σ μ : ℝ) : EReal) = mean n σ v := by
  rw [mean, ← weighted_shift n σ v 0 μ, ← weight_shift n σ 0 μ, mul_comm (Real.exp _ : EReal), mul_assoc,
    ← EReal.coe_mul]
  congr 2
  rw [mul_one_div, div_mul_cancel_left₀ (Real.exp_pos _).ne', one_div]

/-- A finite maximum over reals and `-∞`, at least one of them real, is a real. -/
theorem fold_max_real {N : ℕ} (t : Fin N → EReal) (hlt : ∀ c, t c ≠ ⊤) (c₀ : Fin N) (h₀ : t c₀ ≠ ⊥) :
    ∃ μ : ℝ, Finset.univ.fold max (⊥ : EReal) t = μ := by
  have htop : Finset.univ.fold max (⊥ : EReal) t ≠ ⊤ :=
    ((Finset.fold_max_lt (s := Finset.univ) (f := t) (b := ⊥) ⊤).2
      ⟨bot_lt_top, fun c _ => lt_top_iff_ne_top.2 (hlt c)⟩).ne
  have hbot : Finset.univ.fold max (⊥ : EReal) t ≠ ⊥ := fun h =>
    h₀ (le_bot_iff.1 (h ▸ (Finset.le_fold_max (s := Finset.univ) (f := t) (b := ⊥) (t c₀)).2
      (.inr ⟨c₀, Finset.mem_univ _, le_rfl⟩)))
  exact ⟨_, (EReal.coe_toReal htop hbot).symm⟩

/-- The maximum of what was kept so far (a real or `-∞`) and of a row with a real entry is a real. -/
theorem max_real {m x : EReal} (hm : m ≠ ⊤) (hx : ∃ μ : ℝ, x = μ) : ∃ μ : ℝ, max m x = μ := by
  obtain ⟨μ, rfl⟩ := hx
  have htop : max m (μ : EReal) ≠ ⊤ := (max_lt (lt_top_iff_ne_top.2 hm) (EReal.coe_lt_top μ)).ne
  have hbot : max m (μ : EReal) ≠ ⊥ := ((EReal.bot_lt_coe μ).trans_le (le_max_right _ _)).ne'
  exact ⟨_, (EReal.coe_toReal htop hbot).symm⟩

/-- A finite sum of reals, taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over `N` columns of which only the first `w` contribute. -/
theorem sum_masked {N w : ℕ} (hw : w ≤ N) (f : ℕ → EReal) (t : Fin N → EReal)
    (ht : ∀ c, t c = if c.val < w then f c else 0) : ∑ c, t c = ∑ c ∈ Finset.range w, f c := by
  rw [Finset.sum_congr rfl fun c _ => ht c,
    Fin.sum_univ_eq_sum_range (fun c => if c < w then f c else 0) N, ← Finset.sum_filter]
  refine Finset.sum_congr (Finset.ext fun c => ?_) fun _ _ => rfl
  simp only [Finset.mem_filter, Finset.mem_range]
  omega

/-- Adding the columns `n, …, n + w - 1` to the sum of the weights. -/
theorem weight_add (n w : ℕ) (σ : ℕ → ℝ) (μ : ℝ) :
    weight (n + w) σ μ = weight n σ μ + ∑ c ∈ Finset.range w, Real.exp (σ (n + c) - μ) :=
  Finset.sum_range_add _ _ _

/-- Adding the columns `n, …, n + w - 1` to the sum of the weighted values. -/
theorem weighted_add (n w : ℕ) (σ : ℕ → ℝ) (v : ℕ → EReal) (μ : ℝ) :
    weighted (n + w) σ v μ
      = weighted n σ v μ + ∑ c ∈ Finset.range w, (Real.exp (σ (n + c) - μ) : EReal) * v (n + c) :=
  Finset.sum_range_add _ _ _

/-- What the accumulation holds after the first `n` columns: before any column, `-∞`, `0` and `0`;
after some, a real reference score with the two sums relative to it. -/
def State (n : ℕ) (σ : ℕ → ℝ) (v : ℕ → EReal) (m l a : EReal) : Prop :=
  (n = 0 ∧ m = ⊥ ∧ l = 0 ∧ a = 0) ∨
    ∃ μ : ℝ, m = μ ∧ l = (weight n σ μ : ℝ) ∧ a = weighted n σ v μ

/-- The reference score is never `+∞`. -/
theorem State.ne_top {n : ℕ} {σ : ℕ → ℝ} {v : ℕ → EReal} {m l a : EReal} (h : State n σ v m l a) : m ≠ ⊤ := by
  rcases h with ⟨-, rfl, -⟩ | ⟨μ, rfl, -⟩
  · exact bot_ne_top
  · exact EReal.coe_ne_top μ

/-- Rescaling to a new real reference score. -/
theorem State.rescale {n : ℕ} {σ : ℕ → ℝ} {v : ℕ → EReal} {m l a : EReal} (h : State n σ v m l a) (μ : ℝ) :
    Ideal.exp (m - μ) * l = (weight n σ μ : ℝ) ∧ Ideal.exp (m - μ) * a = weighted n σ v μ := by
  rcases h with ⟨rfl, rfl, rfl, rfl⟩ | ⟨μ₀, rfl, rfl, rfl⟩
  · simp [weight, weighted]
  · rw [← EReal.coe_sub, Ideal.exp_coe, ← EReal.coe_mul, weight_shift, weighted_shift]
    exact ⟨rfl, rfl⟩

/-- One block: `N` columns of which the first `w` count (the others carry the score `-∞`).  The new
reference score is the larger of the old one and of the block's maximum. -/
theorem State.step {n N w : ℕ} {σ : ℕ → ℝ} {v : ℕ → EReal} {m l a : EReal} (h : State n σ v m l a) (hw0 : 0 < w)
    (hw : w ≤ N) (t x : Fin N → EReal)
    (ht : ∀ c, t c = if c.val < w then (σ (n + c) : EReal) else ⊥) (hx : ∀ c, x c = v (n + c))
    {m' : EReal} (hm' : m' = max m (Finset.univ.fold max ⊥ t)) :
    State (n + w) σ v m' (Ideal.exp (m - m') * l + ∑ c, Ideal.exp (t c - m'))
      (Ideal.exp (m - m') * a + ∑ c, Ideal.exp (t c - m') * x c) := by
  obtain ⟨μ, hμ⟩ : ∃ μ : ℝ, m' = μ := hm' ▸ max_real h.ne_top (fold_max_real t
    (fun c => by rw [ht]; split
                 · exact EReal.coe_ne_top _
                 · exact bot_ne_top) ⟨0, hw0.trans_le hw⟩
    (by rw [ht, if_pos hw0]; exact EReal.coe_ne_bot _))
  obtain ⟨hl, ha⟩ := h.rescale μ
  have he : ∀ c, Ideal.exp (t c - μ) = if c.val < w then (Real.exp (σ (n + c) - μ) : EReal) else 0 := by
    intro c
    rw [ht]
    split
    · rw [← EReal.coe_sub, Ideal.exp_coe]
    · rw [EReal.bot_sub, Ideal.exp_bot]
  refine .inr ⟨μ, hμ, ?_, ?_⟩
  · rw [hμ, hl, sum_masked hw (fun c => (Real.exp (σ (n + c) - μ) : EReal)) _ he, ← coe_sum, ← EReal.coe_add, weight_add]
  · rw [hμ, ha, sum_masked hw (fun c => (Real.exp (σ (n + c) - μ) : EReal) * v (n + c)) _ (fun c => ?_), weighted_add]
    rw [he, hx]
    split
    · rfl
    · rw [zero_mul]

/-- After at least one column the quotient of the two sums is the weighted mean. -/
theorem State.div {n : ℕ} {σ : ℕ → ℝ} {v : ℕ → EReal} {m l a : EReal} (h : State n σ v m l a) (hn : 0 < n) :
    Ideal.div a l = mean n σ v := by
  rcases h with ⟨rfl, -⟩ | ⟨μ, -, rfl, rfl⟩
  · exact absurd hn (lt_irrefl _)
  · rw [Ideal.div_coe (weight_pos hn σ μ).ne', weighted_div_weight]

/-- The softmax taken in one piece over `N` columns of which the first `n` count, every score moved
by one constant `q`: the same weighted mean. -/
theorem softmax_mean {n N : ℕ} (hn : 0 < n) (hN : n ≤ N) (σ : ℕ → ℝ) (v : ℕ → EReal) (q : ℝ) (t x : Fin N → EReal)
    (ht : ∀ c, t c = if c.val < n then ((σ c + q : ℝ) : EReal) else ⊥) (hx : ∀ c, x c = v c)
    {M : EReal} (hM : M = Finset.univ.fold max ⊥ t) :
    ∑ c, x c * Ideal.div (Ideal.exp (t c - M)) (∑ k, Ideal.exp (t k - M)) = mean n σ v := by
  obtain ⟨μ, hμ⟩ : ∃ μ : ℝ, M = μ := hM ▸ fold_max_real t
    (fun c => by rw [ht]; split
                 · exact EReal.coe_ne_top _
                 · exact bot_ne_top) ⟨0, hn.trans_le hN⟩
    (by rw [ht, if_pos hn]; exact EReal.coe_ne_bot _)
  have he : ∀ c, Ideal.exp (t c - M) = if c.val < n then (Real.exp (σ c - (μ - q)) : EReal) else 0 := by
    intro c
    rw [ht, hμ]
    split
    · rw [← EReal.coe_sub, Ideal.exp_coe]; congr 2; ring
    · rw [EReal.bot_sub, Ideal.exp_bot]
  have hs : ∑ k, Ideal.exp (t k - M) = (weight n σ (μ - q) : ℝ) :=
    (sum_masked hN (fun c => (Real.exp (σ c - (μ - q)) : EReal)) _ he).trans (coe_sum _ _).symm
  rw [hs, sum_masked hN
    (fun c => (Real.exp (σ c - (μ - q)) : EReal) * v c * ((1 / weight n σ (μ - q) : ℝ) : EReal)) _ (fun c => ?_)]
  · rw [← sum_mul_real _ _ (one_div_pos.2 (weight_pos hn σ _)).le]
    exact weighted_div_weight n σ v (μ - q)
  · rw [Ideal.div_coe (weight_pos hn σ _).ne', he, hx]
    split
    · ac_rfl
    · rw [zero_mul, mul_zero]

end Cert.Online

end
-- ==== Proof.Block.lean ====
module

public import proofs.«01_k».proof.Proof.Loads
public import proofs.«01_k».proof.Proof.Online

@[expose] public section

set_option maxRecDepth 16384

/-! # What one grid point computes

At real queries, keys, values and gates, the output block of a grid point holds, at row `r` and
channel `d`, the weighted mean of the values in channel `d` over the columns up to the row's own. -/

noncomputable section

namespace Cert.KernelIdeal.Attn

open Cert.KernelIdeal Cert.KernelIdeal.Gen Idealize.ShloMosaic Idealize.ShloMosaic.TcCoe Idealize.SL.Sem
open Cert.Online

/-- The factor on the scores, `128 ^ (-1/2)` rounded to f32. -/
def scale : ℝ := (Ideal.ofBits .f32 0x3DB504F3#32).toReal

/-- The factor is a real number. -/
theorem scale_eq : Ideal.ofBits .f32 0x3DB504F3#32 = (scale : EReal) := by
  refine (EReal.coe_toReal ?_ ?_).symm
  · simp [Ideal.ofBits, Ideal.ieee]
    rw [← EReal.coe_mul]
    exact EReal.coe_ne_top _
  · simp [Ideal.ofBits, Ideal.ieee]
    rw [← EReal.coe_mul]
    exact EReal.coe_ne_bot _

/-- The word of `-∞`. -/
theorem neg_inf : Ideal.ofBits .f32 0xFF800000#32 = ⊥ := by simp [Ideal.ofBits, Ideal.ieee]

/-- The mask's named constant is `-∞`. -/
theorem mask_value : Named.named (F := Ideal) (φ := .f32) κ "mask" 0xF149F2CA#32 = ⊥ :=
  IdealRules.named_const.ideal_named_scalar κ "mask" (φ := .f32) 0xF149F2CA#32 ⊥ rfl

/-- The causal mask inside the diagonal block: column `x` against row `r`. -/
theorem mask_eq (j : Fin 4) (x r : Fin 512) :
    IntOp.cmpi .sle (IntOp.addi (BitVec.ofNat 32 x.val) (Scalar.muli (BitVec.ofNat 32 j.val) 512#32))
      (IntOp.addi (BitVec.ofNat 32 r.val) (Scalar.muli (BitVec.ofNat 32 j.val) 512#32))
      = BitVec.ofBool (decide (x.val ≤ r.val)) := by
  have hx := x.isLt
  have hr := r.isLt
  show BitVec.ofBool (BitVec.sle (BitVec.ofNat 32 x.val + BitVec.ofNat 32 j.val * 512#32)
    (BitVec.ofNat 32 r.val + BitVec.ofNat 32 j.val * 512#32)) = _
  congr 1
  have hn : ∀ y : Fin 512, (BitVec.ofNat 32 y.val + BitVec.ofNat 32 j.val * 512#32).toInt
      = y.val + j.val * 512 := by
    intro y
    have hj := j.isLt
    have hy := y.isLt
    have : (BitVec.ofNat 32 y.val + BitVec.ofNat 32 j.val * 512#32).toNat = y.val + j.val * 512 := by
      simp only [BitVec.toNat_add, BitVec.toNat_mul, BitVec.toNat_ofNat]
      omega
    rw [BitVec.toInt_eq_toNat_of_lt (by omega), this]
    push_cast
    rfl
  rw [BitVec.sle, hn x, hn r]
  exact decide_eq_decide.2 (by omega)

/-- A selection by a decided condition. -/
theorem select_eq {α : Type} (p : Prop) [Decidable p] (a b : α) :
    Scalar.select (BitVec.ofBool (decide p)) a b = if p then a else b := by
  by_cases h : p <;> simp [Scalar.select, h]

variable (q : Fin 512 → Fin 128 → ℝ) (kk : ℕ → Fin 128 → ℝ) (vv : ℕ → Fin 128 → EReal) (cc : ℕ → ℝ)

/-- The score of row `r` against column `j`, but for the row's own gate. -/
def score (r : Fin 512) (j : ℕ) : ℝ := (∑ d, q r d * kk j d) * scale - cc j

/-- The scores of one block: scaled products of queries and keys less the columns' gates. -/
theorem score_block (x0 v65 : Vec Ideal S1x512x128 .bf16) (v71 : Vec Ideal S1x1x1x1x512 .f32) (n : ℕ)
    (h0 : ∀ r d, x0 (ix3 0 r d) = (q r d : EReal)) (hk : ∀ c d, v65 (ix3 0 c d) = (kk (n + c.val) d : EReal))
    (hc : ∀ c, v71 (ix5 0 0 0 0 c) = (cc (n + c.val) : EReal)) (r c : Fin 512) :
    k0_pay6 x0 v65 v71 (ix2 r c) = (score q kk cc r (n + c.val) : EReal) := by
  pointwise [k0_pay6, k0_pay2]
  rw [score, EReal.coe_sub, EReal.coe_mul, coe_sum, hc, scale_eq]
  refine congrArg (fun s => s * (scale : EReal) - (cc (n + c.val) : EReal)) (Finset.sum_congr rfl fun d _ => ?_)
  rw [h0, hk, EReal.coe_mul]

/-- One trip on one block of columns, at a row and a channel. -/
theorem trip_state (x0 v65 v76 : Vec Ideal S1x512x128 .bf16) (v71 : Vec Ideal S1x1x1x1x512 .f32) (n : ℕ)
    (h0 : ∀ r d, x0 (ix3 0 r d) = (q r d : EReal)) (hk : ∀ c d, v65 (ix3 0 c d) = (kk (n + c.val) d : EReal))
    (hv : ∀ c d, v76 (ix3 0 c d) = vv (n + c.val) d)
    (hc : ∀ c, v71 (ix5 0 0 0 0 c) = (cc (n + c.val) : EReal)) (m l : FVec Ideal S512x1 .f32)
    (a : FVec Ideal S512x128 .f32) (r : Fin 512) (d : Fin 128)
    (h : State n (score q kk cc r) (fun j => vv j d) (m (ix2 r 0)) (l (ix2 r 0)) (a (ix2 r d))) :
    State (n + 512) (score q kk cc r) (fun j => vv j d) (k0_pay7 x0 m v65 v71 (ix2 r 0))
      (k0_pay10 x0 m l v65 v71 (ix2 r 0)) (k0_pay11 x0 m a v65 v71 v76 (ix2 r d)) := by
  have hm : k0_pay7 x0 m v65 v71 (ix2 r 0)
      = max (m (ix2 r 0)) (Finset.univ.fold max ⊥ fun c => k0_pay6 x0 v65 v71 (ix2 r c)) := by
    pointwise [k0_pay7]
    rw [neg_inf]
  have hs := h.step (w := 512) (by omega) le_rfl (fun c => k0_pay6 x0 v65 v71 (ix2 r c))
    (fun c => v76 (ix3 0 c d))
    (fun c => by rw [if_pos c.isLt]; exact score_block q kk cc x0 v65 v71 n h0 hk hc r c)
    (fun c => hv c d) hm
  have hl : k0_pay10 x0 m l v65 v71 (ix2 r 0)
      = Ideal.exp (m (ix2 r 0) - k0_pay7 x0 m v65 v71 (ix2 r 0)) * l (ix2 r 0)
        + ∑ c, Ideal.exp (k0_pay6 x0 v65 v71 (ix2 r c) - k0_pay7 x0 m v65 v71 (ix2 r 0)) := by
    pointwise [k0_pay8, k0_pay9, k0_pay10]
  have ha : k0_pay11 x0 m a v65 v71 v76 (ix2 r d)
      = Ideal.exp (m (ix2 r 0) - k0_pay7 x0 m v65 v71 (ix2 r 0)) * a (ix2 r d)
        + ∑ c, Ideal.exp (k0_pay6 x0 v65 v71 (ix2 r c) - k0_pay7 x0 m v65 v71 (ix2 r 0)) * v76 (ix3 0 c d) := by
    pointwise [k0_pay8, k0_pay9, k0_pay11]
  rw [hl, ha]
  exact hs

/-- The last, masked update on the diagonal block and the division: the weighted mean over the
columns up to the row's own. -/
theorem diagonal (i : grid0.Coords) (v24 : FVec Ideal S512x512 .f32) (v27 : FVec Ideal S512x128 .bf16)
    (n : ℕ) (h24 : ∀ r c, v24 (ix2 r c) = (score q kk cc r (n + c.val) : EReal))
    (h27 : ∀ c d, v27 (ix2 c d) = vv (n + c.val) d) (m l : FVec Ideal S512x1 .f32)
    (a : FVec Ideal S512x128 .f32) (r : Fin 512) (d : Fin 128)
    (h : State n (score q kk cc r) (fun j => vv j d) (m (ix2 r 0)) (l (ix2 r 0)) (a (ix2 r d))) :
    k0_pay1 m l a v24 v27 (k0_pay20 i) (iota Kind.tc S512x512 32 [1] iota_S512x512_d1_w32)
        (Scalar.muli (BitVec.ofNat 32 (i 2).val) 512#32) (ix3 0 r d)
      = mean (n + (r.val + 1)) (score q kk cc r) (fun j => vv j d) := by
  pointwise [k0_pay1, k0_pay20]
  rw [neg_inf, mask_value]
  have hmask : ∀ x : Fin 512, Scalar.select
      (IntOp.cmpi .sle (IntOp.addi (BitVec.ofNat 32 x.val) (Scalar.muli (BitVec.ofNat 32 (i 2).val) 512#32))
        (IntOp.addi (BitVec.ofNat 32 r.val) (Scalar.muli (BitVec.ofNat 32 (i 2).val) 512#32)))
      (v24 (ix2 r x)) ⊥ = if x.val < r.val + 1 then (score q kk cc r (n + x.val) : EReal) else ⊥ := fun x => by
    rw [mask_eq (i 2) x r, select_eq, h24]
    exact if_congr Nat.lt_succ_iff.symm rfl rfl
  simp only [hmask]
  have hs := (h.step (w := r.val + 1) (by omega) r.isLt
    (fun c => if c.val < r.val + 1 then (score q kk cc r (n + c.val) : EReal) else ⊥) (fun c => v27 (ix2 c d))
    (fun c => rfl) (fun c => h27 c d) rfl).div (by omega)
  exact hs

/-- The initial values: no column taken yet. -/
theorem init_state (σ : ℕ → ℝ) (v : ℕ → EReal) (r : Fin 512) (d : Fin 128) :
    State 0 σ v (k0_pay3 (F := Ideal) (ix2 r 0)) (k0_pay4 (F := Ideal) (ix2 r 0)) (k0_pay5 (F := Ideal) (ix2 r d)) := by
  refine .inl ⟨rfl, ?_, ?_, ?_⟩
  · pointwise [k0_pay3]
    exact mask_value
  · pointwise [k0_pay4]
  · pointwise [k0_pay5]

section

variable (c : Dev nD) (i : grid0.Coords)
  (arg3 : Memref sig .tc .vmem S1x512x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x1x4x1x512 .f32) (harg6 : arg6.IsWhole)
  (arg7 : Memref sig .tc .vmem S1x512x128 .bf16) (harg7 : arg7.IsWhole)
  (x0 : Vec Ideal S1x512x128 .bf16) (x1 x2 : Vec Ideal S1x2048x128 .bf16) (x3 : Vec Ideal S1x1x4x1x512 .f32)
  (h0 : ∀ r d, x0 (ix3 0 r d) = (q r d : EReal)) (h1 : ∀ (j : Fin 2048) d, x1 (ix3 0 j d) = (kk j d : EReal))
  (h2 : ∀ (j : Fin 2048) d, x2 (ix3 0 j d) = vv j d)
  (h3 : ∀ (b : Fin 4) (e : Fin 512), x3 (ix5 0 0 b 0 e) = (cc (512 * b.val + e.val) : EReal))

/-- The rows that a load takes from the keys or from the values. -/
theorem rows_real (x : Vec Ideal S1x2048x128 .bf16) (f : ℕ → Fin 128 → EReal)
    (hx : ∀ (j : Fin 2048) d, x (ix3 0 j d) = f j d) (off : Fin 3 → ℕ) (n : ℕ) (hn : n + 512 ≤ 2048) (ho : off = ![0, n, 0])
    (h : ∀ a, off a + S1x512x128.size a ≤ S1x2048x128.size a) (e : Fin 512) (d : Fin 128) :
    rows x off h (ix3 0 e d) = f (n + e.val) d :=
  (rows_apply x off n ho h e d ⟨n + e.val, by omega⟩ rfl).trans (hx _ d)

include h3 in
/-- The gates that a load takes, as reals. -/
theorem gates_real (off : Fin 5 → ℕ) (n : ℕ) (hn : n < 4) (ho : off = ![0, 0, n, 0, 0])
    (h : ∀ a, off a + S1x1x1x1x512.size a ≤ S1x1x4x1x512.size a) (e : Fin 512) :
    gates x3 off h (ix5 0 0 0 0 e) = (cc (512 * n + e.val) : EReal) :=
  (gates_apply x3 off ⟨n, hn⟩ ho h e).trans (h3 _ e)

include h0 h1 h2 h3 in
/-- Before trip `k` the loop carries the sums over the first `512 k` columns. -/
theorem carried_state (r : Fin 512) (d : Fin 128) (k : ℕ) (hk : k ≤ (i 2).val) :
    let s := carried c i arg3 harg3 arg4 harg4 arg5 harg5 arg6 harg6 arg7 harg7 x0 x1 x2 x3 k
    State (512 * k) (score q kk cc r) (fun j => vv j d) (s.1 (ix2 r 0)) (s.2.1 (ix2 r 0)) (s.2.2 (ix2 r d)) := by
  induction k with
  | zero => exact init_state _ _ r d
  | succ k ih =>
    have hlt : k < (k0_t1_loop i).trips := (Nat.lt_of_succ_le hk).trans_eq (trips1 i).symm
    have hk4 : k < 4 := trip_lt i ⟨k, hlt⟩
    have hs := trip_state q kk vv cc x0 (rows x1 (k0_off1 i ⟨k, hlt⟩) (k0_off1_inb i ⟨k, hlt⟩))
      (rows x2 (k0_off1 i ⟨k, hlt⟩) (k0_off1_inb i ⟨k, hlt⟩))
      (gates x3 (k0_off2 i ⟨k, hlt⟩) (k0_off2_inb i ⟨k, hlt⟩)) (512 * k) h0
      (rows_real x1 (fun j d => (kk j d : EReal)) h1 _ (512 * k) (by omega) (off1 i ⟨k, hlt⟩) _)
      (rows_real x2 vv h2 _ (512 * k) (by omega) (off1 i ⟨k, hlt⟩) _)
      (gates_real cc x3 h3 _ k hk4 (off2 i ⟨k, hlt⟩) _) _ _ _ r d (ih (Nat.le_of_succ_le hk))
    intro s
    have he : s = _ := carried_succ c i arg3 harg3 arg4 harg4 arg5 harg5 arg6 harg6 arg7 harg7 x0 x1 x2 x3 ⟨k, hlt⟩
    rw [he, Nat.mul_succ]
    exact hs

include h0 h1 h2 h3 in
/-- The output block of a grid point, at row `r` and channel `d`: the mean of the values weighted by
the softmax of the scores, over the columns up to the row's own. -/
theorem block_value (r : Fin 512) (d : Fin 128) :
    out0_A_4 (F := Ideal) c i arg3 harg3 arg4 harg4 arg5 harg5 arg6 harg6 arg7 harg7 x0 x1 x2 x3 (ix3 0 r d)
      = mean (512 * (i 2).val + (r.val + 1)) (score q kk cc r) (fun j => vv j d) := by
  have hi : (i 2).val < 4 := (i 2).isLt
  rw [out_eq]
  refine diagonal q kk vv cc i _ _ (512 * (i 2).val) (fun r e => ?_) (fun e d => ?_) _ _ _ r d
    (carried_state q kk vv cc c i arg3 harg3 arg4 harg4 arg5 harg5 arg6 harg6 arg7 harg7 x0 x1 x2 x3 h0 h1 h2 h3 r d _ le_rfl)
  · exact score_block q kk cc x0 _ _ _ h0 (rows_real x1 (fun j d => (kk j d : EReal)) h1 _ _ (by omega) (off5 i) _)
      (gates_real cc x3 h3 _ _ hi (off6 i) _) r e
  · have hv := rows_real x2 vv h2 _ _ (by omega) (off5 i) (k0_off5_inb i) e d
    pointwise [k0_pay19]
    exact hv

end

end Cert.KernelIdeal.Attn

end
-- ==== Proof.Array.lean ====
/- Hand-written, untrusted: THE RESULT ARRAY AS ONE FUNCTION OF THE ARGUMENT ARRAYS. With the argument arrays holding real
   numbers, each grid point's input blocks are named as places of the arguments (`query_block` to `gate_block`), and the
   array after the run is the causal attention of those numbers, head by head (`final`). -/
module

public import proofs.«01_k».proof.Proof.Block
public import proofs.«01_k».proof.Proof.Gen.KernelIdeal.Value
public import Idealize.ShloMosaic.Lib.Pipeline.ValueKit
public import Idealize.ShloMosaic.Lib.Pipeline.Covers

@[expose] public section

set_option maxRecDepth 16384

noncomputable section

namespace Cert.KernelIdeal.Attn

open Cert.KernelIdeal Cert.KernelIdeal.Gen Cert.KernelIdeal.Value Idealize.ShloMosaic Idealize.ShloMosaic.TcCoe Idealize.SL.Sem
open Cert.Online

/-- Column `d` of head `h` in the part of the projections that starts at column `base`. -/
def col (base : ℕ) (h : Fin 16) (d : Fin 128) : Fin 9728 := Fin.ofNat 9728 (base + 128 * h.val + d.val)

/-- Row `j` of head `h` of batch entry `b`, in the part of the projections that starts at column `base`. -/
def part (u : S4x2048x9728.Idx → ℝ) (base : ℕ) (b : Fin 4) (h : Fin 16) (j : ℕ) (d : Fin 128) : ℝ :=
  u (ix3 b (Fin.ofNat 2048 j) (col base h d))

/-- The summed log forget gate of head `h` of batch entry `b` at position `j`. -/
def gate (g : S4x16x2048.Idx → ℝ) (b : Fin 4) (h : Fin 16) (j : ℕ) : ℝ := g (ix3 b h (Fin.ofNat 2048 j))

/-- The score of key `j` for query `p`, but for a term that does not depend on the key. -/
def headScore (u : S4x2048x9728.Idx → ℝ) (g : S4x16x2048.Idx → ℝ) (b : Fin 4) (h : Fin 16) (p j : ℕ) : ℝ :=
  (∑ d, part u 3072 b h p d * part u 5120 b h j d) * scale - gate g b h j

/-- The attention at batch entry `b`, position `p`, head `h`, channel `d`: the values up to `p`, weighted by the softmax of
their scores. -/
def attn (u : S4x2048x9728.Idx → ℝ) (g : S4x16x2048.Idx → ℝ) (b : Fin 4) (p : ℕ) (h : Fin 16) (d : Fin 128) : EReal :=
  mean (p + 1) (headScore u g b h p) (fun j => (part u 7168 b h j d : EReal))

/-- The result array: head `h` in columns `128 h` to `128 h + 127`. -/
def result (u : S4x2048x9728.Idx → ℝ) (g : S4x16x2048.Idx → ℝ) (i : S4x2048x2048.Idx) : EReal :=
  attn u g (i 0) (i 1).val ⟨(i 2).val / 128, Nat.div_lt_of_lt_mul (i 2).isLt⟩ ⟨(i 2).val % 128, Nat.mod_lt _ (by decide)⟩

/-- The block that each window stages at a grid point. -/
theorem index0 : ∀ t : Fin cfg0.N, win0_0.index t = ![(grid0.coords t 0).val, (grid0.coords t 2).val, 24 + (grid0.coords t 1).val] :=
  (by decide +kernel : ∀ t : Fin grid0.N, _)
theorem index1 : ∀ t : Fin cfg0.N, win0_1.index t = ![(grid0.coords t 0).val, 0, 40 + (grid0.coords t 1).val] :=
  (by decide +kernel : ∀ t : Fin grid0.N, _)
theorem index2 : ∀ t : Fin cfg0.N, win0_2.index t = ![(grid0.coords t 0).val, 0, 56 + (grid0.coords t 1).val] :=
  (by decide +kernel : ∀ t : Fin grid0.N, _)
theorem index3 : ∀ t : Fin cfg0.N, win0_3.index t = ![(grid0.coords t 0).val, (grid0.coords t 1).val, 0, 0, 0] :=
  (by decide +kernel : ∀ t : Fin grid0.N, _)
theorem index4 : ∀ t : Fin cfg0.N, win0_4.index t = ![(grid0.coords t 0).val, (grid0.coords t 2).val, (grid0.coords t 1).val] :=
  (by decide +kernel : ∀ t : Fin grid0.N, _)

variable (m : (ℓ : Loc nD τ sig) → Buf (Elt Ideal) ℓ) (c : Dev nD)
  (u : S4x2048x9728.Idx → ℝ) (g : S4x16x2048.Idx → ℝ)
  (hu : ∀ i, m ((c : Thread nD τ).loc main_arg0) i = (u i : EReal))
  (hg : ∀ i, m ((c : Thread nD τ).loc main_arg1) i = (g i : EReal))

/-- A place of the projections by its coordinates. -/
theorem part_at (base : ℕ) (b : Fin 4) (h : Fin 16) (j : ℕ) (d : Fin 128) (hj : j < 2048) (hb : base + 2048 ≤ 9728)
    (i : S4x2048x9728.Idx) (h0 : (i 0).val = b.val) (h1 : (i 1).val = j) (h2 : (i 2).val = base + 128 * h.val + d.val) :
    u i = part u base b h j d := by
  unfold part col
  refine congrArg u (funext fun a => Fin.ext ?_)
  have hh := h.isLt
  have hd := d.isLt
  match a with
  | ⟨0, _⟩ => exact h0
  | ⟨1, _⟩ => exact h1.trans (Nat.mod_eq_of_lt hj).symm
  | ⟨2, _⟩ => exact h2.trans (Nat.mod_eq_of_lt (by omega)).symm

include hu in
/-- The queries of a grid point. -/
theorem query_block (t : Fin cfg0.N) (r : Fin 512) (d : Fin 128) :
    iblk m c 0 t (ix3 0 r d)
      = (part u 3072 (grid0.coords t 0) (grid0.coords t 1) (512 * (grid0.coords t 2).val + r.val) d : EReal) := by
  have e := index0 t
  have h1 : (grid0.coords t 2).val < 4 := (grid0.coords t 2).isLt
  have hp := part_at u 3072 (grid0.coords t 0) (grid0.coords t 1) (512 * (grid0.coords t 2).val + r.val) d (by omega) (by omega)
  rw [← hp (((cfg0.win 0).blk t).view.emb (ix3 0 r d)) (by blk_simp [e]; simp) (by blk_simp [e]; simp; omega)
    (by blk_simp [e]; simp; omega), ← hu, ← V_main_arg0 m c]
  rfl

include hu in
/-- The keys of a grid point. -/
theorem key_block (t : Fin cfg0.N) (j : Fin 2048) (d : Fin 128) :
    iblk m c 1 t (ix3 0 j d) = (part u 5120 (grid0.coords t 0) (grid0.coords t 1) j.val d : EReal) := by
  have e := index1 t
  have hp := part_at u 5120 (grid0.coords t 0) (grid0.coords t 1) j.val d j.isLt (by omega)
  rw [← hp (((cfg0.win 1).blk t).view.emb (ix3 0 j d)) (by blk_simp [e]; simp) (by blk_simp [e])
    (by blk_simp [e]; simp; omega), ← hu, ← V_main_arg0 m c]
  rfl

include hu in
/-- The values of a grid point. -/
theorem value_block (t : Fin cfg0.N) (j : Fin 2048) (d : Fin 128) :
    iblk m c 2 t (ix3 0 j d) = (part u 7168 (grid0.coords t 0) (grid0.coords t 1) j.val d : EReal) := by
  have e := index2 t
  have hp := part_at u 7168 (grid0.coords t 0) (grid0.coords t 1) j.val d j.isLt (by omega)
  rw [← hp (((cfg0.win 2).blk t).view.emb (ix3 0 j d)) (by blk_simp [e]; simp) (by blk_simp [e])
    (by blk_simp [e]; simp; omega), ← hu, ← V_main_arg0 m c]
  rfl

/-- The gates laid out by query block, at an index. -/
theorem gates_apply_host {α : Type} (x : S4x16x2048.Idx → α) (hs : S4x16x2048.ShapeCasts S4x16x4x1x512) (b : Fin 4) (h : Fin 16)
    (n : ℕ) (hn : n < 2048) (j : S4x16x4x1x512.Idx) (h0 : (j 0).val = b.val) (h1 : (j 1).val = h.val)
    (h2 : 512 * (j 2).val + (j 4).val = n) : shapeCast S4x16x4x1x512 x hs j = x (ix3 b h (Fin.ofNat 2048 n)) := by
  refine shapeCast_apply _ _ _ _ ?_
  idx_vars j
  rw [Shape.rowMajor_val_three, Shape.rowMajor_val_five]
  have hm : n % 2048 = n := Nat.mod_eq_of_lt hn
  have h3 := j3.isLt
  simp at h0 h1 h2 h3
  simp [hm]
  omega

include hg in
/-- The gates of a grid point. -/
theorem gate_block (t : Fin cfg0.N) (a : Fin 4) (x : Fin 512) :
    iblk m c 3 t (ix5 0 0 a 0 x) = (gate g (grid0.coords t 0) (grid0.coords t 1) (512 * a.val + x.val) : EReal) := by
  have e := index3 t
  refine Eq.trans ?_ (hg _)
  show V m c main_v0 (((cfg0.win 3).blk t).view.emb (ix5 0 0 a 0 x)) = _
  entry_read
  exact gates_apply_host _ _ (grid0.coords t 0) (grid0.coords t 1) _ (by omega) _ (by blk_simp [e]; simp)
    (by blk_simp [e]; simp) (by blk_simp [e])

/-- Every place of the result array lies in a block that is written back. -/
theorem covered (i : S4x2048x2048.Idx) :
    ∃ t : Fin cfg0.N, (cfg0.win 4).flush t = true ∧ i ∈ ((cfg0.win 4).blk t).view.set :=
  (by decide +kernel : (cfg0.win 4).Covers).cover _ (Memref.isWhole_whole _) i

/-- A place of the result array by its coordinates. -/
theorem result_at (b : Fin 4) (p : ℕ) (h : Fin 16) (d : Fin 128) (i : S4x2048x2048.Idx) (h0 : (i 0).val = b.val)
    (h1 : (i 1).val = p) (h2 : (i 2).val = 128 * h.val + d.val) : result u g i = attn u g b p h d := by
  have hd := d.isLt
  unfold result
  congr 1
  · exact Fin.ext h0
  · exact Fin.ext (by show (i 2).val / 128 = h.val; omega)
  · exact Fin.ext (by show (i 2).val % 128 = d.val; omega)

include hu hg in
/-- What a grid point leaves in its output block. -/
theorem point_value (t : Fin cfg0.N) (y : S1x512x128.Idx) :
    out0_A_4 c (grid0.coords t) (ms0_0 t) (hs0_0 t) (ms0_1 t) (hs0_1 t)
    (ms0_2 t) (hs0_2 t) (ms0_3 t) (hs0_3 t) (ms0_4 t) (hs0_4 t) (iblk m c 0 t) (iblk m c 1 t) (iblk m c 2 t) (iblk m c 3 t) y
      = result u g (((cfg0.win 4).blk t).view.emb y) := by
  have e := index4 t
  idx_vars y
  obtain rfl := Subsingleton.elim y0 0
  refine (block_value
    (fun r => part u 3072 (grid0.coords t 0) (grid0.coords t 1) (512 * (grid0.coords t 2).val + r.val))
    (part u 5120 (grid0.coords t 0) (grid0.coords t 1)) (fun j d => (part u 7168 (grid0.coords t 0) (grid0.coords t 1) j d : EReal))
    (gate g (grid0.coords t 0) (grid0.coords t 1)) c (grid0.coords t) (ms0_0 t) (hs0_0 t) (ms0_1 t) (hs0_1 t)
    (ms0_2 t) (hs0_2 t) (ms0_3 t) (hs0_3 t) (ms0_4 t) (hs0_4 t) (iblk m c 0 t) (iblk m c 1 t) (iblk m c 2 t) (iblk m c 3 t)
    (query_block m c u hu t) (key_block m c u hu t) (value_block m c u hu t) (gate_block m c g hg t) y1 y2).trans ?_
  rw [result_at u g (grid0.coords t 0) (512 * (grid0.coords t 2).val + y1.val) (grid0.coords t 1) y2 _
    (by blk_simp [e]; simp) (by blk_simp [e]; simp; omega) (by blk_simp [e]; simp; omega)]
  rfl

include hu hg in
/-- The array after the run. -/
theorem final : (dats m 0 c).arrAt 4 cfg0.N = result u g := by
  refine (dats m 0 c).arrAt_eq_of_cover 4 (result u g) (fun t _ => ?_) covered
  rw [flushed4_A]
  exact funext fun y => point_value m c u g hu hg t y

/-- The generated run with the result array at its function of the arguments. -/
theorem run (ρ : Dev nD → PrngReg) (u : Dev nD → S4x2048x9728.Idx → ℝ) (g : Dev nD → S4x16x2048.Idx → ℝ)
    (hu : ∀ c : Dev nD, ∀ i, m ((c : Thread nD τ).loc main_arg0) i = (u c i : EReal))
    (hg : ∀ c : Dev nD, ∀ i, m ((c : Thread nD τ).loc main_arg1) i = (g c i : EReal)) :
    θ_run defs (onTc (τ := τ) (main (F := Ideal))) ⟨m, fun _ => 0, ρ⟩ fun r => ∀ c : Dev nD,
      r.2.mem ((c : Thread nD τ).loc main_v1) = result (u c) (g c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c (u c) (g c) (hu c) (hg c)), (h c).2⟩) (run_blocks m ρ)

end Cert.KernelIdeal.Attn

end
-- ==== Proof.RefValue.lean ====
module

public import proofs.«01_k».proof.Proof.Array
public import proofs.«01_k».proof.Proof.Gen.ReferenceIdeal.Read

@[expose] public section

set_option maxRecDepth 16384

/-! # What the reference computes

At real argument arrays, the reference's result is the same causal attention of those numbers. -/

noncomputable section

namespace Cert.ReferenceIdeal.Attn

open Cert.ReferenceIdeal Cert.ReferenceIdeal.Read Idealize.ShloMosaic Idealize.ShloMosaic.TcCoe Idealize.SL.Sem
open Cert.Online Cert.KernelIdeal.Attn

variable (x0 : (⟨S4x2048x9728, .bf16⟩ : BufTy).Contents (Elt Ideal)) (x1 : (⟨S4x16x2048, .f32⟩ : BufTy).Contents (Elt Ideal))
  (u : S4x2048x9728.Idx → ℝ) (g : S4x16x2048.Idx → ℝ)
  (hu : ∀ i, x0 i = (u i : EReal)) (hg : ∀ i, x1 i = (g i : EReal))

include hu in
/-- The queries, head by head. -/
theorem queries (b : Fin 4) (p : Fin 2048) (h : Fin 16) (d : Fin 128) :
    val_main_v2 (F := Ideal) x0 (ix4 b p h d) = (part u 3072 b h p.val d : EReal) := by
  pointwise [val_main_v2, val_main_v1, val_main_v0]
  rw [hu, part_at u 3072 b h p.val d p.isLt (by omega) _ rfl rfl (by simp; omega)]

include hu in
/-- The keys, head by head. -/
theorem keys (b : Fin 4) (p : Fin 2048) (h : Fin 16) (d : Fin 128) :
    val_main_v5 (F := Ideal) x0 (ix4 b p h d) = (part u 5120 b h p.val d : EReal) := by
  pointwise [val_main_v5, val_main_v4, val_main_v3]
  rw [hu, part_at u 5120 b h p.val d p.isLt (by omega) _ rfl rfl (by simp; omega)]

include hu in
/-- The values, head by head. -/
theorem values (b : Fin 4) (p : Fin 2048) (h : Fin 16) (d : Fin 128) :
    val_main_v8 (F := Ideal) x0 (ix4 b p h d) = (part u 7168 b h p.val d : EReal) := by
  pointwise [val_main_v8, val_main_v7, val_main_v6]
  rw [hu, part_at u 7168 b h p.val d p.isLt (by omega) _ rfl rfl (by simp; omega)]

/-- The causal mask. -/
theorem causal (j p : Fin 2048) : IntOp.cmpi .sle (BitVec.ofNat 32 j.val) (BitVec.ofNat 32 p.val)
    = BitVec.ofBool (decide (j.val < p.val + 1)) := by
  have hj := j.isLt
  have hp := p.isLt
  show BitVec.ofBool (BitVec.sle _ _) = _
  have hn : ∀ y : Fin 2048, (BitVec.ofNat 32 y.val).toInt = y.val := fun y => by
    rw [BitVec.toInt_eq_toNat_of_lt (by simp only [BitVec.toNat_ofNat]; omega)]
    simp only [BitVec.toNat_ofNat]
    omega
  simp only [BitVec.sle, hn]
  congr 2
  simp only [eq_iff_iff]
  omega

include hu hg in
/-- One masked score. -/
theorem scores (b : Fin 4) (p j : Fin 2048) (h : Fin 16) :
    val_main_v24 (F := Ideal) x0 x1 (ix4 b h p j)
      = if j.val < p.val + 1 then ((headScore u g b h p.val j.val + gate g b h p.val : ℝ) : EReal) else ⊥ := by
  have hs : val_main_v24 (F := Ideal) x0 x1 (ix4 b h p j)
      = Scalar.select (IntOp.cmpi .sle (BitVec.ofNat 32 j.val) (BitVec.ofNat 32 p.val))
      ((∑ x, val_main_v2 x0 (ix4 b p h x) * val_main_v5 x0 (ix4 b j h x)) * Ideal.ofBits .f32 0x3DB504F3#32
        + x1 (ix3 b h p) - x1 (ix3 b h j)) (Ideal.ofBits .f32 0xFF800000#32) := by
    pointwise [val_main_v24, val_main_v9, val_main_v17, val_main_v14, val_main_v11, val_main_v10, val_main_v13, val_main_v12,
      val_main_v16, val_main_v15, val_main_call0_v2, val_main_call0_v1, val_main_call0_v0, val_main_v23, val_main_v22,
      val_main_v21, val_main_v20, val_main_v19, val_main_v18, val_main_cst, val_main_cst_0]
    rfl
  have hgate : ∀ k : Fin 2048, x1 (ix3 b h k) = (gate g b h k.val : EReal) := fun k => by
    rw [hg]
    exact congrArg (fun y : Fin 2048 => ((g (ix3 b h y) : ℝ) : EReal)) (Fin.ext (Nat.mod_eq_of_lt k.isLt).symm)
  rw [hs, causal, KernelIdeal.Attn.neg_inf, scale_eq, hgate, hgate]
  by_cases hjp : j.val < p.val + 1
  · have hd : decide (j.val < p.val + 1) = true := decide_eq_true hjp
    rw [hd, if_pos hjp]
    simp only [queries x0 u hu, keys x0 u hu, ← EReal.coe_mul, ← coe_sum, ← EReal.coe_add, ← EReal.coe_sub]
    refine (if_pos rfl : Scalar.select (BitVec.ofBool true) _ _ = _).trans (congrArg (fun y : ℝ => (y : EReal)) ?_)
    unfold headScore
    ring
  · have hd : decide (j.val < p.val + 1) = false := decide_eq_false hjp
    rw [hd, if_neg hjp]
    rfl

/-- A row's greatest score. -/
theorem greatest (b : Fin 4) (p : Fin 2048) (h : Fin 16) : val_main_v27 (F := Ideal) x0 x1 (ix3 b h p)
    = Finset.univ.fold max ⊥ fun k : Fin 2048 => val_main_v24 (F := Ideal) x0 x1 (ix4 b h p k) := by
  rw [val_main_v27_apply]
  generalize hy : val_main_v24 (F := Ideal) x0 x1 = y
  pointwise [val_main_v26, val_main_v25, val_main_cst_1, val_main_cst_2]
  rw [KernelIdeal.Attn.neg_inf, max_eq_right bot_le, hy]

/-- A score's weight before the division. -/
theorem expOne (b : Fin 4) (p j : Fin 2048) (h : Fin 16) : val_main_v31 (F := Ideal) x0 x1 (ix4 b h p j)
    = Ideal.exp (val_main_v24 (F := Ideal) x0 x1 (ix4 b h p j) - val_main_v27 (F := Ideal) x0 x1 (ix3 b h p)) := by
  pointwise [val_main_v31, val_main_v30, val_main_v29, val_main_v28]

/-- The sum of a row's weights. -/
theorem total (b : Fin 4) (p : Fin 2048) (h : Fin 16) : val_main_v32 (F := Ideal) x0 x1 (ix3 b h p)
    = ∑ k : Fin 2048, val_main_v31 (F := Ideal) x0 x1 (ix4 b h p k) := by
  generalize hy : val_main_v31 (F := Ideal) x0 x1 = y
  pointwise [val_main_v32, val_main_cst_3]
  rw [hy]

/-- The weighted sum of the values. -/
theorem weightedSum (b : Fin 4) (p : Fin 2048) (h : Fin 16) (d : Fin 128) :
    val_main_v36 (F := Ideal) x0 x1 (ix4 b h d p)
      = ∑ k : Fin 2048, val_main_v8 (F := Ideal) x0 (ix4 b k h d)
          * Ideal.div (val_main_v31 (F := Ideal) x0 x1 (ix4 b h p k)) (val_main_v32 (F := Ideal) x0 x1 (ix3 b h p)) := by
  generalize hy : val_main_v31 (F := Ideal) x0 x1 = y
  generalize hz : val_main_v32 (F := Ideal) x0 x1 = z
  pointwise [val_main_v36, val_main_v35, val_main_v34, val_main_v33]
  rw [hy, hz]

include hu hg in
/-- The attention of one head at one position, before the heads are laid side by side. -/
theorem head_value (b : Fin 4) (p : Fin 2048) (h : Fin 16) (d : Fin 128) :
    val_main_v36 (F := Ideal) x0 x1 (ix4 b h d p) = attn u g b p.val h d := by
  rw [weightedSum, total]
  simp only [expOne, values x0 u hu]
  exact softmax_mean (Nat.succ_pos p.val) p.isLt (headScore u g b h p.val) (fun j => (part u 7168 b h j d : EReal)) (gate g b h p.val)
    _ _ (scores x0 x1 u g hu hg b p · h) (fun _ => rfl) (greatest x0 x1 b p h)

include hu hg in
/-- The reference's result. -/
theorem result_eq : val_main_v39 (F := Ideal) x0 x1 = result u g := by
  funext i
  have h0 : (i 0).val < 4 := (i 0).isLt
  have h1 : (i 1).val < 2048 := (i 1).isLt
  have h2 : (i 2).val < 2048 := (i 2).isLt
  rw [val_main_v39_apply, val_main_v38_apply, val_main_v37_apply]
  refine Eq.trans (congrArg (val_main_v36 (F := Ideal) x0 x1) (?_ : _ = ix4 (i 0) ⟨(i 2).val / 128, by omega⟩ ⟨(i 2).val % 128, by omega⟩ (i 1)))
    (head_value x0 x1 u g hu hg _ _ _ _)
  refine funext fun a => Fin.ext ?_
  match a with
  | ⟨0, _⟩ => show (((i 0).val * 2048 + (i 1).val) * 2048 + (i 2).val) / 4194304 = (i 0).val; omega
  | ⟨1, _⟩ => show (((i 0).val * 2048 + (i 1).val) * 2048 + (i 2).val) / 128 % 16 = (i 2).val / 128; omega
  | ⟨2, _⟩ => show (((i 0).val * 2048 + (i 1).val) * 2048 + (i 2).val) % 128 = (i 2).val % 128; omega
  | ⟨3, _⟩ => show (((i 0).val * 2048 + (i 1).val) * 2048 + (i 2).val) / 2048 % 2048 = (i 1).val; omega

end Cert.ReferenceIdeal.Attn

end
-- ==== Proof.Norm.lean ====
module

public import Idealize.ShloMosaic.Lib.Pointwise

@[expose] public section

/-! # The root-mean-square norm of a row

Over the extended reals: a row divided by the root of its mean square, the small constant added under
the root. -/

noncomputable section

namespace Cert.Norm

open Idealize.ShloMosaic

/-- Element `d` of the row `x` of 2048 numbers, times the inverse root of the row's mean square. -/
def unitRow (x : Fin 2048 → EReal) (d : Fin 2048) : EReal :=
  x d * Ideal.rsqrt (Ideal.div (∑ k, x k * x k) (Ideal.ofBits .f32 0x45000000#32) + Ideal.ofBits .f32 0x358637BD#32)

/-- The normed row with its gains. -/
def normRow (x g : Fin 2048 → EReal) (d : Fin 2048) : EReal := unitRow x d * g d

end Cert.Norm

end
-- ==== Proof.ProjBlock.lean ====
module

public import proofs.«01_k».proof.Proof.Norm
public import proofs.«01_k».proof.Proof.Gen.Kernel2Ideal.Value
public import Idealize.ShloMosaic.Lib.Pipeline.ValueKit

@[expose] public section

set_option maxRecDepth 16384

/-! # What one grid point of the input projection computes

The first point of a row of blocks writes the normed rows into the scratch; every point multiplies the
scratch by its block of the weight. -/

noncomputable section

namespace Cert.Kernel2Ideal.Proj

open Cert.Kernel2Ideal Cert.Kernel2Ideal.Gen Idealize.ShloMosaic Idealize.ShloMosaic.TcCoe Idealize.SL.Sem
open Cert.Norm

/-- The stored normed rows, at an index. -/
theorem norm_apply (x0 : Vec Ideal S1024x2048 .f32) (x1 : Vec Ideal S1x2048 .f32) (r : Fin 1024) (d : Fin 2048) :
    k0_pay1 x0 x1 (ix2 r d) = normRow (fun k => x0 (ix2 r k)) (fun k => x1 (ix2 0 k)) d := by
  pointwise [k0_pay1]
  rfl

/-- The stored product, at an index. -/
theorem product_apply (h : Vec Ideal S1024x2048 .bf16) (w : Vec Ideal S2048x512 .bf16) (r : Fin 1024) (q : Fin 512) :
    k0_pay2 h w (ix2 r q) = ∑ d, h (ix2 r d) * w (ix2 d q) := by
  pointwise [k0_pay2]

variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S2048x512 .bf16) (harg4 : arg4.IsWhole) (arg5 : Memref sig .tc .vmem S1024x512 .bf16) (harg5 : arg5.IsWhole)
  (arg6 : Memref sig .tc .vmem S1024x2048 .bf16) (harg6 : arg6.IsWhole)
  (x0 : Vec Ideal S1024x2048 .f32) (x1 : Vec Ideal S1x2048 .f32) (x2 : Vec Ideal S2048x512 .bf16) (xs : Vec Ideal S1024x2048 .bf16)

/-- The scratch after the first point of a row of blocks. -/
theorem scratch_eq (hc : cond0_0 i) :
    sout0_A_0 (F := Ideal) c i arg2 harg2 arg3 harg3 arg4 harg4 arg5 harg5 arg6 harg6 hc x0 x1 x2 = k0_pay1 x0 x1 := by
  frame_out

/-- The output block of the first point of a row of blocks. -/
theorem first_eq (hc : cond0_0 i) :
    out0_A_3 (F := Ideal) c i arg2 harg2 arg3 harg3 arg4 harg4 arg5 harg5 arg6 harg6 hc x0 x1 x2 = k0_pay2 (k0_pay1 x0 x1) x2 := by
  frame_out

/-- The output block of every other point. -/
theorem later_eq (hc : ¬cond0_0 i) :
    out0_B_3 (F := Ideal) c i arg2 harg2 arg3 harg3 arg4 harg4 arg5 harg5 arg6 harg6 hc x0 x1 x2 xs = k0_pay2 xs x2 := by
  frame_out

end Cert.Kernel2Ideal.Proj

end
-- ==== Proof.Index.lean ====
module

public import Idealize.ShloMosaic.Lib.Pointwise
public import Idealize.ShloMosaic.Lib.Pipeline.ValueKit

@[expose] public section

set_option maxRecDepth 16384

/-! # Arrays read at an index -/

namespace Cert.Index

open Idealize.ShloMosaic

abbrev S4x2048x2048 : Shape := ⟨3, ![4, 2048, 2048]⟩
abbrev S8192x2048 : Shape := ⟨2, ![8192, 2048]⟩
abbrev S2048 : Shape := ⟨1, ![2048]⟩
abbrev S1x2048 : Shape := ⟨2, ![1, 2048]⟩

/-- Rows of four batch entries laid out one after another, at an index. -/
theorem rows_host {α : Type} (x : S4x2048x2048.Idx → α) (hs : S4x2048x2048.ShapeCasts S8192x2048) (p : ℕ) (hp : p < 8192)
    (d : Fin 2048) (j : S8192x2048.Idx) (h0 : (j 0).val = p) (h1 : (j 1).val = d.val) :
    shapeCast S8192x2048 x hs j = x (ix3 (Fin.ofNat 4 (p / 2048)) (Fin.ofNat 2048 (p % 2048)) d) := by
  refine shapeCast_apply _ _ _ _ ?_
  idx_vars j
  rw [Shape.rowMajor_val_three, Shape.rowMajor_val_two]
  simp at h0 h1
  simp [h0, h1]
  omega

/-- A vector laid out as one row, at an index. -/
theorem gains_host {α : Type} (x : S2048.Idx → α) (hs : S2048.ShapeCasts S1x2048) (d : Fin 2048) (j : S1x2048.Idx)
    (h1 : (j 1).val = d.val) : shapeCast S1x2048 x hs j = x (ix1 d) := by
  refine shapeCast_apply _ _ _ _ ?_
  idx_vars j
  rw [Shape.rowMajor_val_one, Shape.rowMajor_val_two]
  simp at h1
  simp [h1]

/-- An array read at an index whose coordinates are known. -/
theorem read_at {A B : ℕ} [NeZero A] [NeZero B] (x : (⟨2, ![A, B]⟩ : Shape).Idx → EReal) (j : (⟨2, ![A, B]⟩ : Shape).Idx) (a b : ℕ)
    (ha : (j 0).val = a) (hb : (j 1).val = b) (ha' : a < A) (hb' : b < B) : x j = x (ix2 (Fin.ofNat A a) (Fin.ofNat B b)) := by
  refine congrArg x (funext fun k => Fin.ext ?_)
  match k with
  | ⟨0, _⟩ => exact ha.trans (Nat.mod_eq_of_lt ha').symm
  | ⟨1, _⟩ => exact hb.trans (Nat.mod_eq_of_lt hb').symm

end Cert.Index
-- ==== Proof.ProjArray.lean ====
module

public import proofs.«01_k».proof.Proof.ProjBlock
public import proofs.«01_k».proof.Proof.Index
public import Idealize.ShloMosaic.Lib.Pipeline.Covers

@[expose] public section

set_option maxRecDepth 16384

/-! # The input projection's array after the run

The scratch holds the normed rows of its row of blocks at every point, so each block of the result is the
product of normed rows with columns of the weight. -/

noncomputable section

namespace Cert.Kernel2Ideal.Proj

open Cert.Kernel2Ideal Cert.Kernel2Ideal.Gen Cert.Kernel2Ideal.Value Idealize.ShloMosaic Idealize.ShloMosaic.TcCoe Idealize.SL.Sem
open Cert.Norm Cert.Index

/-- Row `p` of the input, the batch entries one after another. -/
def row (x : S4x2048x2048.Idx → EReal) (p : ℕ) (d : Fin 2048) : EReal :=
  x (ix3 (Fin.ofNat 4 (p / 2048)) (Fin.ofNat 2048 (p % 2048)) d)

/-- The projection of the normed row `p` on column `q` of the weight. -/
def proj (x : S4x2048x2048.Idx → EReal) (g : S2048.Idx → EReal) (w : S2048x9728.Idx → EReal) (p q : ℕ) : EReal :=
  ∑ d : Fin 2048, normRow (row x p) (fun k => g (ix1 k)) d * w (ix2 d (Fin.ofNat 9728 q))

/-- The result array. -/
def result (x : S4x2048x2048.Idx → EReal) (g : S2048.Idx → EReal) (w : S2048x9728.Idx → EReal) (i : S8192x9728.Idx) : EReal :=
  proj x g w (i 0).val (i 1).val

/-- The grid's points go row of blocks by row of blocks. -/
theorem coords_val : ∀ t : Fin cfg0.N, (grid0.coords t 0).val = t.val / 19 ∧ (grid0.coords t 1).val = t.val % 19 :=
  (by decide +kernel : ∀ t : Fin grid0.N, _)

/-- The block that each window stages at a grid point. -/
theorem index0 : ∀ t : Fin cfg0.N, win0_0.index t = ![t.val / 19, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, t.val % 19] := (by decide +kernel : ∀ t : Fin grid0.N, _)
theorem index3 : ∀ t : Fin cfg0.N, win0_3.index t = ![t.val / 19, t.val % 19] := (by decide +kernel : ∀ t : Fin grid0.N, _)

variable (m : (ℓ : Loc nD τ sig) → Buf (Elt Ideal) ℓ) (c : Dev nD)

/-- The three argument arrays. -/
abbrev argX : S4x2048x2048.Idx → EReal := m ((c : Thread nD τ).loc main_arg0)
abbrev argG : S2048.Idx → EReal := m ((c : Thread nD τ).loc main_arg1)
abbrev argW : S2048x9728.Idx → EReal := m ((c : Thread nD τ).loc main_arg2)

/-- The rows of a grid point. -/
theorem row_block (t : Fin cfg0.N) (r : Fin 1024) (d : Fin 2048) :
    iblk m c 0 t (ix2 r d) = row (argX m c) (1024 * (t.val / 19) + r.val) d := by
  have e := index0 t
  have ht : t.val < 152 := t.isLt.trans_eq N_0
  show V m c main_v0 (((cfg0.win 0).blk t).view.emb (ix2 r d)) = _
  entry_read
  exact rows_host _ _ _ (by omega) d _ (by blk_simp [e]; simp; omega) (by blk_simp [e])

/-- The gains of a grid point. -/
theorem gain_block (t : Fin cfg0.N) (d : Fin 2048) : iblk m c 1 t (ix2 0 d) = argG m c (ix1 d) := by
  have e := index1 t
  show V m c main_v1 (((cfg0.win 1).blk t).view.emb (ix2 0 d)) = _
  entry_read
  exact gains_host _ _ d _ (by blk_simp [e])

/-- The columns of the weight of a grid point. -/
theorem weight_block (t : Fin cfg0.N) (d : Fin 2048) (q : Fin 512) :
    iblk m c 2 t (ix2 d q) = argW m c (ix2 d (Fin.ofNat 9728 (512 * (t.val % 19) + q.val))) := by
  have e := index2 t
  have hq := q.isLt
  have hm : t.val % 19 < 19 := Nat.mod_lt _ (by decide)
  have hp : ((cfg0.win 2).blk t).view.emb (ix2 d q) = ix2 d (Fin.ofNat 9728 (512 * (t.val % 19) + q.val)) := by
    refine funext fun a => Fin.ext ?_
    match a with
    | ⟨0, _⟩ => blk_simp [e]
    | ⟨1, _⟩ =>
      refine Eq.trans ?_ (Nat.mod_eq_of_lt (by omega : 512 * (t.val % 19) + q.val < 9728)).symm
      blk_simp [e]; simp; omega
  rw [← hp]
  show V m c main_arg2 _ = _
  rw [V_main_arg2 m c]

/-- What the scratch holds after a grid point: the normed rows of the point's row of blocks. -/
theorem scratch_held (n : ℕ) (hn : n < cfg0.N) (r : Fin 1024) (d : Fin 2048) :
    (outsAt0 m c n hn).2 (ix2 r d) = normRow (row (argX m c) (1024 * (n / 19) + r.val)) (fun k => argG m c (ix1 k)) d := by
  induction n with
  | zero =>
    rw [outsAt0_A m c ⟨0, hn⟩ rfl]
    dsimp only
    rw [scratch_eq, norm_apply]
    simp only [row_block, gain_block]
  | succ n ih =>
    by_cases h0 : (n + 1) % 19 = 0
    · rw [outsAt0_A m c ⟨n + 1, hn⟩ h0]
      dsimp only
      rw [scratch_eq, norm_apply]
      simp only [row_block, gain_block]
    · rw [outsAt0_B m c ⟨n + 1, hn⟩ h0]
      refine (ih (Nat.lt_of_succ_lt hn)).trans ?_
      rw [show (n + 1) / 19 = n / 19 by omega]

/-- What a grid point leaves in its output block. -/
theorem point_value (t : Fin cfg0.N) (r : Fin 1024) (q : Fin 512) :
    (outsAt0 m c t.val t.isLt).1 (ix2 r q)
      = proj (argX m c) (argG m c) (argW m c) (1024 * (t.val / 19) + r.val) (512 * (t.val % 19) + q.val) := by
  by_cases h0 : t.val % 19 = 0
  · rw [outsAt0_A m c t h0]
    dsimp only
    rw [first_eq, product_apply]
    simp only [norm_apply, row_block, gain_block, weight_block]
    rfl
  · rw [outsAt0_B m c t h0]
    dsimp only
    rw [later_eq, product_apply]
    simp only [scratch_held, weight_block]
    rw [show (t.val - 1) / 19 = t.val / 19 by omega]
    rfl

/-- Every place of the result array lies in a block that is written back. -/
theorem covered (i : S8192x9728.Idx) : ∃ t : Fin cfg0.N, (cfg0.win 3).flush t = true ∧ i ∈ ((cfg0.win 3).blk t).view.set :=
  (by decide +kernel : (cfg0.win 3).Covers).cover _ (Memref.isWhole_whole _) i

/-- The array after the run. -/
theorem final : (dats m 0 c).arrAt 3 cfg0.N = result (argX m c) (argG m c) (argW m c) := by
  refine (dats m 0 c).arrAt_eq_of_cover 3 (result (argX m c) (argG m c) (argW m c)) (fun t _ => ?_) covered
  rw [flushed3]
  have e := index3 t
  refine funext fun y => ?_
  idx_vars y
  refine (point_value m c t y0 y1).trans ?_
  show _ = result (argX m c) (argG m c) (argW m c) (((cfg0.win 3).blk t).view.emb (ix2 y0 y1))
  unfold result
  congr 1
  · blk_simp [e]; simp; omega
  · blk_simp [e]; simp; omega

/-- The generated run with the result array at its function of the arguments. -/
theorem run (ρ : Dev nD → PrngReg) :
    θ_run defs (onTc (τ := τ) (main (F := Ideal))) ⟨m, fun _ => 0, ρ⟩ fun r => ∀ c : Dev nD,
      r.2.mem ((c : Thread nD τ).loc main_v2) = result (argX m c) (argG m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.Kernel2Ideal.Proj

end
-- ==== Proof.ProjRef.lean ====
module

public import proofs.«01_k».proof.Proof.ProjArray
public import proofs.«01_k».proof.Proof.Gen.Reference2Ideal.Read

@[expose] public section

set_option maxRecDepth 16384

/-! # What the projection's reference computes

The norm of each row of the input, then its product with the weight, the batch entries laid one after
another. -/

noncomputable section

namespace Cert.Reference2Ideal.Proj

open Cert.Reference2Ideal Cert.Reference2Ideal.Read Idealize.ShloMosaic Idealize.ShloMosaic.TcCoe Idealize.SL.Sem
open Cert.Norm Cert.Kernel2Ideal.Proj

variable (x0 : (⟨S4x2048x2048, .f32⟩ : BufTy).Contents (Elt Ideal)) (x1 : (⟨S2048, .f32⟩ : BufTy).Contents (Elt Ideal))
  (x2 : (⟨S2048x9728, .bf16⟩ : BufTy).Contents (Elt Ideal))

/-- The normed input, at an index. -/
theorem normed (b : Fin 4) (p d : Fin 2048) :
    val_main_v12 (F := Ideal) x0 x1 (ix3 b p d) = normRow (fun k => x0 (ix3 b p k)) (fun k => x1 (ix1 k)) d := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

/-- The product before it is laid out row by row. -/
theorem product (b : Fin 4) (p : Fin 2048) (q : Fin 9728) :
    val_main_v14 (F := Ideal) x0 x1 x2 (ix3 b p q) = ∑ d, val_main_v12 (F := Ideal) x0 x1 (ix3 b p d) * x2 (ix2 d q) := by
  generalize hy : val_main_v12 (F := Ideal) x0 x1 = y
  pointwise [val_main_v14, val_main_v13]
  rw [hy]

/-- The reference's result. -/
theorem result_eq : val_main_v16 (F := Ideal) x0 x1 x2 = result x0 x1 x2 := by
  funext i
  have h0 : (i 0).val < 8192 := (i 0).isLt
  have h1 : (i 1).val < 9728 := (i 1).isLt
  rw [val_main_v16_apply, val_main_v15_apply]
  refine Eq.trans (congrArg (val_main_v14 (F := Ideal) x0 x1 x2)
    (?_ : _ = ix3 (Fin.ofNat 4 ((i 0).val / 2048)) (Fin.ofNat 2048 ((i 0).val % 2048)) (Fin.ofNat 9728 (i 1).val)))
    ((product x0 x1 x2 _ _ _).trans (Finset.sum_congr rfl fun d _ => congrArg (· * _) (normed x0 x1 _ _ d)))
  refine funext fun a => Fin.ext ?_
  match a with
  | ⟨0, _⟩ => show ((i 0).val * 9728 + (i 1).val) / 19922944 = ((i 0).val / 2048) % 4; omega
  | ⟨1, _⟩ => show ((i 0).val * 9728 + (i 1).val) / 9728 % 2048 = ((i 0).val % 2048) % 2048; omega
  | ⟨2, _⟩ => show ((i 0).val * 9728 + (i 1).val) % 9728 = (i 1).val % 9728; omega

end Cert.Reference2Ideal.Proj

end
-- ==== Proof.Memory.lean ====
module

public import proofs.«01_k».proof.Proof.Online

@[expose] public section

/-! # The attention over the memory, one head at one position

The weights are the exponentials of the scores less the greatest one. The kernel divides the weighted sum
of the values by the sum of the weights; the reference divides each weight first. -/

noncomputable section

namespace Cert.Memory

open Idealize.ShloMosaic Cert.Online

/-- The weight of memory token `n` for the scores `s`. -/
def weight (s : Fin 256 → EReal) (n : Fin 256) : EReal := Ideal.exp (s n - Finset.univ.fold max ⊥ s)

/-- The weighted mean as the reference takes it: each weight divided by their sum. -/
def mean (s v : Fin 256 → EReal) : EReal := ∑ n, v n * Ideal.div (weight s n) (∑ k, weight s k)

/-- The weighted mean as the kernel takes it: the sum divided once. -/
def quotient (s v : Fin 256 → EReal) : EReal := Ideal.div (∑ n, weight s n * v n) (∑ k, weight s k)

/-- The gate's activation. -/
def silu (z : EReal) : EReal := z * Ideal.logistic z

/-- At real scores both ways of taking the mean agree, whatever the values are. -/
theorem quotient_eq (s v : Fin 256 → EReal) (hs : ∀ n, ∃ r : ℝ, s n = r) : quotient s v = mean s v := by
  obtain ⟨μ, hμ⟩ := fold_max_real s (fun c => by obtain ⟨r, hr⟩ := hs c; rw [hr]; exact EReal.coe_ne_top r) 0
    (by obtain ⟨r, hr⟩ := hs 0; rw [hr]; exact EReal.coe_ne_bot r)
  choose σ hσ using hs
  have hw : ∀ n, weight s n = (Real.exp (σ n - μ) : ℝ) := fun n => by
    rw [weight, hμ, hσ, ← EReal.coe_sub, Ideal.exp_coe]
  have hl : ∑ k, weight s k = ((∑ k, Real.exp (σ k - μ) : ℝ) : EReal) := by
    rw [coe_sum]; exact Finset.sum_congr rfl fun k _ => hw k
  have hp : 0 < ∑ k : Fin 256, Real.exp (σ k - μ) := Finset.sum_pos (fun _ _ => Real.exp_pos _) ⟨0, Finset.mem_univ _⟩
  rw [quotient, mean, hl, Ideal.div_coe hp.ne', sum_mul_real _ _ (one_div_pos.2 hp).le]
  refine Finset.sum_congr rfl fun n _ => ?_
  rw [Ideal.div_coe hp.ne']
  ac_rfl

end Cert.Memory

end
-- ==== Proof.OutBlock.lean ====
module

public import proofs.«01_k».proof.Proof.Memory
public import proofs.«01_k».proof.Proof.Norm
public import proofs.«01_k».proof.Proof.Gen.Kernel3Ideal.Value
public import Idealize.ShloMosaic.Lib.Pipeline.ValueKit
public import Idealize.ShloMosaic.Lib.Pipeline.ReadBack

@[expose] public section

set_option maxRecDepth 16384

/-! # What one grid point of the last output projection computes

The gated attention and the four gated memory heads are laid side by side in the scratch; the output is the
normed sum of the residual and their product with the weight. -/

noncomputable section

namespace Cert.Kernel3Ideal.Out

open Cert.Kernel3Ideal Cert.Kernel3Ideal.Gen Idealize.ShloMosaic Idealize.ShloMosaic.TcCoe Idealize.SL.Sem
open Cert.Norm Cert.Memory

/-- The word that begins the running maximum. -/
theorem neg_inf : Ideal.ofBits .f32 0xFF800000#32 = ⊥ := by simp [Ideal.ofBits, Ideal.ieee]

/-- The score's scale. -/
abbrev scale : EReal := Ideal.ofBits .f32 0x3DB504F3#32

/-- The gated attention, at an index. -/
theorem gated_apply (z y : Vec Ideal S256x2048 .bf16) (r : Fin 256) (d : Fin 2048) :
    k0_pay3 z y (ix2 r d) = y (ix2 r d) * silu (z (ix2 r d)) := by
  pointwise [k0_pay3]
  rfl

/-- One gated memory head, at an index. -/
theorem head_apply (q k v z : Vec Ideal S256x128 .bf16) (r : Fin 256) (d : Fin 128) :
    k0_pay4 q k v z (ix2 r d)
      = quotient (fun n => (∑ e, q (ix2 r e) * k (ix2 n e)) * scale) (fun n => v (ix2 n d)) * silu (z (ix2 r d)) := by
  pointwise [k0_pay4]
  rw [neg_inf]
  rfl

/-- The same head behind a change of layout that changes nothing. -/
theorem band_apply (q k v z : Vec Ideal S256x128 .bf16) : k0_pay5 (k0_pay4 q k v z) = k0_pay4 q k v z := by
  funext y
  idx_vars y
  pointwise [k0_pay5]

/-- The output block, at an index. -/
theorem output_apply (x : Vec Ideal S256x2048 .f32) (h : Vec Ideal S256x2560 .bf16) (w : Vec Ideal S2560x2048 .bf16)
    (g : Vec Ideal S1x2048 .f32) (r : Fin 256) (d : Fin 2048) :
    k0_pay2 x h w g (ix2 r d)
      = normRow (fun j => x (ix2 r j) + ∑ k, h (ix2 r k) * w (ix2 k j)) (fun j => g (ix2 0 j)) d := by
  pointwise [k0_pay2]
  rfl

/-- The scratch: the gated attention in the first 2048 columns, then the four gated memory heads, each 128
columns wide. -/
def gated (x0 x1 : S256x2048.Idx → EReal) (x2 x3 : S256x512.Idx → EReal) (x4 : S256x1024.Idx → EReal) (r : Fin 256) (k : ℕ) : EReal :=
  if k < 2048 then x0 (ix2 r (Fin.ofNat 2048 k)) * silu (x1 (ix2 r (Fin.ofNat 2048 k)))
  else quotient (fun n => (∑ e : Fin 128, x3 (ix2 r (Fin.ofNat 512 (128 * ((k - 2048) / 128) + e.val)))
        * x4 (ix2 n (Fin.ofNat 1024 (128 * ((k - 2048) / 128) + e.val)))) * scale)
      (fun n => x4 (ix2 n (Fin.ofNat 1024 (512 + (k - 2048))))) * silu (x2 (ix2 r (Fin.ofNat 512 (k - 2048))))

/-- The scratch as an array. -/
def scratch (x0 x1 : Vec Ideal S256x2048 .bf16) (x2 x3 : Vec Ideal S256x512 .bf16) (x4 : Vec Ideal S256x1024 .bf16) : Vec Ideal S256x2560 .bf16 :=
  fun j => gated x0 x1 x2 x3 x4 (j 0) (j 1).val

/-- The scratch at an index whose coordinates are known. -/
theorem scratch_at (x0 x1 : Vec Ideal S256x2048 .bf16) (x2 x3 : Vec Ideal S256x512 .bf16) (x4 : Vec Ideal S256x1024 .bf16)
    (j : S256x2560.Idx) (r : Fin 256) (k : ℕ) (h0 : (j 0).val = r.val) (h1 : (j 1).val = k) :
    scratch x0 x1 x2 x3 x4 j = gated x0 x1 x2 x3 x4 r k :=
  congrArg₂ (gated x0 x1 x2 x3 x4) (Fin.ext h0) h1

/-- A load of 128 columns, at an index. -/
theorem columns {N : ℕ} [NeZero N] (x : (⟨2, ![256, N]⟩ : Shape).Idx → EReal) (o : ℕ)
    (inb : ∀ a, (![0, o] : Fin 2 → ℕ) a + (![256, 128] : Fin 2 → ℕ) a ≤ (⟨2, ![256, N]⟩ : Shape).size a) (r : Fin 256) (d : Fin 128) :
    View.ld (Val := Elt Ideal) (e' := .f32) x (Rect.unit (s := ⟨2, ![256, N]⟩) ![0, o] ![256, 128] inb) (ix2 r d)
      = x (ix2 r (Fin.ofNat N (o + d.val))) := by
  refine View.ld_unit_apply_of (Val := Elt Ideal) (e := .f32) x _ _ _ _ _ fun a => ?_
  have h : o + 128 ≤ N := inb 1
  match a with
  | ⟨0, _⟩ => show r.val = 0 + r.val; omega
  | ⟨1, _⟩ => show (o + d.val) % N = o + d.val; exact Nat.mod_eq_of_lt (by omega)

/-- Memory head `h`, at an index, is the scratch's column. -/
theorem head_gated (x0 x1 : Vec Ideal S256x2048 .bf16) (x2 x3 : Vec Ideal S256x512 .bf16) (x4 : Vec Ideal S256x1024 .bf16)
    (h : ℕ) (o o' p : ℕ) (ho : o = 128 * h) (ho' : o' = 512 + 128 * h) (hp : p = 2048 + 128 * h)
    (i1 : ∀ a, (![0, o] : Fin 2 → ℕ) a + (![256, 128] : Fin 2 → ℕ) a ≤ S256x512.size a)
    (i2 : ∀ a, (![0, o] : Fin 2 → ℕ) a + (![256, 128] : Fin 2 → ℕ) a ≤ S256x1024.size a)
    (i3 : ∀ a, (![0, o'] : Fin 2 → ℕ) a + (![256, 128] : Fin 2 → ℕ) a ≤ S256x1024.size a)
    (i4 : ∀ a, (![0, p] : Fin 2 → ℕ) a + (![256, 128] : Fin 2 → ℕ) a ≤ S256x2560.size a)
    (y : S256x128.Idx) :
    k0_pay5 (F := Ideal) (k0_pay4 (F := Ideal) (View.ld x3 (Rect.unit ![0, o] ![256, 128] i1)) (View.ld x4 (Rect.unit ![0, o] ![256, 128] i2))
      (View.ld x4 (Rect.unit ![0, o'] ![256, 128] i3)) (View.ld x2 (Rect.unit ![0, o] ![256, 128] i1))) y
      = scratch x0 x1 x2 x3 x4 ((Rect.unit (s := S256x2560) ![0, p] ![256, 128] i4).emb y) := by
  idx_vars y
  rw [band_apply, head_apply]
  rw [scratch_at x0 x1 x2 x3 x4 _ y0 (p + y1.val) (by show 0 + 1 * y0.val = y0.val; omega) (by show p + 1 * y1.val = p + y1.val; omega)]
  have hy := y1.isLt
  have hk : (p + y1.val - 2048) / 128 = h := by omega
  rw [gated, if_neg (by omega), hk]
  have c1 := fun (d : Fin 128) => columns x3 o i1 y0 d
  have c2 := fun (n : Fin 256) (d : Fin 128) => columns x4 o i2 n d
  have c3 := fun (n : Fin 256) => columns x4 o' i3 n y1
  have c4 := columns x2 o i1 y0 y1
  refine congrArg₂ (fun a b : EReal => a * b) (congrArg₂ quotient (funext fun n => congrArg (fun a : EReal => a * scale) (Finset.sum_congr rfl fun e _ => ?_)) (funext fun n => ?_)) (congrArg silu ?_)
  · exact congrArg₂ (fun a b : EReal => a * b) ((c1 e).trans (by rw [ho])) ((c2 n e).trans (by rw [ho]))
  · exact (c3 n).trans (by rw [show o' + y1.val = 512 + (p + y1.val - 2048) by omega])
  · exact c4.trans (by rw [show o + y1.val = p + y1.val - 2048 by omega])

/-- The gated attention, at an index, is the scratch's column. -/
theorem attention_gated (x0 x1 : Vec Ideal S256x2048 .bf16) (x2 x3 : Vec Ideal S256x512 .bf16) (x4 : Vec Ideal S256x1024 .bf16)
    (i4 : ∀ a, (![0, 0] : Fin 2 → ℕ) a + (![256, 2048] : Fin 2 → ℕ) a ≤ S256x2560.size a) (y : S256x2048.Idx) :
    k0_pay3 (F := Ideal) x1 x0 y
      = scratch x0 x1 x2 x3 x4 ((Rect.unit (s := S256x2560) ![0, 0] ![256, 2048] i4).emb y) := by
  idx_vars y
  rw [gated_apply]
  rw [scratch_at x0 x1 x2 x3 x4 _ y0 y1.val (by show 0 + 1 * y0.val = y0.val; omega) (by show 0 + 1 * y1.val = y1.val; omega)]
  have hy : Fin.ofNat 2048 y1.val = y1 := Fin.ext (Nat.mod_eq_of_lt y1.isLt)
  rw [gated, if_pos y1.isLt, hy]

/-- A load of the whole scratch after stores that are all pieces of one array and fill it. -/
theorem whole_read {sg : RefSig} (v : View sg .tc .vmem S256x2560 .bf16) (L : List (View.Piece (Elt Ideal) S256x2560 .bf16)) (G : Vec Ideal S256x2560 .bf16)
    (hL : View.PiecesOf (Val := Elt Ideal) (e := .bf16) G L) (hc : ∀ y : S256x2560.Idx, ∃ p ∈ L, y ∈ p.1.set) (inb) :
    v.readCov L (Rect.unit (s := S256x2560) ![0, 0] ![256, 2560] inb).toLoadRect = G := by
  rw [View.readCov_eq_canon']
  funext y
  have hy : (Rect.unit (s := S256x2560) ![0, 0] ![256, 2560] inb).toLoadRect.idx y = y := funext fun a => Fin.ext (by
    match a with
    | ⟨0, _⟩ => show 0 + 1 * (y 0).val = (y 0).val; omega
    | ⟨1, _⟩ => show 0 + 1 * (y 1).val = (y 1).val; omega)
  have h := View.canon_append_of_piecesOf (Val := Elt Ideal) (e := .bf16) G [] L hL y (hc y)
  rw [List.append_nil] at h
  exact (congrArg (View.canon L) hy).trans h

/-- The output block of a grid point. -/
theorem out_eq (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x1024 .bf16) (harg5 : arg5.IsWhole) (arg6 : Memref sig .tc .vmem S256x2048 .f32) (harg6 : arg6.IsWhole) (arg7 : Memref sig .tc .vmem S2560x2048 .bf16) (harg7 : arg7.IsWhole) (arg8 : Memref sig .tc .vmem S1x2048 .f32) (harg8 : arg8.IsWhole) (arg9 : Memref sig .tc .vmem S256x2048 .f32) (harg9 : arg9.IsWhole) (arg10 : Memref sig .tc .vmem S256x2560 .bf16) (harg10 : arg10.IsWhole)
    (x0 : Vec Ideal S256x2048 .bf16) (x1 : Vec Ideal S256x2048 .bf16) (x2 : Vec Ideal S256x512 .bf16) (x3 : Vec Ideal S256x512 .bf16) (x4 : Vec Ideal S256x1024 .bf16) (x5 : Vec Ideal S256x2048 .f32) (x6 : Vec Ideal S2560x2048 .bf16) (x7 : Vec Ideal S1x2048 .f32)  :
    out0_A_8 c i arg1 harg1 arg2 harg2 arg3 harg3 arg4 harg4 arg5 harg5 arg6 harg6 arg7 harg7 arg8 harg8 arg9 harg9 arg10 harg10 x0 x1 x2 x3 x4 x5 x6 x7 = k0_pay2 x5 (scratch x0 x1 x2 x3 x4) x6 x7 := by
  frame_open
  frame_out
  refine congrArg (k0_pay2 x5 · x6 x7) (whole_read _ _ (scratch x0 x1 x2 x3 x4) ?_ (View.cover_of_tiledBy _ ![256, 128] (by sl_kernel_rfl)) _)
  refine ⟨?_, ?_, ?_, ?_, ?_, trivial⟩
  · exact fun x => head_gated x0 x1 x2 x3 x4 3 384 896 2432 rfl rfl rfl _ _ _ inb_S256x2560_S256x128_0_2432 x
  · exact fun x => head_gated x0 x1 x2 x3 x4 2 256 768 2304 rfl rfl rfl _ _ _ inb_S256x2560_S256x128_0_2304 x
  · exact fun x => head_gated x0 x1 x2 x3 x4 1 128 640 2176 rfl rfl rfl _ _ _ inb_S256x2560_S256x128_0_2176 x
  · exact fun x => head_gated x0 x1 x2 x3 x4 0 0 512 2048 rfl rfl rfl _ _ _ inb_S256x2560_S256x128_0_2048 x
  · exact fun x => attention_gated x0 x1 x2 x3 x4 inb_S256x2560_S256x2048_0_0 x

end Cert.Kernel3Ideal.Out
-- ==== Proof.OutArray.lean ====
module

public import proofs.«01_k».proof.Proof.OutBlock
public import proofs.«01_k».proof.Proof.Index
public import Idealize.ShloMosaic.Lib.Pipeline.Covers

@[expose] public section

set_option maxRecDepth 16384

/-! # The last output projection's array after the run

Every row of the result is a function of one row of the attention's output, of the gates and memory queries,
of the residual, and of its batch entry's memory. -/

noncomputable section

namespace Cert.Kernel3Ideal.Out

open Cert.Kernel3Ideal Cert.Kernel3Ideal.Gen Cert.Kernel3Ideal.Value Idealize.ShloMosaic Idealize.ShloMosaic.TcCoe Idealize.SL.Sem
open Cert.Norm Cert.Memory Cert.Index

section Spec

variable (q : (Fin 256 → EReal) → (Fin 256 → EReal) → EReal)
  (y : S4x2048x2048.Idx → EReal) (u : S8192x4608.Idx → EReal) (mkv : S1024x1024.Idx → EReal)
  (x : S8192x2048.Idx → EReal) (w : S2560x2048.Idx → EReal) (g : S2048.Idx → EReal)

/-- Row `p`, column `k` of the gates and memory queries. -/
def col (p k : ℕ) : EReal := u (ix2 (Fin.ofNat 8192 p) (Fin.ofNat 4608 k))

/-- Column `k` of memory token `n` of row `p`'s batch entry. -/
def mem (p n k : ℕ) : EReal := mkv (ix2 (Fin.ofNat 1024 (256 * (p / 2048) + n)) (Fin.ofNat 1024 k))

/-- The score of row `p`, head `h`, on memory token `n`. -/
def score (p h n : ℕ) : EReal := (∑ e : Fin 128, col u p (2560 + (128 * h + e.val)) * mem mkv p n (128 * h + e.val)) * scale

/-- Column `k` of the gated row `p`: the attention's output, then the memory heads, the mean of whose values
is taken by `q`. -/
def gatedRow (p k : ℕ) : EReal :=
  if k < 2048 then y (ix3 (Fin.ofNat 4 (p / 2048)) (Fin.ofNat 2048 (p % 2048)) (Fin.ofNat 2048 k)) * silu (col u p k)
  else q (fun n => score u mkv p ((k - 2048) / 128) n.val) (fun n => mem mkv p n.val (512 + (k - 2048))) * silu (col u p k)

/-- Row `p` after the output projection and the residual. -/
def sumRow (p : ℕ) (j : Fin 2048) : EReal :=
  x (ix2 (Fin.ofNat 8192 p) j) + ∑ k : Fin 2560, gatedRow q y u mkv p k.val * w (ix2 k j)

/-- The result array. -/
def result (i : S8192x2048.Idx) : EReal :=
  normRow (sumRow q y u mkv x w (i 0).val) (fun j => g (ix1 j)) (i 1)

end Spec

/-- At real memory queries and keys it does not matter for a gated row how the mean of the values is taken. -/
theorem gatedRow_quotient (y : S4x2048x2048.Idx → EReal) (u : S8192x4608.Idx → EReal) (mkv : S1024x1024.Idx → EReal)
    (hu : ∀ p k, k < 512 → ∃ r : ℝ, col u p (2560 + k) = r) (hm : ∀ p n k, k < 512 → ∃ r : ℝ, mem mkv p n k = r)
    (p k : ℕ) (hk : k < 2560) : gatedRow quotient y u mkv p k = gatedRow mean y u mkv p k := by
  have hs : scale = ((Ideal.ofBits .f32 0x3DB504F3#32).toReal : ℝ) := by
    refine (EReal.coe_toReal ?_ ?_).symm
    · simp [Ideal.ofBits, Ideal.ieee]
      rw [← EReal.coe_mul]; exact EReal.coe_ne_top _
    · simp [Ideal.ofBits, Ideal.ieee]
      rw [← EReal.coe_mul]; exact EReal.coe_ne_bot _
  have hscore : ∀ p h n, h < 4 → ∃ r : ℝ, score u mkv p h n = r := fun p h n hh => by
    choose a ha using fun e : Fin 128 => hu p (128 * h + e.val) (by omega)
    choose b hb using fun e : Fin 128 => hm p n (128 * h + e.val) (by omega)
    refine ⟨(∑ e, a e * b e) * (Ideal.ofBits .f32 0x3DB504F3#32).toReal, ?_⟩
    rw [EReal.coe_mul, ← hs, Cert.Online.coe_sum]
    exact congrArg (fun a : EReal => a * scale) (Finset.sum_congr rfl fun e _ => by rw [ha, hb, EReal.coe_mul])
  unfold gatedRow
  split
  · rfl
  · rw [quotient_eq _ _ fun n => hscore p _ n.val (by omega)]

/-- The same for a row after the output projection. -/
theorem sumRow_quotient (y : S4x2048x2048.Idx → EReal) (u : S8192x4608.Idx → EReal) (mkv : S1024x1024.Idx → EReal)
    (x : S8192x2048.Idx → EReal) (w : S2560x2048.Idx → EReal)
    (hu : ∀ p k, k < 512 → ∃ r : ℝ, col u p (2560 + k) = r) (hm : ∀ p n k, k < 512 → ∃ r : ℝ, mem mkv p n k = r) :
    sumRow quotient y u mkv x w = sumRow mean y u mkv x w := by
  have hrow : ∀ p (k : Fin 2560), gatedRow quotient y u mkv p k.val = gatedRow mean y u mkv p k.val := fun p k =>
    gatedRow_quotient y u mkv hu hm p k.val k.isLt
  funext p j
  unfold sumRow
  simp only [hrow]

/-- The same for the result array. -/
theorem result_quotient (y : S4x2048x2048.Idx → EReal) (u : S8192x4608.Idx → EReal) (mkv : S1024x1024.Idx → EReal)
    (x : S8192x2048.Idx → EReal) (w : S2560x2048.Idx → EReal) (g : S2048.Idx → EReal)
    (hu : ∀ p k, k < 512 → ∃ r : ℝ, col u p (2560 + k) = r) (hm : ∀ p n k, k < 512 → ∃ r : ℝ, mem mkv p n k = r) :
    result quotient y u mkv x w g = result mean y u mkv x w g := by
  unfold result
  rw [sumRow_quotient y u mkv x w hu hm]

/-- What the scratch holds, from what the five blocks that fill it hold in row `r`, which is row `p` of the
arrays. -/
theorem gated_blocks (y : S4x2048x2048.Idx → EReal) (u : S8192x4608.Idx → EReal) (mkv : S1024x1024.Idx → EReal)
    (Y Z : S256x2048.Idx → EReal) (ZM QM : S256x512.Idx → EReal) (M : S256x1024.Idx → EReal) (p : ℕ) (r : Fin 256)
    (hY : ∀ k : Fin 2048, Y (ix2 r k) = y (ix3 (Fin.ofNat 4 (p / 2048)) (Fin.ofNat 2048 (p % 2048)) k))
    (hZ : ∀ k : Fin 2048, Z (ix2 r k) = col u p k.val) (hZM : ∀ k : Fin 512, ZM (ix2 r k) = col u p (2048 + k.val))
    (hQM : ∀ k : Fin 512, QM (ix2 r k) = col u p (2560 + k.val))
    (hM : ∀ (n : Fin 256) (k : Fin 1024), M (ix2 n k) = mem mkv p n.val k.val) (k : ℕ) (hk : k < 2560) :
    gated Y Z ZM QM M r k = gatedRow quotient y u mkv p k := by
  unfold gated gatedRow
  split
  · rename_i h
    rw [hY, hZ, show (Fin.ofNat 2048 k).val = k from Nat.mod_eq_of_lt h]
  · have h1 : ∀ e : Fin 128, (Fin.ofNat 512 (128 * ((k - 2048) / 128) + e.val)).val = 128 * ((k - 2048) / 128) + e.val := fun e =>
      Nat.mod_eq_of_lt (by omega)
    have h2 : ∀ e : Fin 128, (Fin.ofNat 1024 (128 * ((k - 2048) / 128) + e.val)).val = 128 * ((k - 2048) / 128) + e.val := fun e =>
      Nat.mod_eq_of_lt (by omega)
    have h3 : (Fin.ofNat 1024 (512 + (k - 2048))).val = 512 + (k - 2048) := Nat.mod_eq_of_lt (by omega)
    have h4 : (Fin.ofNat 512 (k - 2048)).val = k - 2048 := Nat.mod_eq_of_lt (by omega)
    simp only [hQM, hZM, hM, h1, h2, h3, h4]
    rw [show 2048 + (k - 2048) = k by omega]
    rfl

/-- The block that each window stages at a grid point. -/
theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 4] := (by decide +kernel : ∀ t : Fin grid0.N, _)
theorem index3 : ∀ t : Fin cfg0.N, win0_3.index t = ![t.val, 5] := (by decide +kernel : ∀ t : Fin grid0.N, _)
theorem index4 : ∀ t : Fin cfg0.N, win0_4.index t = ![t.val / 8, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![t.val, 0] := (by decide +kernel : ∀ t : Fin grid0.N, _)

variable (m : (ℓ : Loc nD τ sig) → Buf (Elt Ideal) ℓ) (c : Dev nD)

/-- The six argument arrays. -/
abbrev argY : S4x2048x2048.Idx → EReal := m ((c : Thread nD τ).loc main_arg0)
abbrev argU : S8192x4608.Idx → EReal := m ((c : Thread nD τ).loc main_arg1)
abbrev argM : S1024x1024.Idx → EReal := m ((c : Thread nD τ).loc main_arg2)
abbrev argX : S8192x2048.Idx → EReal := m ((c : Thread nD τ).loc main_arg3)
abbrev argW : S2560x2048.Idx → EReal := m ((c : Thread nD τ).loc main_arg4)
abbrev argG : S2048.Idx → EReal := m ((c : Thread nD τ).loc main_arg5)

/-- The attention's output. -/
theorem y_block (t : Fin cfg0.N) (r : Fin 256) (k : Fin 2048) :
    iblk m c 0 t (ix2 r k) = argY m c (ix3 (Fin.ofNat 4 ((256 * t.val + r.val) / 2048)) (Fin.ofNat 2048 ((256 * t.val + r.val) % 2048)) k) := by
  have e := index0 t
  have ht : t.val < 32 := t.isLt.trans_eq N_0
  show V m c main_v0 (((cfg0.win 0).blk t).view.emb (ix2 r k)) = _
  entry_read
  exact rows_host _ _ _ (by omega) k _ (by blk_simp [e]; simp; omega) (by blk_simp [e])

/-- The gates of the attention. -/
theorem zy_block (t : Fin cfg0.N) (r : Fin 256) (k : Fin 2048) : X0_1 m c t (ix2 r k) = col (argU m c) (256 * t.val + r.val) k.val := by
  have e := index1 t
  have ht : t.val < 32 := t.isLt.trans_eq N_0
  unfold X0_1 Pipeline.Window.fill
  rw [dif_pos (moved0_1 t _)]
  show V m c main_arg1 (((cfg0.win 1).blk t).view.emb _) = _
  rw [V_main_arg1 m c]
  exact read_at (A := 8192) (B := 4608) (argU m c) _ _ _ (by blk_simp [e]; simp; omega) (by blk_simp [e]) (by omega) (by omega)

/-- The gates of the memory heads. -/
theorem zm_block (t : Fin cfg0.N) (r : Fin 256) (k : Fin 512) : iblk m c 2 t (ix2 r k) = col (argU m c) (256 * t.val + r.val) (2048 + k.val) := by
  have e := index2 t
  have ht : t.val < 32 := t.isLt.trans_eq N_0
  show V m c main_arg1 (((cfg0.win 2).blk t).view.emb (ix2 r k)) = _
  rw [V_main_arg1 m c]
  exact read_at (A := 8192) (B := 4608) (argU m c) _ _ _ (by blk_simp [e]; simp; omega) (by blk_simp [e]) (by omega) (by omega)

/-- The memory queries. -/
theorem qm_block (t : Fin cfg0.N) (r : Fin 256) (k : Fin 512) : iblk m c 3 t (ix2 r k) = col (argU m c) (256 * t.val + r.val) (2560 + k.val) := by
  have e := index3 t
  have ht : t.val < 32 := t.isLt.trans_eq N_0
  show V m c main_arg1 (((cfg0.win 3).blk t).view.emb (ix2 r k)) = _
  rw [V_main_arg1 m c]
  exact read_at (A := 8192) (B := 4608) (argU m c) _ _ _ (by blk_simp [e]; simp; omega) (by blk_simp [e]) (by omega) (by omega)

/-- The memory keys and values. -/
theorem mem_block (t : Fin cfg0.N) (r n : Fin 256) (k : Fin 1024) : iblk m c 4 t (ix2 n k) = mem (argM m c) (256 * t.val + r.val) n.val k.val := by
  have e := index4 t
  have ht : t.val < 32 := t.isLt.trans_eq N_0
  have hr : (256 * t.val + r.val) / 2048 = t.val / 8 := by omega
  show V m c main_arg2 (((cfg0.win 4).blk t).view.emb (ix2 n k)) = _
  rw [V_main_arg2 m c, mem, hr]
  exact read_at (A := 1024) (B := 1024) (argM m c) _ _ _ (by blk_simp [e]; simp; omega) (by blk_simp [e]) (by omega) (by omega)

/-- The residual. -/
theorem x_block (t : Fin cfg0.N) (r : Fin 256) (k : Fin 2048) : iblk m c 5 t (ix2 r k) = argX m c (ix2 (Fin.ofNat 8192 (256 * t.val + r.val)) k) := by
  have e := index5 t
  have ht : t.val < 32 := t.isLt.trans_eq N_0
  show V m c main_arg3 (((cfg0.win 5).blk t).view.emb (ix2 r k)) = _
  rw [V_main_arg3 m c]
  refine (read_at (A := 8192) (B := 2048) (argX m c) _ (256 * t.val + r.val) k.val (by blk_simp [e]; simp; omega) (by blk_simp [e]) (by omega) (by omega)).trans ?_
  rw [show Fin.ofNat 2048 k.val = k from Fin.ext (Nat.mod_eq_of_lt k.isLt)]

/-- The weight. -/
theorem w_block (t : Fin cfg0.N) (k : Fin 2560) (j : Fin 2048) : iblk m c 6 t (ix2 k j) = argW m c (ix2 k j) := by
  have e := index6 t
  show V m c main_v1 (((cfg0.win 6).blk t).view.emb (ix2 k j)) = _
  entry_read
  refine congrArg (argW m c) (funext fun a => Fin.ext ?_)
  match a with
  | ⟨0, _⟩ => blk_simp [e]
  | ⟨1, _⟩ => blk_simp [e]

/-- The gains of the final norm. -/
theorem gain_block (t : Fin cfg0.N) (d : Fin 2048) : iblk m c 7 t (ix2 0 d) = argG m c (ix1 d) := by
  have e := index7 t
  show V m c main_v2 (((cfg0.win 7).blk t).view.emb (ix2 0 d)) = _
  entry_read
  exact gains_host _ _ d _ (by blk_simp [e])

/-- The scratch of a grid point holds the gated rows. -/
theorem gated_point (t : Fin cfg0.N) (r : Fin 256) (k : ℕ) (hk : k < 2560) :
    gated (iblk m c 0 t) (X0_1 m c t) (iblk m c 2 t) (iblk m c 3 t) (iblk m c 4 t) r k
      = gatedRow quotient (argY m c) (argU m c) (argM m c) (256 * t.val + r.val) k :=
  gated_blocks _ _ _ _ _ _ _ _ _ r (y_block m c t r) (zy_block m c t r) (zm_block m c t r) (qm_block m c t r)
    (mem_block m c t r) k hk

/-- Every place of the result array lies in a block that is written back. -/
theorem covered (i : S8192x2048.Idx) : ∃ t : Fin cfg0.N, (cfg0.win 8).flush t = true ∧ i ∈ ((cfg0.win 8).blk t).view.set :=
  (by decide +kernel : (cfg0.win 8).Covers).cover _ (Memref.isWhole_whole _) i

/-- What a grid point leaves in its output block. -/
theorem point_value (t : Fin cfg0.N) (r : Fin 256) (d : Fin 2048) :
    outsAt0 m c t (ix2 r d) = normRow (sumRow quotient (argY m c) (argU m c) (argM m c) (argX m c) (argW m c) (256 * t.val + r.val))
      (fun j => argG m c (ix1 j)) d := by
  unfold outsAt0
  rw [out_eq, output_apply]
  have h : ∀ k : Fin 2560, scratch (iblk m c 0 t) (X0_1 m c t) (iblk m c 2 t) (iblk m c 3 t) (iblk m c 4 t) (ix2 r k)
      = gatedRow quotient (argY m c) (argU m c) (argM m c) (256 * t.val + r.val) k.val := fun k =>
    (scratch_at _ _ _ _ _ _ r k.val rfl rfl).trans (gated_point m c t r k.val k.isLt)
  simp only [x_block, gain_block, w_block, h]
  rfl

/-- The array after the run. -/
theorem final : (dats m 0 c).arrAt 8 cfg0.N = result quotient (argY m c) (argU m c) (argM m c) (argX m c) (argW m c) (argG m c) := by
  refine (dats m 0 c).arrAt_eq_of_cover 8 (result quotient (argY m c) (argU m c) (argM m c) (argX m c) (argW m c) (argG m c)) (fun t _ => ?_) covered
  rw [flushed8]
  have e := index8 t
  refine funext fun y => ?_
  idx_vars y
  refine (point_value m c t y0 y1).trans ?_
  show _ = result quotient (argY m c) (argU m c) (argM m c) (argX m c) (argW m c) (argG m c) (((cfg0.win 8).blk t).view.emb (ix2 y0 y1))
  unfold result
  have h0 : (((cfg0.win 8).blk t).view.emb (ix2 y0 y1) 0).val = 256 * t.val + y0.val := by blk_simp [e]; simp; omega
  have h1 : ((cfg0.win 8).blk t).view.emb (ix2 y0 y1) 1 = y1 := Fin.ext (by blk_simp [e])
  rw [h0, h1]

/-- The generated run with the result array at its function of the arguments. -/
theorem run (ρ : Dev nD → PrngReg) :
    θ_run defs (onTc (τ := τ) (main (F := Ideal))) ⟨m, fun _ => 0, ρ⟩ fun r => ∀ c : Dev nD,
      r.2.mem ((c : Thread nD τ).loc main_v3) = result quotient (argY m c) (argU m c) (argM m c) (argX m c) (argW m c) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (run_blocks m ρ)

end Cert.Kernel3Ideal.Out

end
-- ==== Proof.OutRef.lean ====
module

public import proofs.«01_k».proof.Proof.OutArray
public import proofs.«01_k».proof.Proof.Gen.Reference3Ideal.Read
public import proofs.«01_k».proof.Proof.Gen.Pre_finite_memory
public import proofs.«01_k».proof.Proof.Finite

@[expose] public section

set_option maxRecDepth 16384

/-! # What the last output projection's reference computes

Row `2048 b + r` of the result belongs to position `r` of batch entry `b`. -/

noncomputable section

namespace Cert.Reference3Ideal.Out

open Cert.Reference3Ideal Cert.Reference3Ideal.Read Idealize.ShloMosaic Idealize.ShloMosaic.TcCoe Idealize.SL.Sem
open Cert.Norm Cert.Memory Cert.Index Cert.Kernel3Ideal.Out

variable (x0 : (⟨S4x2048x2048, .bf16⟩ : BufTy).Contents (Elt Ideal)) (x1 : (⟨S8192x4608, .bf16⟩ : BufTy).Contents (Elt Ideal))
  (x2 : (⟨S1024x1024, .bf16⟩ : BufTy).Contents (Elt Ideal)) (x3 : (⟨S8192x2048, .f32⟩ : BufTy).Contents (Elt Ideal))
  (x4 : (⟨S2560x2048, .f32⟩ : BufTy).Contents (Elt Ideal)) (x5 : (⟨S2048, .f32⟩ : BufTy).Contents (Elt Ideal))

/-- The gates. -/
theorem gates (b : Fin 4) (r : Fin 2048) (k : Fin 2560) :
    val_main_v4 (F := Ideal) x1 (ix3 b r k) = col x1 (2048 * b.val + r.val) k.val := by
  pointwise [val_main_v4, val_main_v1, val_main_v0]
  exact read_at (A := 8192) (B := 4608) x1 _ _ _ (by simp; omega) (by simp) (by omega) (by omega)

/-- The memory queries, head by head. -/
theorem queries (b : Fin 4) (r : Fin 2048) (h : Fin 4) (e : Fin 128) :
    val_main_v6 (F := Ideal) x1 (ix4 b r h e) = col x1 (2048 * b.val + r.val) (2560 + (128 * h.val + e.val)) := by
  pointwise [val_main_v6, val_main_v5, val_main_v1, val_main_v0]
  exact read_at (A := 8192) (B := 4608) x1 _ _ _ (by simp; omega) (by simp; omega) (by omega) (by omega)

/-- The memory keys, head by head. -/
theorem keys (b : Fin 4) (r : Fin 2048) (n : Fin 256) (h : Fin 4) (e : Fin 128) :
    val_main_v8 (F := Ideal) x2 (ix4 b n h e) = mem x2 (2048 * b.val + r.val) n.val (128 * h.val + e.val) := by
  have hb : (2048 * b.val + r.val) / 2048 = b.val := by omega
  pointwise [val_main_v8, val_main_v7, val_main_v3, val_main_v2]
  rw [mem, hb]
  exact read_at (A := 1024) (B := 1024) x2 _ _ _ (by simp; omega) (by simp; omega) (by omega) (by omega)

/-- The memory values, head by head. -/
theorem values (b : Fin 4) (r : Fin 2048) (n : Fin 256) (h : Fin 4) (e : Fin 128) :
    val_main_v24 (F := Ideal) x2 (ix4 b n h e) = mem x2 (2048 * b.val + r.val) n.val (512 + (128 * h.val + e.val)) := by
  have hb : (2048 * b.val + r.val) / 2048 = b.val := by omega
  pointwise [val_main_v24, val_main_v23, val_main_v3, val_main_v2]
  rw [mem, hb]
  exact read_at (A := 1024) (B := 1024) x2 _ _ _ (by simp; omega) (by simp; omega) (by omega) (by omega)

/-- One score. -/
theorem scores (b : Fin 4) (r : Fin 2048) (h : Fin 4) (n : Fin 256) :
    val_main_v11 (F := Ideal) x1 x2 (ix4 b h r n) = score x1 x2 (2048 * b.val + r.val) h.val n.val := by
  have hs : val_main_v11 (F := Ideal) x1 x2 (ix4 b h r n)
      = (∑ e : Fin 128, val_main_v6 (F := Ideal) x1 (ix4 b r h e) * val_main_v8 (F := Ideal) x2 (ix4 b n h e)) * scale := by
    generalize hy : val_main_v6 (F := Ideal) x1 = y
    generalize hz : val_main_v8 (F := Ideal) x2 = z
    pointwise [val_main_v11, val_main_v10, val_main_v9, val_main_cst]
    rw [hy, hz]
  rw [hs]
  simp only [queries, keys x2 b r]
  rfl

/-- The greatest score of a row. -/
theorem greatest (b : Fin 4) (r : Fin 2048) (h : Fin 4) : val_main_v14 (F := Ideal) x1 x2 (ix3 b h r)
    = Finset.univ.fold max ⊥ fun n : Fin 256 => val_main_v11 (F := Ideal) x1 x2 (ix4 b h r n) := by
  rw [val_main_v14_apply]
  generalize hy : val_main_v11 (F := Ideal) x1 x2 = y
  pointwise [val_main_v13, val_main_v12, val_main_cst_0, val_main_cst_1]
  rw [neg_inf, max_eq_right bot_le, hy]

/-- One weight before the division. -/
theorem expOne (b : Fin 4) (r : Fin 2048) (h : Fin 4) (n : Fin 256) : val_main_v18 (F := Ideal) x1 x2 (ix4 b h r n)
    = Ideal.exp (val_main_v11 (F := Ideal) x1 x2 (ix4 b h r n) - val_main_v14 (F := Ideal) x1 x2 (ix3 b h r)) := by
  generalize hy : val_main_v11 (F := Ideal) x1 x2 = y
  generalize hz : val_main_v14 (F := Ideal) x1 x2 = z
  pointwise [val_main_v18, val_main_v17, val_main_v16, val_main_v15]
  rw [hy, hz]

/-- The sum of a row's weights. -/
theorem total (b : Fin 4) (r : Fin 2048) (h : Fin 4) : val_main_v19 (F := Ideal) x1 x2 (ix3 b h r)
    = ∑ n : Fin 256, val_main_v18 (F := Ideal) x1 x2 (ix4 b h r n) := by
  generalize hy : val_main_v18 (F := Ideal) x1 x2 = y
  pointwise [val_main_v19, val_main_cst_2]
  rw [hy]

/-- The weighted mean of the memory values. -/
theorem memoryHead (b : Fin 4) (r : Fin 2048) (h : Fin 4) (e : Fin 128) : val_main_v25 (F := Ideal) x1 x2 (ix4 b h e r)
    = mean (fun n => score x1 x2 (2048 * b.val + r.val) h.val n.val)
        (fun n => mem x2 (2048 * b.val + r.val) n.val (512 + (128 * h.val + e.val))) := by
  have hs : val_main_v25 (F := Ideal) x1 x2 (ix4 b h e r) = ∑ n : Fin 256, val_main_v24 (F := Ideal) x2 (ix4 b n h e)
      * Ideal.div (val_main_v18 (F := Ideal) x1 x2 (ix4 b h r n)) (val_main_v19 (F := Ideal) x1 x2 (ix3 b h r)) := by
    generalize hy : val_main_v18 (F := Ideal) x1 x2 = y
    generalize hz : val_main_v19 (F := Ideal) x1 x2 = z
    generalize hw : val_main_v24 (F := Ideal) x2 = w
    pointwise [val_main_v25, val_main_v22, val_main_v21, val_main_v20]
    rw [hy, hz, hw]
  rw [hs, total]
  simp only [expOne, greatest, scores, values x2 b r]
  rfl

/-- The memory heads side by side. -/
theorem memoryRow (b : Fin 4) (r : Fin 2048) (k : Fin 512) : val_main_v28 (F := Ideal) x1 x2 (ix3 b r k)
    = mean (fun n => score x1 x2 (2048 * b.val + r.val) (k.val / 128) n.val)
        (fun n => mem x2 (2048 * b.val + r.val) n.val (512 + k.val)) := by
  have hs : val_main_v28 (F := Ideal) x1 x2 (ix3 b r k)
      = val_main_v25 (F := Ideal) x1 x2 (ix4 b ⟨k.val / 128, by omega⟩ ⟨k.val % 128, by omega⟩ r) := by
    rw [val_main_v28_apply, val_main_v26_apply]
    refine congrArg (val_main_v25 (F := Ideal) x1 x2) (funext fun a => Fin.ext ?_)
    match a with
    | ⟨0, _⟩ => show ((b.val * 2048 + r.val) * 512 + k.val) / 1048576 = b.val; omega
    | ⟨1, _⟩ => show ((b.val * 2048 + r.val) * 512 + k.val) / 128 % 4 = k.val / 128; omega
    | ⟨2, _⟩ => show ((b.val * 2048 + r.val) * 512 + k.val) % 128 = k.val % 128; omega
    | ⟨3, _⟩ => show ((b.val * 2048 + r.val) * 512 + k.val) / 512 % 2048 = r.val; omega
  rw [hs, memoryHead]
  simp only [show 128 * (k.val / 128) + k.val % 128 = k.val by omega]

/-- The activated gates. -/
theorem activated (b : Fin 4) (r : Fin 2048) (k : Fin 2560) :
    val_main_v30 (F := Ideal) x1 (ix3 b r k) = silu (col x1 (2048 * b.val + r.val) k.val) := by
  have h1 : Ideal.ofBits .f32 0x3F800000#32 = 1 := by
    simp [Ideal.ofBits, Ideal.ieee]
    rw [← EReal.coe_mul, show (8388608 : ℝ) * (2 ^ 23)⁻¹ = 1 by norm_num, EReal.coe_one]
  have hs : val_main_v30 (F := Ideal) x1 (ix3 b r k) = val_main_v4 (F := Ideal) x1 (ix3 b r k)
      * Ideal.div (Ideal.ofBits .f32 0x3F800000#32) (Ideal.ofBits .f32 0x3F800000#32 + Ideal.exp (-val_main_v4 (F := Ideal) x1 (ix3 b r k))) := by
    generalize hy : val_main_v4 (F := Ideal) x1 = y
    pointwise [val_main_v30, val_main_call0_v5, val_main_call0_v4, val_main_call0_v3, val_main_call0_v2, val_main_call0_v1,
      val_main_call0_v0, val_main_call0_cst, val_main_call0_cst_0]
    rw [hy]
  rw [hs, h1, gates]
  rfl

/-- The gated row. -/
theorem gatedRef (b : Fin 4) (r : Fin 2048) (k : Fin 2560) :
    val_main_v31 (F := Ideal) x0 x1 x2 (ix3 b r k) = gatedRow mean x0 x1 x2 (2048 * b.val + r.val) k.val := by
  have hp : (2048 * b.val + r.val) / 2048 = b.val := by omega
  have hq : (2048 * b.val + r.val) % 2048 = r.val := by omega
  rw [val_main_v31_apply, activated]
  unfold gatedRow val_main_v29
  split
  · rename_i hk
    refine congrArg (fun a : EReal => a * silu (col x1 (2048 * b.val + r.val) k.val)) ?_
    rw [hp, hq]
    refine (concatenate_pair_apply_left (t := S4x2048x2560) 2 (val_main_v27 (F := Ideal) x0) (val_main_v28 (F := Ideal) x1 x2) _ (ix3 b r k) rfl
      (ix3 b r ⟨k.val, hk⟩) (fun a => ?_)).trans (congrArg x0 (funext fun a => Fin.ext ?_))
    · match a with
      | ⟨0, _⟩ => rfl
      | ⟨1, _⟩ => rfl
      | ⟨2, _⟩ => rfl
    · match a with
      | ⟨0, _⟩ => exact (Nat.mod_eq_of_lt b.isLt).symm
      | ⟨1, _⟩ => exact (Nat.mod_eq_of_lt r.isLt).symm
      | ⟨2, _⟩ => exact (Nat.mod_eq_of_lt hk).symm
  · rename_i hk
    refine congrArg (fun a : EReal => a * silu (col x1 (2048 * b.val + r.val) k.val)) ?_
    refine (concatenate_pair_apply_right (t := S4x2048x2560) 2 (val_main_v27 (F := Ideal) x0) (val_main_v28 (F := Ideal) x1 x2) _ (ix3 b r k) rfl rfl
      (ix3 b r ⟨k.val - 2048, by omega⟩) (fun a ha => ?_) (Nat.sub_add_cancel (Nat.le_of_not_lt hk))).trans (memoryRow x1 x2 b r _)
    match a, ha with
    | ⟨0, _⟩, _ => rfl
    | ⟨1, _⟩, _ => rfl
    | ⟨2, _⟩, ha => exact absurd rfl ha

/-- The row after the output projection and the residual. -/
theorem summed (b : Fin 4) (r j : Fin 2048) (i : Fin 8192) (hi : i.val = 2048 * b.val + r.val) :
    val_main_v34 (F := Ideal) x0 x1 x2 x3 x4 (ix2 i j) = sumRow mean x0 x1 x2 x3 x4 i.val j := by
  have hs : val_main_v34 (F := Ideal) x0 x1 x2 x3 x4 (ix2 i j)
      = x3 (ix2 i j) + val_main_v32 (F := Ideal) x0 x1 x2 x4 (ix3 b r j) := by
    rw [val_main_v34_apply, val_main_v33_apply]
    refine congrArg (fun a : EReal => x3 (ix2 i j) + a) (congrArg (val_main_v32 (F := Ideal) x0 x1 x2 x4) (funext fun a => Fin.ext ?_))
    match a with
    | ⟨0, _⟩ => show (i.val * 2048 + j.val) / 4194304 = b.val; omega
    | ⟨1, _⟩ => show (i.val * 2048 + j.val) / 2048 % 2048 = r.val; omega
    | ⟨2, _⟩ => show (i.val * 2048 + j.val) % 2048 = j.val; omega
  have hd : val_main_v32 (F := Ideal) x0 x1 x2 x4 (ix3 b r j)
      = ∑ k : Fin 2560, val_main_v31 (F := Ideal) x0 x1 x2 (ix3 b r k) * x4 (ix2 k j) := by
    generalize hy : val_main_v31 (F := Ideal) x0 x1 x2 = y
    pointwise [val_main_v32]
    rw [hy]
  rw [hs, hd]
  simp only [gatedRef, ← hi]
  unfold sumRow
  rw [show Fin.ofNat 8192 i.val = i from Fin.ext (Nat.mod_eq_of_lt i.isLt)]

/-- The reference's result. -/
theorem result_eq : val_main_v47 (F := Ideal) x0 x1 x2 x3 x4 x5 = result mean x0 x1 x2 x3 x4 x5 := by
  funext i
  idx_vars i
  have hs : val_main_v47 (F := Ideal) x0 x1 x2 x3 x4 x5 (ix2 i0 i1)
      = normRow (fun k => val_main_v34 (F := Ideal) x0 x1 x2 x3 x4 (ix2 i0 k)) (fun k => x5 (ix1 k)) i1 := by
    generalize hy : val_main_v34 (F := Ideal) x0 x1 x2 x3 x4 = y
    pointwise [val_main_v47, val_main_v46, val_main_v45, val_main_v44, val_main_v43, val_main_v42, val_main_v41, val_main_v40,
      val_main_v39, val_main_v38, val_main_v37, val_main_v36, val_main_v35, val_main_cst_3, val_main_cst_4, val_main_cst_5]
    rw [hy]
    rfl
  rw [hs]
  have h := fun k => summed x0 x1 x2 x3 x4 ⟨i0.val / 2048, by omega⟩ ⟨i0.val % 2048, by omega⟩ k i0 (by simp; omega)
  simp only [h]
  rfl

end Cert.Reference3Ideal.Out

namespace Cert.Pre_finite_memory

open Cert.Pre_finite_memory Idealize.ShloMosaic Cert.Kernel3Ideal.Out

/-- Where the precondition holds, the memory queries and the memory keys are real numbers. -/
theorem reals (x0 : FVec Ideal S4x2048x2048 .bf16) (x1 : FVec Ideal S8192x4608 .bf16) (x2 : FVec Ideal S1024x1024 .bf16)
    (x3 : FVec Ideal S8192x2048 .f32) (x4 : FVec Ideal S2560x2048 .f32) (x5 : FVec Ideal S2048 .f32) [Facts]
    (h : fn (F := Ideal) x0 x1 x2 x3 x4 x5 = fun _ => 1#1) :
    (∀ p k, k < 512 → ∃ r : ℝ, col x1 p (2560 + k) = r) ∧ ∀ p n k, k < 512 → ∃ r : ℝ, mem x2 p n k = r := by
  have h1 := congrFun h (Shape.Idx.first Facts.h_S_)
  have hs : Subsingleton S_.Idx := ⟨fun a b => funext fun k => k.elim0⟩
  have h2 := IntOp.andi_eq_one.mp h1
  have hq : ∀ (p : Fin 8192) (k : Fin 512), ∃ r : ℝ, extractStridedSlice S8192x512 ![0, 2560] x1 Facts.slices_S8192x4608_S8192x512_0_2560 (ix2 p k) = r :=
    fun p k => Cert.Pre_finite.real_of_abs_lt _ (Host.reduce_andi_all _ _ _ _ _ h2.1 (ix2 p k))
  have hk : ∀ (n : Fin 1024) (k : Fin 512), ∃ r : ℝ, extractStridedSlice S1024x512 ![0, 0] x2 Facts.slices_S1024x1024_S1024x512_0_0 (ix2 n k) = r :=
    fun n k => Cert.Pre_finite.real_of_abs_lt _ (Host.reduce_andi_all _ _ _ _ _ h2.2 (ix2 n k))
  refine ⟨fun p k hl => ?_, fun p n k hl => ?_⟩
  · obtain ⟨r, hr⟩ := hq (Fin.ofNat 8192 p) ⟨k, hl⟩
    refine ⟨r, Eq.trans ?_ hr⟩
    refine (extractStridedSlice_apply _ _ _ _ _ fun a => ?_).symm
    match a with
    | ⟨0, _⟩ => exact (Nat.zero_add _).symm
    | ⟨1, _⟩ => exact Nat.mod_eq_of_lt (by omega)
  · obtain ⟨r, hr⟩ := hk (Fin.ofNat 1024 (256 * (p / 2048) + n)) ⟨k, hl⟩
    refine ⟨r, Eq.trans ?_ hr⟩
    refine (extractStridedSlice_apply _ _ _ _ _ fun a => ?_).symm
    match a with
    | ⟨0, _⟩ => exact (Nat.zero_add _).symm
    | ⟨1, _⟩ => exact (Nat.mod_eq_of_lt (by omega)).trans (Nat.zero_add _).symm

end Cert.Pre_finite_memory

end
-- ==== Proof.ProjShared.lean ====
module

public import proofs.«01_k».proof.Proof.ProjBlock
public import proofs.«01_k».proof.Proof.Index

@[expose] public section

set_option maxRecDepth 16384

/-! # Input projections of any number of rows and columns

The call takes blocks of 1024 rows and 512 columns, row block by row block; what a point computes from its
blocks and from the scratch is the same for every size of the arrays. -/

noncomputable section

namespace Cert.Proj

open Idealize.ShloMosaic Cert.Norm Cert.Kernel2Ideal.Gen Cert.Kernel2Ideal.Proj

/-- A matrix and a vector of extended reals. -/
abbrev Mat (R C : ℕ) := (⟨2, ![R, C]⟩ : Shape).Idx → EReal
abbrev Row (C : ℕ) := (⟨1, ![C]⟩ : Shape).Idx → EReal

section Spec

variable {R C : ℕ} [NeZero R] [NeZero C] (x : Mat R 2048) (g : Row 2048) (w : Mat 2048 C)

/-- The normed row `p` of the input. -/
def normed (p : ℕ) (d : Fin 2048) : EReal := normRow (fun k => x (ix2 (Fin.ofNat R p) k)) (fun k => g (ix1 k)) d

/-- The product of the normed row `p` with column `q` of the weight. -/
def proj (p q : ℕ) : EReal := ∑ d : Fin 2048, normed x g p d * w (ix2 d (Fin.ofNat C q))

/-- The result array. -/
def result (i : (⟨2, ![R, C]⟩ : Shape).Idx) : EReal := proj x g w (i 0).val (i 1).val

end Spec

section Points

variable {R C N : ℕ} [NeZero R] [NeZero C] (K : ℕ) (x : Mat R 2048) (g : Row 2048) (w : Mat 2048 C)
  (outs : ∀ n : ℕ, n < N → Mat 1024 512 × Mat 1024 2048) (X : Fin N → Mat 1024 2048) (G : Fin N → Mat 1 2048) (W : Fin N → Mat 2048 512)
  (first : ∀ t : Fin N, t.val % K = 0 → outs t.val t.isLt = (k0_pay2 (F := Ideal) (k0_pay1 (F := Ideal) (X t) (G t)) (W t), k0_pay1 (F := Ideal) (X t) (G t)))
  (later : ∀ (n : ℕ) (hn : n + 1 < N), ¬(n + 1) % K = 0 → outs (n + 1) hn
    = (k0_pay2 (F := Ideal) (outs n (Nat.lt_of_succ_lt hn)).2 (W ⟨n + 1, hn⟩), (outs n (Nat.lt_of_succ_lt hn)).2))
  (hX : ∀ t r d, X t (ix2 r d) = x (ix2 (Fin.ofNat R (1024 * (t.val / K) + r.val)) d))
  (hG : ∀ t d, G t (ix2 0 d) = g (ix1 d))
  (hW : ∀ t d q, W t (ix2 d q) = w (ix2 d (Fin.ofNat C (512 * (t.val % K) + q.val))))

/-- A point and the one before it lie in the same row of blocks unless it is a row's first. -/
theorem same_row (n : ℕ) (h : ¬(n + 1) % K = 0) : (n + 1) / K = n / K := by
  rw [Nat.succ_div, if_neg fun hd => h (Nat.mod_eq_zero_of_dvd hd), Nat.add_zero]

include first later hX hG in
/-- What the scratch holds after a grid point: the normed rows of the point's row of blocks. -/
theorem held (n : ℕ) (hn : n < N) (r : Fin 1024) (d : Fin 2048) :
    (outs n hn).2 (ix2 r d) = normed x g (1024 * (n / K) + r.val) d := by
  induction n with
  | zero =>
    rw [first ⟨0, hn⟩ (Nat.zero_mod K)]
    dsimp only
    rw [norm_apply]
    simp only [hX, hG]
    rfl
  | succ n ih =>
    by_cases h0 : (n + 1) % K = 0
    · rw [first ⟨n + 1, hn⟩ h0]
      dsimp only
      rw [norm_apply]
      simp only [hX, hG]
      rfl
    · rw [later n hn h0, same_row K n h0]
      exact ih (Nat.lt_of_succ_lt hn)

include first later hX hG hW in
/-- What a grid point leaves in its output block. -/
theorem point (t : Fin N) (r : Fin 1024) (q : Fin 512) :
    (outs t.val t.isLt).1 (ix2 r q) = proj x g w (1024 * (t.val / K) + r.val) (512 * (t.val % K) + q.val) := by
  obtain ⟨n, hn⟩ := t
  by_cases h0 : n % K = 0
  · rw [first ⟨n, hn⟩ h0]
    dsimp only
    rw [product_apply]
    simp only [norm_apply, hX, hG, hW]
    rfl
  · obtain _ | n := n
    · exact absurd (Nat.zero_mod K) h0
    · rw [later n hn h0]
      dsimp only
      rw [product_apply]
      simp only [held K x g outs X G W first later hX hG, hW]
      rw [← same_row K n h0]
      rfl

end Points

end Cert.Proj

end
-- ==== Proof.ProjLayer1.lean ====
module

public import proofs.«01_k».proof.Proof.ProjShared
public import proofs.«01_k».proof.Proof.Gen.Kernel4Ideal.Value
public import proofs.«01_k».proof.Proof.Gen.Reference4Ideal.Read
public import Idealize.ShloMosaic.Lib.Pipeline.Covers

@[expose] public section

set_option maxRecDepth 16384

/-! # The input projection of layer 1

6656 columns, in thirteen blocks. -/

noncomputable section

namespace Cert.Kernel4Ideal.Proj

open Cert.Kernel4Ideal Cert.Kernel4Ideal.Gen Cert.Kernel4Ideal.Value Idealize.ShloMosaic Idealize.ShloMosaic.TcCoe Idealize.SL.Sem
open Cert.Index

/-- The two values that the body stores are the ones of layer 0's kernel. -/
theorem pay1_eq (x0 : Vec Ideal S1024x2048 .f32) (x1 : Vec Ideal S1x2048 .f32) :
    k0_pay1 (F := Ideal) x0 x1 = Cert.Kernel2Ideal.Gen.k0_pay1 (F := Ideal) x0 x1 := by
  funext y
  idx_vars y
  refine Eq.trans ?_ (Cert.Kernel2Ideal.Proj.norm_apply x0 x1 _ _).symm
  pointwise [k0_pay1]
  rfl
theorem pay2_eq (xs : Vec Ideal S1024x2048 .bf16) (x2 : Vec Ideal S2048x512 .bf16) :
    k0_pay2 (F := Ideal) xs x2 = Cert.Kernel2Ideal.Gen.k0_pay2 (F := Ideal) xs x2 := rfl

section Block

variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S2048x512 .bf16) (harg4 : arg4.IsWhole) (arg5 : Memref sig .tc .vmem S1024x512 .bf16) (harg5 : arg5.IsWhole)
  (arg6 : Memref sig .tc .vmem S1024x2048 .bf16) (harg6 : arg6.IsWhole)
  (x0 : Vec Ideal S1024x2048 .f32) (x1 : Vec Ideal S1x2048 .f32) (x2 : Vec Ideal S2048x512 .bf16) (xs : Vec Ideal S1024x2048 .bf16)

/-- The scratch and the output block of a row's first point, and the output block of every other point. -/
theorem scratch_eq (hc : cond0_0 i) :
    sout0_A_0 (F := Ideal) c i arg2 harg2 arg3 harg3 arg4 harg4 arg5 harg5 arg6 harg6 hc x0 x1 x2 = k0_pay1 x0 x1 := by
  frame_out

theorem first_eq (hc : cond0_0 i) :
    out0_A_3 (F := Ideal) c i arg2 harg2 arg3 harg3 arg4 harg4 arg5 harg5 arg6 harg6 hc x0 x1 x2 = k0_pay2 (k0_pay1 x0 x1) x2 := by
  frame_out

theorem later_eq (hc : ¬cond0_0 i) :
    out0_B_3 (F := Ideal) c i arg2 harg2 arg3 harg3 arg4 harg4 arg5 harg5 arg6 harg6 hc x0 x1 x2 xs = k0_pay2 xs x2 := by
  frame_out

end Block

/-- The block that each window stages at a grid point. -/
theorem index0 : ∀ t : Fin cfg0.N, win0_0.index t = ![t.val / 13, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, t.val % 13] := (by decide +kernel : ∀ t : Fin grid0.N, _)
theorem index3 : ∀ t : Fin cfg0.N, win0_3.index t = ![t.val / 13, t.val % 13] := (by decide +kernel : ∀ t : Fin grid0.N, _)

variable (m : (ℓ : Loc nD τ sig) → Buf (Elt Ideal) ℓ) (c : Dev nD)

/-- The three argument arrays. -/
abbrev argX : Cert.Proj.Mat 8192 2048 := m ((c : Thread nD τ).loc main_arg0)
abbrev argG : Cert.Proj.Row 2048 := m ((c : Thread nD τ).loc main_arg1)
abbrev argW : Cert.Proj.Mat 2048 6656 := m ((c : Thread nD τ).loc main_arg2)

/-- A row's first point. -/
theorem first_point (t : Fin cfg0.N) (h : t.val % 13 = 0) : outsAt0 m c t.val t.isLt
    = (Cert.Kernel2Ideal.Gen.k0_pay2 (Cert.Kernel2Ideal.Gen.k0_pay1 (iblk m c 0 t) (iblk m c 1 t)) (iblk m c 2 t),
      Cert.Kernel2Ideal.Gen.k0_pay1 (iblk m c 0 t) (iblk m c 1 t)) := by
  rw [outsAt0_A m c t h, first_eq, scratch_eq, pay1_eq, pay2_eq]

/-- Every other point. -/
theorem later_point (n : ℕ) (hn : n + 1 < cfg0.N) (h : ¬(n + 1) % 13 = 0) : outsAt0 m c (n + 1) hn
    = (Cert.Kernel2Ideal.Gen.k0_pay2 (outsAt0 m c n (Nat.lt_of_succ_lt hn)).2 (iblk m c 2 ⟨n + 1, hn⟩),
      (outsAt0 m c n (Nat.lt_of_succ_lt hn)).2) := by
  rw [outsAt0_B m c ⟨n + 1, hn⟩ h, later_eq, pay2_eq]
  rfl

/-- The rows, the gains and the columns of the weight of a grid point. -/
theorem row_block (t : Fin cfg0.N) (r : Fin 1024) (d : Fin 2048) :
    iblk m c 0 t (ix2 r d) = argX m c (ix2 (Fin.ofNat 8192 (1024 * (t.val / 13) + r.val)) d) := by
  have e := index0 t
  have ht : t.val < 104 := t.isLt.trans_eq N_0
  show V m c main_arg0 (((cfg0.win 0).blk t).view.emb (ix2 r d)) = _
  rw [V_main_arg0 m c]
  refine (read_at (A := 8192) (B := 2048) (argX m c) _ (1024 * (t.val / 13) + r.val) d.val (by blk_simp [e]; simp; omega) (by blk_simp [e]) (by omega) (by omega)).trans ?_
  rw [show Fin.ofNat 2048 d.val = d from Fin.ext (Nat.mod_eq_of_lt d.isLt)]

theorem gain_block (t : Fin cfg0.N) (d : Fin 2048) : iblk m c 1 t (ix2 0 d) = argG m c (ix1 d) := by
  have e := index1 t
  show V m c main_v0 (((cfg0.win 1).blk t).view.emb (ix2 0 d)) = _
  entry_read
  exact gains_host _ _ d _ (by blk_simp [e])

theorem weight_block (t : Fin cfg0.N) (d : Fin 2048) (q : Fin 512) :
    iblk m c 2 t (ix2 d q) = argW m c (ix2 d (Fin.ofNat 6656 (512 * (t.val % 13) + q.val))) := by
  have e := index2 t
  have hm : t.val % 13 < 13 := Nat.mod_lt _ (by decide)
  show V m c main_arg2 (((cfg0.win 2).blk t).view.emb (ix2 d q)) = _
  rw [V_main_arg2 m c]
  refine (read_at (A := 2048) (B := 6656) (argW m c) _ d.val (512 * (t.val % 13) + q.val) (by blk_simp [e]) (by blk_simp [e]; simp; omega) (by omega) (by omega)).trans ?_
  rw [show Fin.ofNat 2048 d.val = d from Fin.ext (Nat.mod_eq_of_lt d.isLt)]

/-- Every place of the result array lies in a block that is written back. -/
theorem covered (i : S8192x6656.Idx) : ∃ t : Fin cfg0.N, (cfg0.win 3).flush t = true ∧ i ∈ ((cfg0.win 3).blk t).view.set :=
  (by decide +kernel : (cfg0.win 3).Covers).cover _ (Memref.isWhole_whole _) i

/-- The array after the run. -/
theorem final : (dats m 0 c).arrAt 3 cfg0.N = Cert.Proj.result (argX m c) (argG m c) (argW m c) := by
  refine (dats m 0 c).arrAt_eq_of_cover 3 (Cert.Proj.result (argX m c) (argG m c) (argW m c)) (fun t _ => ?_) covered
  rw [flushed3]
  have e := index3 t
  refine funext fun y => ?_
  idx_vars y
  refine (Cert.Proj.point 13 (argX m c) (argG m c) (argW m c) (outsAt0 m c) (iblk m c 0) (iblk m c 1) (iblk m c 2) (first_point m c)
    (later_point m c) (row_block m c) (gain_block m c) (weight_block m c) t y0 y1).trans ?_
  show _ = Cert.Proj.result (argX m c) (argG m c) (argW m c) (((cfg0.win 3).blk t).view.emb (ix2 y0 y1))
  unfold Cert.Proj.result
  congr 1
  · blk_simp [e]; simp; omega
  · blk_simp [e]; simp; omega

/-- The generated run with the result array at its function of the arguments. -/
theorem run (ρ : Dev nD → PrngReg) :
    θ_run defs (onTc (τ := τ) (main (F := Ideal))) ⟨m, fun _ => 0, ρ⟩ fun r => ∀ c : Dev nD,
      r.2.mem ((c : Thread nD τ).loc main_v1) = Cert.Proj.result (argX m c) (argG m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.Kernel4Ideal.Proj

namespace Cert.Reference4Ideal.Proj

open Cert.Reference4Ideal Cert.Reference4Ideal.Read Idealize.ShloMosaic Idealize.ShloMosaic.TcCoe Idealize.SL.Sem

/-- The reference's result. -/
theorem result_eq (x0 : (⟨S8192x2048, .f32⟩ : BufTy).Contents (Elt Ideal)) (x1 : (⟨S2048, .f32⟩ : BufTy).Contents (Elt Ideal))
    (x2 : (⟨S2048x6656, .bf16⟩ : BufTy).Contents (Elt Ideal)) : val_main_v15 (F := Ideal) x0 x1 x2 = Cert.Proj.result x0 x1 x2 := by
  funext i
  idx_vars i
  have hn : ∀ d, val_main_v12 (F := Ideal) x0 x1 (ix2 i0 d) = Cert.Proj.normed x0 x1 i0.val d := fun d => by
    rw [Cert.Proj.normed, show Fin.ofNat 8192 i0.val = i0 from Fin.ext (Nat.mod_eq_of_lt i0.isLt)]
    pointwise [val_main_v12, val_main_v11, val_main_v10, val_main_v9, val_main_v8, val_main_v7, val_main_v6, val_main_v5, val_main_v4,
      val_main_v3, val_main_v2, val_main_v1, val_main_v0, val_main_cst, val_main_cst_0, val_main_cst_1]
    rfl
  have hp : val_main_v15 (F := Ideal) x0 x1 x2 (ix2 i0 i1) = ∑ d, val_main_v12 (F := Ideal) x0 x1 (ix2 i0 d) * x2 (ix2 d i1) := by
    generalize hy : val_main_v12 (F := Ideal) x0 x1 = y
    pointwise [val_main_v15, val_main_v14, val_main_v13]
    rw [hy]
  rw [hp]
  simp only [hn]
  show _ = Cert.Proj.proj x0 x1 x2 i0.val i1.val
  rw [Cert.Proj.proj, show Fin.ofNat 6656 i1.val = i1 from Fin.ext (Nat.mod_eq_of_lt i1.isLt)]

end Cert.Reference4Ideal.Proj

end
-- ==== Proof.ProjLayer2.lean ====
module

public import proofs.«01_k».proof.Proof.ProjShared
public import proofs.«01_k».proof.Proof.Gen.Kernel5Ideal.Value
public import proofs.«01_k».proof.Proof.Gen.Reference5Ideal.Read
public import Idealize.ShloMosaic.Lib.Pipeline.Covers

@[expose] public section

set_option maxRecDepth 16384

/-! # The input projection of layer 2

9216 columns, in eighteen blocks. -/

noncomputable section

namespace Cert.Kernel5Ideal.Proj

open Cert.Kernel5Ideal Cert.Kernel5Ideal.Gen Cert.Kernel5Ideal.Value Idealize.ShloMosaic Idealize.ShloMosaic.TcCoe Idealize.SL.Sem
open Cert.Index

/-- The two values that the body stores are the ones of layer 0's kernel. -/
theorem pay1_eq (x0 : Vec Ideal S1024x2048 .f32) (x1 : Vec Ideal S1x2048 .f32) :
    k0_pay1 (F := Ideal) x0 x1 = Cert.Kernel2Ideal.Gen.k0_pay1 (F := Ideal) x0 x1 := by
  funext y
  idx_vars y
  refine Eq.trans ?_ (Cert.Kernel2Ideal.Proj.norm_apply x0 x1 _ _).symm
  pointwise [k0_pay1]
  rfl
theorem pay2_eq (xs : Vec Ideal S1024x2048 .bf16) (x2 : Vec Ideal S2048x512 .bf16) :
    k0_pay2 (F := Ideal) xs x2 = Cert.Kernel2Ideal.Gen.k0_pay2 (F := Ideal) xs x2 := rfl

section Block

variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S2048x512 .bf16) (harg4 : arg4.IsWhole) (arg5 : Memref sig .tc .vmem S1024x512 .bf16) (harg5 : arg5.IsWhole)
  (arg6 : Memref sig .tc .vmem S1024x2048 .bf16) (harg6 : arg6.IsWhole)
  (x0 : Vec Ideal S1024x2048 .f32) (x1 : Vec Ideal S1x2048 .f32) (x2 : Vec Ideal S2048x512 .bf16) (xs : Vec Ideal S1024x2048 .bf16)

/-- The scratch and the output block of a row's first point, and the output block of every other point. -/
theorem scratch_eq (hc : cond0_0 i) :
    sout0_A_0 (F := Ideal) c i arg2 harg2 arg3 harg3 arg4 harg4 arg5 harg5 arg6 harg6 hc x0 x1 x2 = k0_pay1 x0 x1 := by
  frame_out

theorem first_eq (hc : cond0_0 i) :
    out0_A_3 (F := Ideal) c i arg2 harg2 arg3 harg3 arg4 harg4 arg5 harg5 arg6 harg6 hc x0 x1 x2 = k0_pay2 (k0_pay1 x0 x1) x2 := by
  frame_out

theorem later_eq (hc : ¬cond0_0 i) :
    out0_B_3 (F := Ideal) c i arg2 harg2 arg3 harg3 arg4 harg4 arg5 harg5 arg6 harg6 hc x0 x1 x2 xs = k0_pay2 xs x2 := by
  frame_out

end Block

/-- The block that each window stages at a grid point. -/
theorem index0 : ∀ t : Fin cfg0.N, win0_0.index t = ![t.val / 18, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, t.val % 18] := (by decide +kernel : ∀ t : Fin grid0.N, _)
theorem index3 : ∀ t : Fin cfg0.N, win0_3.index t = ![t.val / 18, t.val % 18] := (by decide +kernel : ∀ t : Fin grid0.N, _)

variable (m : (ℓ : Loc nD τ sig) → Buf (Elt Ideal) ℓ) (c : Dev nD)

/-- The three argument arrays. -/
abbrev argX : Cert.Proj.Mat 8192 2048 := m ((c : Thread nD τ).loc main_arg0)
abbrev argG : Cert.Proj.Row 2048 := m ((c : Thread nD τ).loc main_arg1)
abbrev argW : Cert.Proj.Mat 2048 9216 := m ((c : Thread nD τ).loc main_arg2)

/-- A row's first point. -/
theorem first_point (t : Fin cfg0.N) (h : t.val % 18 = 0) : outsAt0 m c t.val t.isLt
    = (Cert.Kernel2Ideal.Gen.k0_pay2 (Cert.Kernel2Ideal.Gen.k0_pay1 (iblk m c 0 t) (iblk m c 1 t)) (iblk m c 2 t),
      Cert.Kernel2Ideal.Gen.k0_pay1 (iblk m c 0 t) (iblk m c 1 t)) := by
  rw [outsAt0_A m c t h, first_eq, scratch_eq, pay1_eq, pay2_eq]

/-- Every other point. -/
theorem later_point (n : ℕ) (hn : n + 1 < cfg0.N) (h : ¬(n + 1) % 18 = 0) : outsAt0 m c (n + 1) hn
    = (Cert.Kernel2Ideal.Gen.k0_pay2 (outsAt0 m c n (Nat.lt_of_succ_lt hn)).2 (iblk m c 2 ⟨n + 1, hn⟩),
      (outsAt0 m c n (Nat.lt_of_succ_lt hn)).2) := by
  rw [outsAt0_B m c ⟨n + 1, hn⟩ h, later_eq, pay2_eq]
  rfl

/-- The rows, the gains and the columns of the weight of a grid point. -/
theorem row_block (t : Fin cfg0.N) (r : Fin 1024) (d : Fin 2048) :
    iblk m c 0 t (ix2 r d) = argX m c (ix2 (Fin.ofNat 8192 (1024 * (t.val / 18) + r.val)) d) := by
  have e := index0 t
  have ht : t.val < 144 := t.isLt.trans_eq N_0
  show V m c main_arg0 (((cfg0.win 0).blk t).view.emb (ix2 r d)) = _
  rw [V_main_arg0 m c]
  refine (read_at (A := 8192) (B := 2048) (argX m c) _ (1024 * (t.val / 18) + r.val) d.val (by blk_simp [e]; simp; omega) (by blk_simp [e]) (by omega) (by omega)).trans ?_
  rw [show Fin.ofNat 2048 d.val = d from Fin.ext (Nat.mod_eq_of_lt d.isLt)]

theorem gain_block (t : Fin cfg0.N) (d : Fin 2048) : iblk m c 1 t (ix2 0 d) = argG m c (ix1 d) := by
  have e := index1 t
  show V m c main_v0 (((cfg0.win 1).blk t).view.emb (ix2 0 d)) = _
  entry_read
  exact gains_host _ _ d _ (by blk_simp [e])

theorem weight_block (t : Fin cfg0.N) (d : Fin 2048) (q : Fin 512) :
    iblk m c 2 t (ix2 d q) = argW m c (ix2 d (Fin.ofNat 9216 (512 * (t.val % 18) + q.val))) := by
  have e := index2 t
  have hm : t.val % 18 < 18 := Nat.mod_lt _ (by decide)
  show V m c main_arg2 (((cfg0.win 2).blk t).view.emb (ix2 d q)) = _
  rw [V_main_arg2 m c]
  refine (read_at (A := 2048) (B := 9216) (argW m c) _ d.val (512 * (t.val % 18) + q.val) (by blk_simp [e]) (by blk_simp [e]; simp; omega) (by omega) (by omega)).trans ?_
  rw [show Fin.ofNat 2048 d.val = d from Fin.ext (Nat.mod_eq_of_lt d.isLt)]

/-- Every place of the result array lies in a block that is written back. -/
theorem covered (i : S8192x9216.Idx) : ∃ t : Fin cfg0.N, (cfg0.win 3).flush t = true ∧ i ∈ ((cfg0.win 3).blk t).view.set :=
  (by decide +kernel : (cfg0.win 3).Covers).cover _ (Memref.isWhole_whole _) i

/-- The array after the run. -/
theorem final : (dats m 0 c).arrAt 3 cfg0.N = Cert.Proj.result (argX m c) (argG m c) (argW m c) := by
  refine (dats m 0 c).arrAt_eq_of_cover 3 (Cert.Proj.result (argX m c) (argG m c) (argW m c)) (fun t _ => ?_) covered
  rw [flushed3]
  have e := index3 t
  refine funext fun y => ?_
  idx_vars y
  refine (Cert.Proj.point 18 (argX m c) (argG m c) (argW m c) (outsAt0 m c) (iblk m c 0) (iblk m c 1) (iblk m c 2) (first_point m c)
    (later_point m c) (row_block m c) (gain_block m c) (weight_block m c) t y0 y1).trans ?_
  show _ = Cert.Proj.result (argX m c) (argG m c) (argW m c) (((cfg0.win 3).blk t).view.emb (ix2 y0 y1))
  unfold Cert.Proj.result
  congr 1
  · blk_simp [e]; simp; omega
  · blk_simp [e]; simp; omega

/-- The generated run with the result array at its function of the arguments. -/
theorem run (ρ : Dev nD → PrngReg) :
    θ_run defs (onTc (τ := τ) (main (F := Ideal))) ⟨m, fun _ => 0, ρ⟩ fun r => ∀ c : Dev nD,
      r.2.mem ((c : Thread nD τ).loc main_v1) = Cert.Proj.result (argX m c) (argG m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.Kernel5Ideal.Proj

namespace Cert.Reference5Ideal.Proj

open Cert.Reference5Ideal Cert.Reference5Ideal.Read Idealize.ShloMosaic Idealize.ShloMosaic.TcCoe Idealize.SL.Sem

/-- The reference's result. -/
theorem result_eq (x0 : (⟨S8192x2048, .f32⟩ : BufTy).Contents (Elt Ideal)) (x1 : (⟨S2048, .f32⟩ : BufTy).Contents (Elt Ideal))
    (x2 : (⟨S2048x9216, .bf16⟩ : BufTy).Contents (Elt Ideal)) : val_main_v15 (F := Ideal) x0 x1 x2 = Cert.Proj.result x0 x1 x2 := by
  funext i
  idx_vars i
  have hn : ∀ d, val_main_v12 (F := Ideal) x0 x1 (ix2 i0 d) = Cert.Proj.normed x0 x1 i0.val d := fun d => by
    rw [Cert.Proj.normed, show Fin.ofNat 8192 i0.val = i0 from Fin.ext (Nat.mod_eq_of_lt i0.isLt)]
    pointwise [val_main_v12, val_main_v11, val_main_v10, val_main_v9, val_main_v8, val_main_v7, val_main_v6, val_main_v5, val_main_v4,
      val_main_v3, val_main_v2, val_main_v1, val_main_v0, val_main_cst, val_main_cst_0, val_main_cst_1]
    rfl
  have hp : val_main_v15 (F := Ideal) x0 x1 x2 (ix2 i0 i1) = ∑ d, val_main_v12 (F := Ideal) x0 x1 (ix2 i0 d) * x2 (ix2 d i1) := by
    generalize hy : val_main_v12 (F := Ideal) x0 x1 = y
    pointwise [val_main_v15, val_main_v14, val_main_v13]
    rw [hy]
  rw [hp]
  simp only [hn]
  show _ = Cert.Proj.proj x0 x1 x2 i0.val i1.val
  rw [Cert.Proj.proj, show Fin.ofNat 9216 i1.val = i1 from Fin.ext (Nat.mod_eq_of_lt i1.isLt)]

end Cert.Reference5Ideal.Proj

end
-- ==== Proof.ProjLayer3.lean ====
module

public import proofs.«01_k».proof.Proof.ProjShared
public import proofs.«01_k».proof.Proof.Gen.Kernel6Ideal.Value
public import proofs.«01_k».proof.Proof.Gen.Reference6Ideal.Read
public import Idealize.ShloMosaic.Lib.Pipeline.Covers

@[expose] public section

set_option maxRecDepth 16384

/-! # The input projection of layer 3

4608 columns, in nine blocks. -/

noncomputable section

namespace Cert.Kernel6Ideal.Proj

open Cert.Kernel6Ideal Cert.Kernel6Ideal.Gen Cert.Kernel6Ideal.Value Idealize.ShloMosaic Idealize.ShloMosaic.TcCoe Idealize.SL.Sem
open Cert.Index

/-- The two values that the body stores are the ones of layer 0's kernel. -/
theorem pay1_eq (x0 : Vec Ideal S1024x2048 .f32) (x1 : Vec Ideal S1x2048 .f32) :
    k0_pay1 (F := Ideal) x0 x1 = Cert.Kernel2Ideal.Gen.k0_pay1 (F := Ideal) x0 x1 := by
  funext y
  idx_vars y
  refine Eq.trans ?_ (Cert.Kernel2Ideal.Proj.norm_apply x0 x1 _ _).symm
  pointwise [k0_pay1]
  rfl
theorem pay2_eq (xs : Vec Ideal S1024x2048 .bf16) (x2 : Vec Ideal S2048x512 .bf16) :
    k0_pay2 (F := Ideal) xs x2 = Cert.Kernel2Ideal.Gen.k0_pay2 (F := Ideal) xs x2 := rfl

section Block

variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S2048x512 .bf16) (harg4 : arg4.IsWhole) (arg5 : Memref sig .tc .vmem S1024x512 .bf16) (harg5 : arg5.IsWhole)
  (arg6 : Memref sig .tc .vmem S1024x2048 .bf16) (harg6 : arg6.IsWhole)
  (x0 : Vec Ideal S1024x2048 .f32) (x1 : Vec Ideal S1x2048 .f32) (x2 : Vec Ideal S2048x512 .bf16) (xs : Vec Ideal S1024x2048 .bf16)

/-- The scratch and the output block of a row's first point, and the output block of every other point. -/
theorem scratch_eq (hc : cond0_0 i) :
    sout0_A_0 (F := Ideal) c i arg2 harg2 arg3 harg3 arg4 harg4 arg5 harg5 arg6 harg6 hc x0 x1 x2 = k0_pay1 x0 x1 := by
  frame_out

theorem first_eq (hc : cond0_0 i) :
    out0_A_3 (F := Ideal) c i arg2 harg2 arg3 harg3 arg4 harg4 arg5 harg5 arg6 harg6 hc x0 x1 x2 = k0_pay2 (k0_pay1 x0 x1) x2 := by
  frame_out

theorem later_eq (hc : ¬cond0_0 i) :
    out0_B_3 (F := Ideal) c i arg2 harg2 arg3 harg3 arg4 harg4 arg5 harg5 arg6 harg6 hc x0 x1 x2 xs = k0_pay2 xs x2 := by
  frame_out

end Block

/-- The block that each window stages at a grid point. -/
theorem index0 : ∀ t : Fin cfg0.N, win0_0.index t = ![t.val / 9, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, t.val % 9] := (by decide +kernel : ∀ t : Fin grid0.N, _)
theorem index3 : ∀ t : Fin cfg0.N, win0_3.index t = ![t.val / 9, t.val % 9] := (by decide +kernel : ∀ t : Fin grid0.N, _)

variable (m : (ℓ : Loc nD τ sig) → Buf (Elt Ideal) ℓ) (c : Dev nD)

/-- The three argument arrays. -/
abbrev argX : Cert.Proj.Mat 8192 2048 := m ((c : Thread nD τ).loc main_arg0)
abbrev argG : Cert.Proj.Row 2048 := m ((c : Thread nD τ).loc main_arg1)
abbrev argW : Cert.Proj.Mat 2048 4608 := m ((c : Thread nD τ).loc main_arg2)

/-- A row's first point. -/
theorem first_point (t : Fin cfg0.N) (h : t.val % 9 = 0) : outsAt0 m c t.val t.isLt
    = (Cert.Kernel2Ideal.Gen.k0_pay2 (Cert.Kernel2Ideal.Gen.k0_pay1 (iblk m c 0 t) (iblk m c 1 t)) (iblk m c 2 t),
      Cert.Kernel2Ideal.Gen.k0_pay1 (iblk m c 0 t) (iblk m c 1 t)) := by
  rw [outsAt0_A m c t h, first_eq, scratch_eq, pay1_eq, pay2_eq]

/-- Every other point. -/
theorem later_point (n : ℕ) (hn : n + 1 < cfg0.N) (h : ¬(n + 1) % 9 = 0) : outsAt0 m c (n + 1) hn
    = (Cert.Kernel2Ideal.Gen.k0_pay2 (outsAt0 m c n (Nat.lt_of_succ_lt hn)).2 (iblk m c 2 ⟨n + 1, hn⟩),
      (outsAt0 m c n (Nat.lt_of_succ_lt hn)).2) := by
  rw [outsAt0_B m c ⟨n + 1, hn⟩ h, later_eq, pay2_eq]
  rfl

/-- The rows, the gains and the columns of the weight of a grid point. -/
theorem row_block (t : Fin cfg0.N) (r : Fin 1024) (d : Fin 2048) :
    iblk m c 0 t (ix2 r d) = argX m c (ix2 (Fin.ofNat 8192 (1024 * (t.val / 9) + r.val)) d) := by
  have e := index0 t
  have ht : t.val < 72 := t.isLt.trans_eq N_0
  show V m c main_arg0 (((cfg0.win 0).blk t).view.emb (ix2 r d)) = _
  rw [V_main_arg0 m c]
  refine (read_at (A := 8192) (B := 2048) (argX m c) _ (1024 * (t.val / 9) + r.val) d.val (by blk_simp [e]; simp; omega) (by blk_simp [e]) (by omega) (by omega)).trans ?_
  rw [show Fin.ofNat 2048 d.val = d from Fin.ext (Nat.mod_eq_of_lt d.isLt)]

theorem gain_block (t : Fin cfg0.N) (d : Fin 2048) : iblk m c 1 t (ix2 0 d) = argG m c (ix1 d) := by
  have e := index1 t
  show V m c main_v0 (((cfg0.win 1).blk t).view.emb (ix2 0 d)) = _
  entry_read
  exact gains_host _ _ d _ (by blk_simp [e])

theorem weight_block (t : Fin cfg0.N) (d : Fin 2048) (q : Fin 512) :
    iblk m c 2 t (ix2 d q) = argW m c (ix2 d (Fin.ofNat 4608 (512 * (t.val % 9) + q.val))) := by
  have e := index2 t
  have hm : t.val % 9 < 9 := Nat.mod_lt _ (by decide)
  show V m c main_arg2 (((cfg0.win 2).blk t).view.emb (ix2 d q)) = _
  rw [V_main_arg2 m c]
  refine (read_at (A := 2048) (B := 4608) (argW m c) _ d.val (512 * (t.val % 9) + q.val) (by blk_simp [e]) (by blk_simp [e]; simp; omega) (by omega) (by omega)).trans ?_
  rw [show Fin.ofNat 2048 d.val = d from Fin.ext (Nat.mod_eq_of_lt d.isLt)]

/-- Every place of the result array lies in a block that is written back. -/
theorem covered (i : S8192x4608.Idx) : ∃ t : Fin cfg0.N, (cfg0.win 3).flush t = true ∧ i ∈ ((cfg0.win 3).blk t).view.set :=
  (by decide +kernel : (cfg0.win 3).Covers).cover _ (Memref.isWhole_whole _) i

/-- The array after the run. -/
theorem final : (dats m 0 c).arrAt 3 cfg0.N = Cert.Proj.result (argX m c) (argG m c) (argW m c) := by
  refine (dats m 0 c).arrAt_eq_of_cover 3 (Cert.Proj.result (argX m c) (argG m c) (argW m c)) (fun t _ => ?_) covered
  rw [flushed3]
  have e := index3 t
  refine funext fun y => ?_
  idx_vars y
  refine (Cert.Proj.point 9 (argX m c) (argG m c) (argW m c) (outsAt0 m c) (iblk m c 0) (iblk m c 1) (iblk m c 2) (first_point m c)
    (later_point m c) (row_block m c) (gain_block m c) (weight_block m c) t y0 y1).trans ?_
  show _ = Cert.Proj.result (argX m c) (argG m c) (argW m c) (((cfg0.win 3).blk t).view.emb (ix2 y0 y1))
  unfold Cert.Proj.result
  congr 1
  · blk_simp [e]; simp; omega
  · blk_simp [e]; simp; omega

/-- The generated run with the result array at its function of the arguments. -/
theorem run (ρ : Dev nD → PrngReg) :
    θ_run defs (onTc (τ := τ) (main (F := Ideal))) ⟨m, fun _ => 0, ρ⟩ fun r => ∀ c : Dev nD,
      r.2.mem ((c : Thread nD τ).loc main_v1) = Cert.Proj.result (argX m c) (argG m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.Kernel6Ideal.Proj

namespace Cert.Reference6Ideal.Proj

open Cert.Reference6Ideal Cert.Reference6Ideal.Read Idealize.ShloMosaic Idealize.ShloMosaic.TcCoe Idealize.SL.Sem

/-- The reference's result. -/
theorem result_eq (x0 : (⟨S8192x2048, .f32⟩ : BufTy).Contents (Elt Ideal)) (x1 : (⟨S2048, .f32⟩ : BufTy).Contents (Elt Ideal))
    (x2 : (⟨S2048x4608, .bf16⟩ : BufTy).Contents (Elt Ideal)) : val_main_v15 (F := Ideal) x0 x1 x2 = Cert.Proj.result x0 x1 x2 := by
  funext i
  idx_vars i
  have hn : ∀ d, val_main_v12 (F := Ideal) x0 x1 (ix2 i0 d) = Cert.Proj.normed x0 x1 i0.val d := fun d => by
    rw [Cert.Proj.normed, show Fin.ofNat 8192 i0.val = i0 from Fin.ext (Nat.mod_eq_of_lt i0.isLt)]
    pointwise [val_main_v12, val_main_v11, val_main_v10, val_main_v9, val_main_v8, val_main_v7, val_main_v6, val_main_v5, val_main_v4,
      val_main_v3, val_main_v2, val_main_v1, val_main_v0, val_main_cst, val_main_cst_0, val_main_cst_1]
    rfl
  have hp : val_main_v15 (F := Ideal) x0 x1 x2 (ix2 i0 i1) = ∑ d, val_main_v12 (F := Ideal) x0 x1 (ix2 i0 d) * x2 (ix2 d i1) := by
    generalize hy : val_main_v12 (F := Ideal) x0 x1 = y
    pointwise [val_main_v15, val_main_v14, val_main_v13]
    rw [hy]
  rw [hp]
  simp only [hn]
  show _ = Cert.Proj.proj x0 x1 x2 i0.val i1.val
  rw [Cert.Proj.proj, show Fin.ofNat 4608 i1.val = i1 from Fin.ext (Nat.mod_eq_of_lt i1.isLt)]

end Cert.Reference6Ideal.Proj

end
-- ==== Proof.ProjMemory.lean ====
module

public import proofs.«01_k».proof.Proof.ProjShared
public import proofs.«01_k».proof.Proof.Gen.Kernel7Ideal.Value
public import proofs.«01_k».proof.Proof.Gen.Reference7Ideal.Read
public import Idealize.ShloMosaic.Lib.Pipeline.Covers

@[expose] public section

set_option maxRecDepth 16384

/-! # The keys and values of the memory

The 1024 rows of the memory in one block of rows, 1024 columns in two blocks. -/

noncomputable section

namespace Cert.Kernel7Ideal.Proj

open Cert.Kernel7Ideal Cert.Kernel7Ideal.Gen Cert.Kernel7Ideal.Value Idealize.ShloMosaic Idealize.ShloMosaic.TcCoe Idealize.SL.Sem
open Cert.Index

/-- The two values that the body stores are the ones of layer 0's kernel. -/
theorem pay1_eq (x0 : Vec Ideal S1024x2048 .f32) (x1 : Vec Ideal S1x2048 .f32) :
    k0_pay1 (F := Ideal) x0 x1 = Cert.Kernel2Ideal.Gen.k0_pay1 (F := Ideal) x0 x1 := by
  funext y
  idx_vars y
  refine Eq.trans ?_ (Cert.Kernel2Ideal.Proj.norm_apply x0 x1 _ _).symm
  pointwise [k0_pay1]
  rfl
theorem pay2_eq (xs : Vec Ideal S1024x2048 .bf16) (x2 : Vec Ideal S2048x512 .bf16) :
    k0_pay2 (F := Ideal) xs x2 = Cert.Kernel2Ideal.Gen.k0_pay2 (F := Ideal) xs x2 := rfl

section Block

variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S2048x512 .bf16) (harg4 : arg4.IsWhole) (arg5 : Memref sig .tc .vmem S1024x512 .bf16) (harg5 : arg5.IsWhole)
  (arg6 : Memref sig .tc .vmem S1024x2048 .bf16) (harg6 : arg6.IsWhole)
  (x0 : Vec Ideal S1024x2048 .f32) (x1 : Vec Ideal S1x2048 .f32) (x2 : Vec Ideal S2048x512 .bf16) (xs : Vec Ideal S1024x2048 .bf16)

/-- The scratch and the output block of a row's first point, and the output block of every other point. -/
theorem scratch_eq (hc : cond0_0 i) :
    sout0_A_0 (F := Ideal) c i arg2 harg2 arg3 harg3 arg4 harg4 arg5 harg5 arg6 harg6 hc x0 x1 x2 = k0_pay1 x0 x1 := by
  frame_out

theorem first_eq (hc : cond0_0 i) :
    out0_A_3 (F := Ideal) c i arg2 harg2 arg3 harg3 arg4 harg4 arg5 harg5 arg6 harg6 hc x0 x1 x2 = k0_pay2 (k0_pay1 x0 x1) x2 := by
  frame_out

theorem later_eq (hc : ¬cond0_0 i) :
    out0_B_3 (F := Ideal) c i arg2 harg2 arg3 harg3 arg4 harg4 arg5 harg5 arg6 harg6 hc x0 x1 x2 xs = k0_pay2 xs x2 := by
  frame_out

end Block

/-- The block that each window stages at a grid point. -/
theorem index0 : ∀ t : Fin cfg0.N, win0_0.index t = ![t.val / 2, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, t.val % 2] := (by decide +kernel : ∀ t : Fin grid0.N, _)
theorem index3 : ∀ t : Fin cfg0.N, win0_3.index t = ![t.val / 2, t.val % 2] := (by decide +kernel : ∀ t : Fin grid0.N, _)

variable (m : (ℓ : Loc nD τ sig) → Buf (Elt Ideal) ℓ) (c : Dev nD)

/-- The three argument arrays. -/
abbrev argX : Cert.Proj.Mat 1024 2048 := m ((c : Thread nD τ).loc main_arg0)
abbrev argG : Cert.Proj.Row 2048 := m ((c : Thread nD τ).loc main_arg1)
abbrev argW : Cert.Proj.Mat 2048 1024 := m ((c : Thread nD τ).loc main_arg2)

/-- A row's first point. -/
theorem first_point (t : Fin cfg0.N) (h : t.val % 2 = 0) : outsAt0 m c t.val t.isLt
    = (Cert.Kernel2Ideal.Gen.k0_pay2 (Cert.Kernel2Ideal.Gen.k0_pay1 (iblk m c 0 t) (iblk m c 1 t)) (iblk m c 2 t),
      Cert.Kernel2Ideal.Gen.k0_pay1 (iblk m c 0 t) (iblk m c 1 t)) := by
  rw [outsAt0_A m c t h, first_eq, scratch_eq, pay1_eq, pay2_eq]

/-- Every other point. -/
theorem later_point (n : ℕ) (hn : n + 1 < cfg0.N) (h : ¬(n + 1) % 2 = 0) : outsAt0 m c (n + 1) hn
    = (Cert.Kernel2Ideal.Gen.k0_pay2 (outsAt0 m c n (Nat.lt_of_succ_lt hn)).2 (iblk m c 2 ⟨n + 1, hn⟩),
      (outsAt0 m c n (Nat.lt_of_succ_lt hn)).2) := by
  rw [outsAt0_B m c ⟨n + 1, hn⟩ h, later_eq, pay2_eq]
  rfl

/-- The rows, the gains and the columns of the weight of a grid point. -/
theorem row_block (t : Fin cfg0.N) (r : Fin 1024) (d : Fin 2048) :
    iblk m c 0 t (ix2 r d) = argX m c (ix2 (Fin.ofNat 1024 (1024 * (t.val / 2) + r.val)) d) := by
  have e := index0 t
  have ht : t.val < 2 := t.isLt.trans_eq N_0
  show V m c main_arg0 (((cfg0.win 0).blk t).view.emb (ix2 r d)) = _
  rw [V_main_arg0 m c]
  refine (read_at (A := 1024) (B := 2048) (argX m c) _ (1024 * (t.val / 2) + r.val) d.val (by blk_simp [e]; simp; omega) (by blk_simp [e]) (by omega) (by omega)).trans ?_
  rw [show Fin.ofNat 2048 d.val = d from Fin.ext (Nat.mod_eq_of_lt d.isLt)]

theorem gain_block (t : Fin cfg0.N) (d : Fin 2048) : iblk m c 1 t (ix2 0 d) = argG m c (ix1 d) := by
  have e := index1 t
  show V m c main_v0 (((cfg0.win 1).blk t).view.emb (ix2 0 d)) = _
  entry_read
  exact gains_host _ _ d _ (by blk_simp [e])

theorem weight_block (t : Fin cfg0.N) (d : Fin 2048) (q : Fin 512) :
    iblk m c 2 t (ix2 d q) = argW m c (ix2 d (Fin.ofNat 1024 (512 * (t.val % 2) + q.val))) := by
  have e := index2 t
  have hm : t.val % 2 < 2 := Nat.mod_lt _ (by decide)
  show V m c main_arg2 (((cfg0.win 2).blk t).view.emb (ix2 d q)) = _
  rw [V_main_arg2 m c]
  refine (read_at (A := 2048) (B := 1024) (argW m c) _ d.val (512 * (t.val % 2) + q.val) (by blk_simp [e]) (by blk_simp [e]; simp; omega) (by omega) (by omega)).trans ?_
  rw [show Fin.ofNat 2048 d.val = d from Fin.ext (Nat.mod_eq_of_lt d.isLt)]

/-- Every place of the result array lies in a block that is written back. -/
theorem covered (i : S1024x1024.Idx) : ∃ t : Fin cfg0.N, (cfg0.win 3).flush t = true ∧ i ∈ ((cfg0.win 3).blk t).view.set :=
  (by decide +kernel : (cfg0.win 3).Covers).cover _ (Memref.isWhole_whole _) i

/-- The array after the run. -/
theorem final : (dats m 0 c).arrAt 3 cfg0.N = Cert.Proj.result (argX m c) (argG m c) (argW m c) := by
  refine (dats m 0 c).arrAt_eq_of_cover 3 (Cert.Proj.result (argX m c) (argG m c) (argW m c)) (fun t _ => ?_) covered
  rw [flushed3]
  have e := index3 t
  refine funext fun y => ?_
  idx_vars y
  refine (Cert.Proj.point 2 (argX m c) (argG m c) (argW m c) (outsAt0 m c) (iblk m c 0) (iblk m c 1) (iblk m c 2) (first_point m c)
    (later_point m c) (row_block m c) (gain_block m c) (weight_block m c) t y0 y1).trans ?_
  show _ = Cert.Proj.result (argX m c) (argG m c) (argW m c) (((cfg0.win 3).blk t).view.emb (ix2 y0 y1))
  unfold Cert.Proj.result
  congr 1
  · blk_simp [e]; simp; omega
  · blk_simp [e]; simp; omega

/-- The generated run with the result array at its function of the arguments. -/
theorem run (ρ : Dev nD → PrngReg) :
    θ_run defs (onTc (τ := τ) (main (F := Ideal))) ⟨m, fun _ => 0, ρ⟩ fun r => ∀ c : Dev nD,
      r.2.mem ((c : Thread nD τ).loc main_v1) = Cert.Proj.result (argX m c) (argG m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.Kernel7Ideal.Proj

namespace Cert.Reference7Ideal.Proj

open Cert.Reference7Ideal Cert.Reference7Ideal.Read Idealize.ShloMosaic Idealize.ShloMosaic.TcCoe Idealize.SL.Sem

/-- The reference's result. -/
theorem result_eq (x0 : (⟨S1024x2048, .f32⟩ : BufTy).Contents (Elt Ideal)) (x1 : (⟨S2048, .f32⟩ : BufTy).Contents (Elt Ideal))
    (x2 : (⟨S2048x1024, .bf16⟩ : BufTy).Contents (Elt Ideal)) : val_main_v15 (F := Ideal) x0 x1 x2 = Cert.Proj.result x0 x1 x2 := by
  funext i
  idx_vars i
  have hn : ∀ d, val_main_v12 (F := Ideal) x0 x1 (ix2 i0 d) = Cert.Proj.normed x0 x1 i0.val d := fun d => by
    rw [Cert.Proj.normed, show Fin.ofNat 1024 i0.val = i0 from Fin.ext (Nat.mod_eq_of_lt i0.isLt)]
    pointwise [val_main_v12, val_main_v11, val_main_v10, val_main_v9, val_main_v8, val_main_v7, val_main_v6, val_main_v5, val_main_v4,
      val_main_v3, val_main_v2, val_main_v1, val_main_v0, val_main_cst, val_main_cst_0, val_main_cst_1]
    rfl
  have hp : val_main_v15 (F := Ideal) x0 x1 x2 (ix2 i0 i1) = ∑ d, val_main_v12 (F := Ideal) x0 x1 (ix2 i0 d) * x2 (ix2 d i1) := by
    generalize hy : val_main_v12 (F := Ideal) x0 x1 = y
    pointwise [val_main_v15, val_main_v14, val_main_v13]
    rw [hy]
  rw [hp]
  simp only [hn]
  show _ = Cert.Proj.proj x0 x1 x2 i0.val i1.val
  rw [Cert.Proj.proj, show Fin.ofNat 1024 i1.val = i1 from Fin.ext (Nat.mod_eq_of_lt i1.isLt)]

end Cert.Reference7Ideal.Proj

end
-- ==== Proof.OutArranged.lean ====
module

public import proofs.«01_k».proof.Proof.OutArray

@[expose] public section

/-! # The end of a layer from its own arrangement of columns

The layers pack the same gates and memory queries in other columns of arrays of other widths. Read in the
order of layer 3 they give the same rows before the final norm. -/

noncomputable section

namespace Cert.Arranged

open Idealize.ShloMosaic Cert.Kernel3Ideal.Out Cert.Memory

/-- The columns `f 0`, `f 1`, … of an array of projected rows, in layer 3's order. -/
def arranged {U : ℕ} [NeZero U] (f : ℕ → ℕ) (u : (⟨2, ![8192, U]⟩ : Shape).Idx → EReal) : Cert.Kernel3Ideal.S8192x4608.Idx → EReal :=
  fun i => u (ix2 (i 0) (Fin.ofNat U (f (i 1).val)))

/-- A column of the arranged array. -/
theorem col_arranged {U : ℕ} [NeZero U] (f : ℕ → ℕ) (u : (⟨2, ![8192, U]⟩ : Shape).Idx → EReal) (p k : ℕ) (hk : k < 4608) :
    col (arranged f u) p k = u (ix2 (Fin.ofNat 8192 p) (Fin.ofNat U (f k))) := by
  show u (ix2 (Fin.ofNat 8192 p) (Fin.ofNat U (f (k % 4608)))) = _
  rw [Nat.mod_eq_of_lt hk]

/-- A place of the array of projected rows whose coordinates are known is a column of the arranged array. -/
theorem read_col {U : ℕ} [NeZero U] (f : ℕ → ℕ) (u : (⟨2, ![8192, U]⟩ : Shape).Idx → EReal) (i : (⟨2, ![8192, U]⟩ : Shape).Idx) (p k : ℕ)
    (h0 : (i 0).val = p) (h1 : (i 1).val = f k) (hp : p < 8192) (hf : f k < U) (hk : k < 4608) : u i = col (arranged f u) p k :=
  (Cert.Index.read_at u i p (f k) h0 h1 hp hf).trans (col_arranged f u p k hk).symm

/-- The result array of a layer without a final norm. -/
def result (q : (Fin 256 → EReal) → (Fin 256 → EReal) → EReal) (y : Cert.Kernel3Ideal.S4x2048x2048.Idx → EReal)
    (u : Cert.Kernel3Ideal.S8192x4608.Idx → EReal) (mkv : Cert.Kernel3Ideal.S1024x1024.Idx → EReal)
    (x : Cert.Kernel3Ideal.S8192x2048.Idx → EReal) (w : Cert.Kernel3Ideal.S2560x2048.Idx → EReal) (i : Cert.Kernel3Ideal.S8192x2048.Idx) : EReal :=
  sumRow q y u mkv x w (i 0).val (i 1)

/-- Where a slice of 512 columns holds real numbers and the arranged array has its memory queries there, these
are real numbers. -/
theorem columns_real {U : ℕ} [NeZero U] (f : ℕ → ℕ) (o : ℕ) (u : (⟨2, ![8192, U]⟩ : Shape).Idx → EReal)
    (sl : (⟨2, ![8192, U]⟩ : Shape).Slices ![0, o] ⟨2, ![8192, 512]⟩) (hf : ∀ k, k < 512 → f (2560 + k) = o + k) (ho : o + 512 ≤ U)
    (h : ∀ (p : Fin 8192) (k : Fin 512), ∃ r : ℝ, extractStridedSlice ⟨2, ![8192, 512]⟩ ![0, o] u sl (ix2 p k) = r) (p k : ℕ) (hk : k < 512) :
    ∃ r : ℝ, col (arranged f u) p (2560 + k) = r := by
  obtain ⟨r, hr⟩ := h (Fin.ofNat 8192 p) ⟨k, hk⟩
  refine ⟨r, (col_arranged f u p (2560 + k) (by omega)).trans (Eq.trans ?_ hr)⟩
  refine (extractStridedSlice_apply _ _ _ _ _ fun a => ?_).symm
  match a with
  | ⟨0, _⟩ => exact (Nat.zero_add _).symm
  | ⟨1, _⟩ => exact (congrArg (· % U) (hf k hk)).trans (Nat.mod_eq_of_lt (by omega))

/-- Where the first 512 columns of the memory hold real numbers, the memory keys are real numbers. -/
theorem keys_real (mkv : Cert.Kernel3Ideal.S1024x1024.Idx → EReal) (sl : (⟨2, ![1024, 1024]⟩ : Shape).Slices ![0, 0] ⟨2, ![1024, 512]⟩)
    (h : ∀ (n : Fin 1024) (k : Fin 512), ∃ r : ℝ, extractStridedSlice ⟨2, ![1024, 512]⟩ ![0, 0] mkv sl (ix2 n k) = r) (p n k : ℕ) (hk : k < 512) :
    ∃ r : ℝ, mem mkv p n k = r := by
  obtain ⟨r, hr⟩ := h (Fin.ofNat 1024 (256 * (p / 2048) + n)) ⟨k, hk⟩
  refine ⟨r, Eq.trans ?_ hr⟩
  refine (extractStridedSlice_apply _ _ _ _ _ fun a => ?_).symm
  match a with
  | ⟨0, _⟩ => exact (Nat.zero_add _).symm
  | ⟨1, _⟩ => exact (Nat.mod_eq_of_lt (by omega)).trans (Nat.zero_add _).symm

/-- At real memory queries and keys it does not matter how the mean of the values is taken. -/
theorem result_quotient (y : Cert.Kernel3Ideal.S4x2048x2048.Idx → EReal) (u : Cert.Kernel3Ideal.S8192x4608.Idx → EReal)
    (mkv : Cert.Kernel3Ideal.S1024x1024.Idx → EReal) (x : Cert.Kernel3Ideal.S8192x2048.Idx → EReal) (w : Cert.Kernel3Ideal.S2560x2048.Idx → EReal)
    (hu : ∀ p k, k < 512 → ∃ r : ℝ, col u p (2560 + k) = r) (hm : ∀ p n k, k < 512 → ∃ r : ℝ, mem mkv p n k = r) :
    result quotient y u mkv x w = result mean y u mkv x w := by
  unfold result
  rw [sumRow_quotient y u mkv x w hu hm]

end Cert.Arranged

end
-- ==== Proof.OutLayer0.lean ====
module

public import proofs.«01_k».proof.Proof.OutArranged
public import proofs.«01_k».proof.Proof.Gen.Kernel8Ideal.Value
public import Idealize.ShloMosaic.Lib.Pipeline.Covers

@[expose] public section

set_option maxRecDepth 16384

/-! # The end of layer 0

The same blocks as at the end of layer 3, out of wider projected columns, and no norm at the end. -/

noncomputable section

namespace Cert.Kernel8Ideal.Out

open Cert.Kernel8Ideal Cert.Kernel8Ideal.Gen Cert.Kernel8Ideal.Value Idealize.ShloMosaic Idealize.ShloMosaic.TcCoe Idealize.SL.Sem
open Cert.Memory Cert.Index Cert.Arranged
open Cert.Kernel3Ideal.Out (col mem sumRow gatedRow gated scratch scratch_at head_gated attention_gated whole_read gated_blocks)

/-- The output block, at an index. -/
theorem output_apply (x : Vec Ideal S256x2048 .f32) (h : Vec Ideal S256x2560 .bf16) (w : Vec Ideal S2560x2048 .bf16)
    (r : Fin 256) (d : Fin 2048) : k0_pay2 x h w (ix2 r d) = x (ix2 r d) + ∑ k, h (ix2 r k) * w (ix2 k d) := by
  pointwise [k0_pay2]

/-- The output block of a grid point. -/
theorem out_eq (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x1024 .bf16) (harg5 : arg5.IsWhole) (arg6 : Memref sig .tc .vmem S256x2048 .f32) (harg6 : arg6.IsWhole) (arg7 : Memref sig .tc .vmem S2560x2048 .bf16) (harg7 : arg7.IsWhole) (arg8 : Memref sig .tc .vmem S256x2048 .f32) (harg8 : arg8.IsWhole) (arg9 : Memref sig .tc .vmem S256x2560 .bf16) (harg9 : arg9.IsWhole)
    (x0 : Vec Ideal S256x2048 .bf16) (x1 : Vec Ideal S256x2048 .bf16) (x2 : Vec Ideal S256x512 .bf16) (x3 : Vec Ideal S256x512 .bf16) (x4 : Vec Ideal S256x1024 .bf16) (x5 : Vec Ideal S256x2048 .f32) (x6 : Vec Ideal S2560x2048 .bf16) :
    out0_A_7 c i arg1 harg1 arg2 harg2 arg3 harg3 arg4 harg4 arg5 harg5 arg6 harg6 arg7 harg7 arg8 harg8 arg9 harg9 x0 x1 x2 x3 x4 x5 x6 = k0_pay2 x5 (scratch x0 x1 x2 x3 x4) x6 := by
  frame_open
  frame_out
  refine congrArg (k0_pay2 x5 · x6) (whole_read _ _ (scratch x0 x1 x2 x3 x4) ?_ (View.cover_of_tiledBy _ ![256, 128] (by sl_kernel_rfl)) _)
  refine ⟨?_, ?_, ?_, ?_, ?_, trivial⟩
  · exact fun x => head_gated x0 x1 x2 x3 x4 3 384 896 2432 rfl rfl rfl _ _ _ inb_S256x2560_S256x128_0_2432 x
  · exact fun x => head_gated x0 x1 x2 x3 x4 2 256 768 2304 rfl rfl rfl _ _ _ inb_S256x2560_S256x128_0_2304 x
  · exact fun x => head_gated x0 x1 x2 x3 x4 1 128 640 2176 rfl rfl rfl _ _ _ inb_S256x2560_S256x128_0_2176 x
  · exact fun x => head_gated x0 x1 x2 x3 x4 0 0 512 2048 rfl rfl rfl _ _ _ inb_S256x2560_S256x128_0_2048 x
  · exact fun x => attention_gated x0 x1 x2 x3 x4 inb_S256x2560_S256x2048_0_0 x

/-- The block that each window stages at a grid point. -/
theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 4] := (by decide +kernel : ∀ t : Fin grid0.N, _)
theorem index3 : ∀ t : Fin cfg0.N, win0_3.index t = ![t.val, 5] := (by decide +kernel : ∀ t : Fin grid0.N, _)
theorem index4 : ∀ t : Fin cfg0.N, win0_4.index t = ![t.val / 8, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)

/-- The column of the projected rows at which layer 3's column stands: the same one. -/
def place (k : ℕ) : ℕ := k

variable (m : (ℓ : Loc nD τ sig) → Buf (Elt Ideal) ℓ) (c : Dev nD)

/-- The argument arrays; the gates and memory queries in the order of layer 3. -/
abbrev argY : S4x2048x2048.Idx → EReal := m ((c : Thread nD τ).loc main_arg0)
abbrev argU : Cert.Kernel3Ideal.S8192x4608.Idx → EReal := arranged (U := 9728) place (m ((c : Thread nD τ).loc main_arg1))
abbrev argM : S1024x1024.Idx → EReal := m ((c : Thread nD τ).loc main_arg2)
abbrev argX : S8192x2048.Idx → EReal := m ((c : Thread nD τ).loc main_arg3)
abbrev argW : S2560x2048.Idx → EReal := m ((c : Thread nD τ).loc main_arg4)

/-- The attention's output. -/
theorem y_block (t : Fin cfg0.N) (r : Fin 256) (k : Fin 2048) :
    iblk m c 0 t (ix2 r k) = argY m c (ix3 (Fin.ofNat 4 ((256 * t.val + r.val) / 2048)) (Fin.ofNat 2048 ((256 * t.val + r.val) % 2048)) k) := by
  have e := index0 t
  have ht : t.val < 32 := t.isLt.trans_eq N_0
  show V m c main_v0 (((cfg0.win 0).blk t).view.emb (ix2 r k)) = _
  entry_read
  exact rows_host _ _ _ (by omega) k _ (by blk_simp [e]; simp; omega) (by blk_simp [e])

/-- The gates of the attention. -/
theorem zy_block (t : Fin cfg0.N) (r : Fin 256) (k : Fin 2048) : X0_1 m c t (ix2 r k) = col (argU m c) (256 * t.val + r.val) k.val := by
  have e := index1 t
  have ht : t.val < 32 := t.isLt.trans_eq N_0
  unfold X0_1 Pipeline.Window.fill
  rw [dif_pos (moved0_1 t _)]
  show V m c main_arg1 (((cfg0.win 1).blk t).view.emb _) = _
  rw [V_main_arg1 m c]
  have hf : place k.val = k.val := by simp only [place]
  exact read_col (U := 9728) place _ _ (256 * t.val + r.val) k.val (by blk_simp [e]; simp; omega) (by rw [hf]; blk_simp [e]) (by omega) (by omega) (by omega)

/-- The gates of the memory heads. -/
theorem zm_block (t : Fin cfg0.N) (r : Fin 256) (k : Fin 512) : iblk m c 2 t (ix2 r k) = col (argU m c) (256 * t.val + r.val) (2048 + k.val) := by
  have e := index2 t
  have ht : t.val < 32 := t.isLt.trans_eq N_0
  show V m c main_arg1 (((cfg0.win 2).blk t).view.emb (ix2 r k)) = _
  rw [V_main_arg1 m c]
  have hf : place (2048 + k.val) = 2048 + k.val := by simp [place]
  exact read_col (U := 9728) place _ _ (256 * t.val + r.val) (2048 + k.val) (by blk_simp [e]; simp; omega) (by rw [hf]; blk_simp [e]) (by omega) (by omega) (by omega)

/-- The memory queries. -/
theorem qm_block (t : Fin cfg0.N) (r : Fin 256) (k : Fin 512) : iblk m c 3 t (ix2 r k) = col (argU m c) (256 * t.val + r.val) (2560 + k.val) := by
  have e := index3 t
  have ht : t.val < 32 := t.isLt.trans_eq N_0
  show V m c main_arg1 (((cfg0.win 3).blk t).view.emb (ix2 r k)) = _
  rw [V_main_arg1 m c]
  have hf : place (2560 + k.val) = 2560 + k.val := by simp [place]
  exact read_col (U := 9728) place _ _ (256 * t.val + r.val) (2560 + k.val) (by blk_simp [e]; simp; omega) (by rw [hf]; blk_simp [e]) (by omega) (by omega) (by omega)

/-- The memory keys and values. -/
theorem mem_block (t : Fin cfg0.N) (r n : Fin 256) (k : Fin 1024) : iblk m c 4 t (ix2 n k) = mem (argM m c) (256 * t.val + r.val) n.val k.val := by
  have e := index4 t
  have ht : t.val < 32 := t.isLt.trans_eq N_0
  have hr : (256 * t.val + r.val) / 2048 = t.val / 8 := by omega
  show V m c main_arg2 (((cfg0.win 4).blk t).view.emb (ix2 n k)) = _
  rw [V_main_arg2 m c, mem, hr]
  exact read_at (A := 1024) (B := 1024) (argM m c) _ _ _ (by blk_simp [e]; simp; omega) (by blk_simp [e]) (by omega) (by omega)

/-- The residual. -/
theorem x_block (t : Fin cfg0.N) (r : Fin 256) (k : Fin 2048) : iblk m c 5 t (ix2 r k) = argX m c (ix2 (Fin.ofNat 8192 (256 * t.val + r.val)) k) := by
  have e := index5 t
  have ht : t.val < 32 := t.isLt.trans_eq N_0
  show V m c main_arg3 (((cfg0.win 5).blk t).view.emb (ix2 r k)) = _
  rw [V_main_arg3 m c]
  refine (read_at (A := 8192) (B := 2048) (argX m c) _ (256 * t.val + r.val) k.val (by blk_simp [e]; simp; omega) (by blk_simp [e]) (by omega) (by omega)).trans ?_
  rw [show Fin.ofNat 2048 k.val = k from Fin.ext (Nat.mod_eq_of_lt k.isLt)]

/-- The weight. -/
theorem w_block (t : Fin cfg0.N) (k : Fin 2560) (j : Fin 2048) : iblk m c 6 t (ix2 k j) = argW m c (ix2 k j) := by
  have e := index6 t
  show V m c main_v1 (((cfg0.win 6).blk t).view.emb (ix2 k j)) = _
  entry_read
  refine congrArg (argW m c) (funext fun a => Fin.ext ?_)
  match a with
  | ⟨0, _⟩ => blk_simp [e]
  | ⟨1, _⟩ => blk_simp [e]

/-- Every place of the result array lies in a block that is written back. -/
theorem covered (i : S8192x2048.Idx) : ∃ t : Fin cfg0.N, (cfg0.win 7).flush t = true ∧ i ∈ ((cfg0.win 7).blk t).view.set :=
  (by decide +kernel : (cfg0.win 7).Covers).cover _ (Memref.isWhole_whole _) i

/-- What a grid point leaves in its output block. -/
theorem point_value (t : Fin cfg0.N) (r : Fin 256) (d : Fin 2048) : outsAt0 m c t (ix2 r d)
    = sumRow quotient (argY m c) (argU m c) (argM m c) (argX m c) (argW m c) (256 * t.val + r.val) d := by
  unfold outsAt0
  rw [out_eq, output_apply]
  have h : ∀ k : Fin 2560, scratch (iblk m c 0 t) (X0_1 m c t) (iblk m c 2 t) (iblk m c 3 t) (iblk m c 4 t) (ix2 r k)
      = gatedRow quotient (argY m c) (argU m c) (argM m c) (256 * t.val + r.val) k.val := fun k =>
    (scratch_at _ _ _ _ _ _ r k.val rfl rfl).trans (gated_blocks _ _ _ _ _ _ _ _ _ r (y_block m c t r) (zy_block m c t r)
      (zm_block m c t r) (qm_block m c t r) (mem_block m c t r) k.val k.isLt)
  simp only [x_block, w_block, h]
  rfl

/-- The array after the run. -/
theorem final : (dats m 0 c).arrAt 7 cfg0.N = Cert.Arranged.result quotient (argY m c) (argU m c) (argM m c) (argX m c) (argW m c) := by
  refine (dats m 0 c).arrAt_eq_of_cover 7 (Cert.Arranged.result quotient (argY m c) (argU m c) (argM m c) (argX m c) (argW m c)) (fun t _ => ?_) covered
  rw [flushed7]
  have e := index7 t
  refine funext fun y => ?_
  idx_vars y
  refine (point_value m c t y0 y1).trans ?_
  show _ = Cert.Arranged.result quotient (argY m c) (argU m c) (argM m c) (argX m c) (argW m c) (((cfg0.win 7).blk t).view.emb (ix2 y0 y1))
  unfold Cert.Arranged.result
  have h0 : (((cfg0.win 7).blk t).view.emb (ix2 y0 y1) 0).val = 256 * t.val + y0.val := by blk_simp [e]; simp; omega
  have h1 : ((cfg0.win 7).blk t).view.emb (ix2 y0 y1) 1 = y1 := Fin.ext (by blk_simp [e])
  rw [h0, h1]

/-- The generated run with the result array at its function of the arguments. -/
theorem run (ρ : Dev nD → PrngReg) :
    θ_run defs (onTc (τ := τ) (main (F := Ideal))) ⟨m, fun _ => 0, ρ⟩ fun r => ∀ c : Dev nD,
      r.2.mem ((c : Thread nD τ).loc main_v2) = Cert.Arranged.result quotient (argY m c) (argU m c) (argM m c) (argX m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (run_blocks m ρ)

end Cert.Kernel8Ideal.Out
-- ==== Proof.OutRefLayer0.lean ====
module

public import proofs.«01_k».proof.Proof.OutLayer0
public import proofs.«01_k».proof.Proof.OutRef
public import proofs.«01_k».proof.Proof.Gen.Reference8Ideal.Read
public import proofs.«01_k».proof.Proof.Gen.Pre_finite_memory0

@[expose] public section

set_option maxRecDepth 16384

/-! # What the reference of the end of layer 0 computes

Its gates and memory queries are those that layer 3's reference takes out of the arranged columns; after that
both are the same operations. -/

noncomputable section

namespace Cert.Reference8Ideal.Out

open Cert.Reference8Ideal Cert.Reference8Ideal.Read Idealize.ShloMosaic Idealize.ShloMosaic.TcCoe Idealize.SL.Sem
open Cert.Memory Cert.Arranged
open Cert.Kernel8Ideal.Out (place)

variable (x0 : (⟨S4x2048x2048, .bf16⟩ : BufTy).Contents (Elt Ideal)) (x1 : (⟨S8192x9728, .bf16⟩ : BufTy).Contents (Elt Ideal))
  (x2 : (⟨S1024x1024, .bf16⟩ : BufTy).Contents (Elt Ideal)) (x3 : (⟨S8192x2048, .f32⟩ : BufTy).Contents (Elt Ideal))
  (x4 : (⟨S2560x2048, .f32⟩ : BufTy).Contents (Elt Ideal))

/-- The gates. -/
theorem gates : val_main_v2 (F := Ideal) x1 = Cert.Reference3Ideal.Read.val_main_v4 (F := Ideal) (arranged (U := 9728) place x1) := by
  funext i
  idx_vars i
  refine Eq.trans ?_ (Cert.Reference3Ideal.Out.gates (arranged (U := 9728) place x1) i0 i1 i2).symm
  pointwise [val_main_v2, val_main_v1, val_main_v0]
  exact read_col (U := 9728) place x1 _ _ i2.val (by simp; omega) (by simp [place]) (by omega) (by simp only [place]; omega) (by omega)

/-- The memory queries. -/
theorem queries : val_main_v6 (F := Ideal) x1 = Cert.Reference3Ideal.Read.val_main_v6 (F := Ideal) (arranged (U := 9728) place x1) := by
  funext i
  idx_vars i
  refine Eq.trans ?_ (Cert.Reference3Ideal.Out.queries (arranged (U := 9728) place x1) i0 i1 i2 i3).symm
  pointwise [val_main_v6, val_main_v3, val_main_v1, val_main_v0]
  exact read_col (U := 9728) place x1 _ _ (2560 + (128 * i2.val + i3.val)) (by simp; omega) (by simp only [place]; simp; omega) (by omega)
    (by simp only [place]; omega) (by omega)

/-- The scores. -/
theorem scores : val_main_v11 (F := Ideal) x1 x2 = Cert.Reference3Ideal.Read.val_main_v11 (F := Ideal) (arranged (U := 9728) place x1) x2 := by
  unfold val_main_v11 val_main_v9 Cert.Reference3Ideal.Read.val_main_v11 Cert.Reference3Ideal.Read.val_main_v9
  rw [queries]
  rfl

/-- The weights. -/
theorem weights : val_main_v22 (F := Ideal) x1 x2 = Cert.Reference3Ideal.Read.val_main_v22 (F := Ideal) (arranged (U := 9728) place x1) x2 := by
  unfold val_main_v22 val_main_v21 val_main_v20 val_main_v19 val_main_v18 val_main_v17 val_main_v16 val_main_v15 val_main_v14 val_main_v12
  rw [scores]
  rfl

/-- The activated gates. -/
theorem activated : val_main_v30 (F := Ideal) x1 = Cert.Reference3Ideal.Read.val_main_v30 (F := Ideal) (arranged (U := 9728) place x1) := by
  unfold val_main_v30 val_main_call0_v5 val_main_call0_v3 val_main_call0_v1 val_main_call0_v0
  rw [gates]
  rfl

/-- The rows before the residual. -/
theorem rows : val_main_v34 (F := Ideal) x0 x1 x2 x3 x4
    = Cert.Reference3Ideal.Read.val_main_v34 (F := Ideal) x0 (arranged (U := 9728) place x1) x2 x3 x4 := by
  unfold val_main_v34 val_main_v33 val_main_v32 val_main_v31 val_main_v29 val_main_v28 val_main_v26 val_main_v25
  rw [weights, activated]
  rfl

/-- The reference's result. -/
theorem result_eq : val_main_v34 (F := Ideal) x0 x1 x2 x3 x4
    = Cert.Arranged.result mean x0 (arranged (U := 9728) place x1) x2 x3 x4 := by
  rw [rows]
  funext i
  idx_vars i
  exact Cert.Reference3Ideal.Out.summed x0 (arranged (U := 9728) place x1) x2 x3 x4 ⟨i0.val / 2048, by omega⟩ ⟨i0.val % 2048, by omega⟩ i1 i0
    (by simp; omega)

end Cert.Reference8Ideal.Out

namespace Cert.Pre_finite_memory0

open Cert.Pre_finite_memory0 Idealize.ShloMosaic Cert.Kernel3Ideal.Out Cert.Arranged
open Cert.Kernel8Ideal.Out (place)

/-- Where the precondition holds, the memory queries and the memory keys are real numbers. -/
theorem reals (x0 : FVec Ideal S4x2048x2048 .bf16) (x1 : FVec Ideal S8192x9728 .bf16) (x2 : FVec Ideal S1024x1024 .bf16)
    (x3 : FVec Ideal S8192x2048 .f32) (x4 : FVec Ideal S2560x2048 .f32) [Facts]
    (h : fn (F := Ideal) x0 x1 x2 x3 x4 = fun _ => 1#1) :
    (∀ p k, k < 512 → ∃ r : ℝ, col (arranged (U := 9728) place x1) p (2560 + k) = r) ∧ ∀ p n k, k < 512 → ∃ r : ℝ, mem x2 p n k = r := by
  have h1 := congrFun h (Shape.Idx.first Facts.h_S_)
  have hs : Subsingleton S_.Idx := ⟨fun a b => funext fun k => k.elim0⟩
  have h2 := IntOp.andi_eq_one.mp h1
  refine ⟨columns_real (U := 9728) place 2560 x1 Facts.slices_S8192x9728_S8192x512_0_2560 (fun _ _ => rfl) (by omega) fun p k =>
      Cert.Pre_finite.real_of_abs_lt _ (Host.reduce_andi_all _ _ _ _ _ h2.1 (ix2 p k)),
    keys_real x2 Facts.slices_S1024x1024_S1024x512_0_0 fun n k =>
      Cert.Pre_finite.real_of_abs_lt _ (Host.reduce_andi_all _ _ _ _ _ h2.2 (ix2 n k))⟩

end Cert.Pre_finite_memory0

end
-- ==== Proof.OutLayer1.lean ====
module

public import proofs.«01_k».proof.Proof.OutArranged
public import proofs.«01_k».proof.Proof.Gen.Kernel9Ideal.Value
public import Idealize.ShloMosaic.Lib.Pipeline.Covers

@[expose] public section

set_option maxRecDepth 16384

/-! # The end of layer 1

The same blocks as at the end of layer 3, out of projected columns in another order, and no norm at the end. -/

noncomputable section

namespace Cert.Kernel9Ideal.Out

open Cert.Kernel9Ideal Cert.Kernel9Ideal.Gen Cert.Kernel9Ideal.Value Idealize.ShloMosaic Idealize.ShloMosaic.TcCoe Idealize.SL.Sem
open Cert.Memory Cert.Index Cert.Arranged
open Cert.Kernel3Ideal.Out (col mem sumRow gatedRow gated scratch scratch_at head_gated attention_gated whole_read gated_blocks)

/-- The output block, at an index. -/
theorem output_apply (x : Vec Ideal S256x2048 .f32) (h : Vec Ideal S256x2560 .bf16) (w : Vec Ideal S2560x2048 .bf16)
    (r : Fin 256) (d : Fin 2048) : k0_pay2 x h w (ix2 r d) = x (ix2 r d) + ∑ k, h (ix2 r k) * w (ix2 k d) := by
  pointwise [k0_pay2]

/-- The output block of a grid point. -/
theorem out_eq (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x1024 .bf16) (harg5 : arg5.IsWhole) (arg6 : Memref sig .tc .vmem S256x2048 .f32) (harg6 : arg6.IsWhole) (arg7 : Memref sig .tc .vmem S2560x2048 .bf16) (harg7 : arg7.IsWhole) (arg8 : Memref sig .tc .vmem S256x2048 .f32) (harg8 : arg8.IsWhole) (arg9 : Memref sig .tc .vmem S256x2560 .bf16) (harg9 : arg9.IsWhole)
    (x0 : Vec Ideal S256x2048 .bf16) (x1 : Vec Ideal S256x2048 .bf16) (x2 : Vec Ideal S256x512 .bf16) (x3 : Vec Ideal S256x512 .bf16) (x4 : Vec Ideal S256x1024 .bf16) (x5 : Vec Ideal S256x2048 .f32) (x6 : Vec Ideal S2560x2048 .bf16) :
    out0_A_7 c i arg1 harg1 arg2 harg2 arg3 harg3 arg4 harg4 arg5 harg5 arg6 harg6 arg7 harg7 arg8 harg8 arg9 harg9 x0 x1 x2 x3 x4 x5 x6 = k0_pay2 x5 (scratch x0 x1 x2 x3 x4) x6 := by
  frame_open
  frame_out
  refine congrArg (k0_pay2 x5 · x6) (whole_read _ _ (scratch x0 x1 x2 x3 x4) ?_ (View.cover_of_tiledBy _ ![256, 128] (by sl_kernel_rfl)) _)
  refine ⟨?_, ?_, ?_, ?_, ?_, trivial⟩
  · exact fun x => head_gated x0 x1 x2 x3 x4 3 384 896 2432 rfl rfl rfl _ _ _ inb_S256x2560_S256x128_0_2432 x
  · exact fun x => head_gated x0 x1 x2 x3 x4 2 256 768 2304 rfl rfl rfl _ _ _ inb_S256x2560_S256x128_0_2304 x
  · exact fun x => head_gated x0 x1 x2 x3 x4 1 128 640 2176 rfl rfl rfl _ _ _ inb_S256x2560_S256x128_0_2176 x
  · exact fun x => head_gated x0 x1 x2 x3 x4 0 0 512 2048 rfl rfl rfl _ _ _ inb_S256x2560_S256x128_0_2048 x
  · exact fun x => attention_gated x0 x1 x2 x3 x4 inb_S256x2560_S256x2048_0_0 x

/-- The block that each window stages at a grid point. -/
theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 10] := (by decide +kernel : ∀ t : Fin grid0.N, _)
theorem index3 : ∀ t : Fin cfg0.N, win0_3.index t = ![t.val, 11] := (by decide +kernel : ∀ t : Fin grid0.N, _)
theorem index4 : ∀ t : Fin cfg0.N, win0_4.index t = ![t.val / 8, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)

/-- The column of the projected rows at which layer 3's column stands: the memory's columns come later. -/
def place (k : ℕ) : ℕ := if k < 2048 then k else k + 3072

variable (m : (ℓ : Loc nD τ sig) → Buf (Elt Ideal) ℓ) (c : Dev nD)

/-- The argument arrays; the gates and memory queries in the order of layer 3. -/
abbrev argY : S4x2048x2048.Idx → EReal := m ((c : Thread nD τ).loc main_arg0)
abbrev argU : Cert.Kernel3Ideal.S8192x4608.Idx → EReal := arranged (U := 6656) place (m ((c : Thread nD τ).loc main_arg1))
abbrev argM : S1024x1024.Idx → EReal := m ((c : Thread nD τ).loc main_arg2)
abbrev argX : S8192x2048.Idx → EReal := m ((c : Thread nD τ).loc main_arg3)
abbrev argW : S2560x2048.Idx → EReal := m ((c : Thread nD τ).loc main_arg4)

/-- The attention's output. -/
theorem y_block (t : Fin cfg0.N) (r : Fin 256) (k : Fin 2048) :
    iblk m c 0 t (ix2 r k) = argY m c (ix3 (Fin.ofNat 4 ((256 * t.val + r.val) / 2048)) (Fin.ofNat 2048 ((256 * t.val + r.val) % 2048)) k) := by
  have e := index0 t
  have ht : t.val < 32 := t.isLt.trans_eq N_0
  show V m c main_v0 (((cfg0.win 0).blk t).view.emb (ix2 r k)) = _
  entry_read
  exact rows_host _ _ _ (by omega) k _ (by blk_simp [e]; simp; omega) (by blk_simp [e])

/-- The gates of the attention. -/
theorem zy_block (t : Fin cfg0.N) (r : Fin 256) (k : Fin 2048) : X0_1 m c t (ix2 r k) = col (argU m c) (256 * t.val + r.val) k.val := by
  have e := index1 t
  have ht : t.val < 32 := t.isLt.trans_eq N_0
  unfold X0_1 Pipeline.Window.fill
  rw [dif_pos (moved0_1 t _)]
  show V m c main_arg1 (((cfg0.win 1).blk t).view.emb _) = _
  rw [V_main_arg1 m c]
  have hf : place k.val = k.val := if_pos k.isLt
  exact read_col (U := 6656) place _ _ (256 * t.val + r.val) k.val (by blk_simp [e]; simp; omega) (by rw [hf]; blk_simp [e]) (by omega) (by omega) (by omega)

/-- The gates of the memory heads. -/
theorem zm_block (t : Fin cfg0.N) (r : Fin 256) (k : Fin 512) : iblk m c 2 t (ix2 r k) = col (argU m c) (256 * t.val + r.val) (2048 + k.val) := by
  have e := index2 t
  have ht : t.val < 32 := t.isLt.trans_eq N_0
  show V m c main_arg1 (((cfg0.win 2).blk t).view.emb (ix2 r k)) = _
  rw [V_main_arg1 m c]
  have hf : place (2048 + k.val) = 5120 + k.val := by rw [place, if_neg (by omega)]; omega
  exact read_col (U := 6656) place _ _ (256 * t.val + r.val) (2048 + k.val) (by blk_simp [e]; simp; omega) (by rw [hf]; blk_simp [e]) (by omega) (by omega) (by omega)

/-- The memory queries. -/
theorem qm_block (t : Fin cfg0.N) (r : Fin 256) (k : Fin 512) : iblk m c 3 t (ix2 r k) = col (argU m c) (256 * t.val + r.val) (2560 + k.val) := by
  have e := index3 t
  have ht : t.val < 32 := t.isLt.trans_eq N_0
  show V m c main_arg1 (((cfg0.win 3).blk t).view.emb (ix2 r k)) = _
  rw [V_main_arg1 m c]
  have hf : place (2560 + k.val) = 5632 + k.val := by rw [place, if_neg (by omega)]; omega
  exact read_col (U := 6656) place _ _ (256 * t.val + r.val) (2560 + k.val) (by blk_simp [e]; simp; omega) (by rw [hf]; blk_simp [e]) (by omega) (by omega) (by omega)

/-- The memory keys and values. -/
theorem mem_block (t : Fin cfg0.N) (r n : Fin 256) (k : Fin 1024) : iblk m c 4 t (ix2 n k) = mem (argM m c) (256 * t.val + r.val) n.val k.val := by
  have e := index4 t
  have ht : t.val < 32 := t.isLt.trans_eq N_0
  have hr : (256 * t.val + r.val) / 2048 = t.val / 8 := by omega
  show V m c main_arg2 (((cfg0.win 4).blk t).view.emb (ix2 n k)) = _
  rw [V_main_arg2 m c, mem, hr]
  exact read_at (A := 1024) (B := 1024) (argM m c) _ _ _ (by blk_simp [e]; simp; omega) (by blk_simp [e]) (by omega) (by omega)

/-- The residual. -/
theorem x_block (t : Fin cfg0.N) (r : Fin 256) (k : Fin 2048) : iblk m c 5 t (ix2 r k) = argX m c (ix2 (Fin.ofNat 8192 (256 * t.val + r.val)) k) := by
  have e := index5 t
  have ht : t.val < 32 := t.isLt.trans_eq N_0
  show V m c main_arg3 (((cfg0.win 5).blk t).view.emb (ix2 r k)) = _
  rw [V_main_arg3 m c]
  refine (read_at (A := 8192) (B := 2048) (argX m c) _ (256 * t.val + r.val) k.val (by blk_simp [e]; simp; omega) (by blk_simp [e]) (by omega) (by omega)).trans ?_
  rw [show Fin.ofNat 2048 k.val = k from Fin.ext (Nat.mod_eq_of_lt k.isLt)]

/-- The weight. -/
theorem w_block (t : Fin cfg0.N) (k : Fin 2560) (j : Fin 2048) : iblk m c 6 t (ix2 k j) = argW m c (ix2 k j) := by
  have e := index6 t
  show V m c main_v1 (((cfg0.win 6).blk t).view.emb (ix2 k j)) = _
  entry_read
  refine congrArg (argW m c) (funext fun a => Fin.ext ?_)
  match a with
  | ⟨0, _⟩ => blk_simp [e]
  | ⟨1, _⟩ => blk_simp [e]

/-- Every place of the result array lies in a block that is written back. -/
theorem covered (i : S8192x2048.Idx) : ∃ t : Fin cfg0.N, (cfg0.win 7).flush t = true ∧ i ∈ ((cfg0.win 7).blk t).view.set :=
  (by decide +kernel : (cfg0.win 7).Covers).cover _ (Memref.isWhole_whole _) i

/-- What a grid point leaves in its output block. -/
theorem point_value (t : Fin cfg0.N) (r : Fin 256) (d : Fin 2048) : outsAt0 m c t (ix2 r d)
    = sumRow quotient (argY m c) (argU m c) (argM m c) (argX m c) (argW m c) (256 * t.val + r.val) d := by
  unfold outsAt0
  rw [out_eq, output_apply]
  have h : ∀ k : Fin 2560, scratch (iblk m c 0 t) (X0_1 m c t) (iblk m c 2 t) (iblk m c 3 t) (iblk m c 4 t) (ix2 r k)
      = gatedRow quotient (argY m c) (argU m c) (argM m c) (256 * t.val + r.val) k.val := fun k =>
    (scratch_at _ _ _ _ _ _ r k.val rfl rfl).trans (gated_blocks _ _ _ _ _ _ _ _ _ r (y_block m c t r) (zy_block m c t r)
      (zm_block m c t r) (qm_block m c t r) (mem_block m c t r) k.val k.isLt)
  simp only [x_block, w_block, h]
  rfl

/-- The array after the run. -/
theorem final : (dats m 0 c).arrAt 7 cfg0.N = Cert.Arranged.result quotient (argY m c) (argU m c) (argM m c) (argX m c) (argW m c) := by
  refine (dats m 0 c).arrAt_eq_of_cover 7 (Cert.Arranged.result quotient (argY m c) (argU m c) (argM m c) (argX m c) (argW m c)) (fun t _ => ?_) covered
  rw [flushed7]
  have e := index7 t
  refine funext fun y => ?_
  idx_vars y
  refine (point_value m c t y0 y1).trans ?_
  show _ = Cert.Arranged.result quotient (argY m c) (argU m c) (argM m c) (argX m c) (argW m c) (((cfg0.win 7).blk t).view.emb (ix2 y0 y1))
  unfold Cert.Arranged.result
  have h0 : (((cfg0.win 7).blk t).view.emb (ix2 y0 y1) 0).val = 256 * t.val + y0.val := by blk_simp [e]; simp; omega
  have h1 : ((cfg0.win 7).blk t).view.emb (ix2 y0 y1) 1 = y1 := Fin.ext (by blk_simp [e])
  rw [h0, h1]

/-- The generated run with the result array at its function of the arguments. -/
theorem run (ρ : Dev nD → PrngReg) :
    θ_run defs (onTc (τ := τ) (main (F := Ideal))) ⟨m, fun _ => 0, ρ⟩ fun r => ∀ c : Dev nD,
      r.2.mem ((c : Thread nD τ).loc main_v2) = Cert.Arranged.result quotient (argY m c) (argU m c) (argM m c) (argX m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (run_blocks m ρ)

end Cert.Kernel9Ideal.Out
-- ==== Proof.OutRefLayer1.lean ====
module

public import proofs.«01_k».proof.Proof.OutLayer1
public import proofs.«01_k».proof.Proof.OutRef
public import proofs.«01_k».proof.Proof.Gen.Reference9Ideal.Read
public import proofs.«01_k».proof.Proof.Gen.Pre_finite_memory1

@[expose] public section

set_option maxRecDepth 16384

/-! # What the reference of the end of layer 1 computes

Its gates and memory queries are those that layer 3's reference takes out of the arranged columns; after that
both are the same operations. -/

noncomputable section

namespace Cert.Reference9Ideal.Out

open Cert.Reference9Ideal Cert.Reference9Ideal.Read Idealize.ShloMosaic Idealize.ShloMosaic.TcCoe Idealize.SL.Sem
open Cert.Memory Cert.Arranged
open Cert.Kernel9Ideal.Out (place)

variable (x0 : (⟨S4x2048x2048, .bf16⟩ : BufTy).Contents (Elt Ideal)) (x1 : (⟨S8192x6656, .bf16⟩ : BufTy).Contents (Elt Ideal))
  (x2 : (⟨S1024x1024, .bf16⟩ : BufTy).Contents (Elt Ideal)) (x3 : (⟨S8192x2048, .f32⟩ : BufTy).Contents (Elt Ideal))
  (x4 : (⟨S2560x2048, .f32⟩ : BufTy).Contents (Elt Ideal))

/-- A column of the projected rows, wherever it stands. -/
theorem column (b : Fin 4) (r : Fin 2048) (k : Fin 6656) : val_main_v1 (F := Ideal) x1 (ix3 b r k)
    = x1 (ix2 (Fin.ofNat 8192 (2048 * b.val + r.val)) k) := by
  pointwise [val_main_v1, val_main_v0]
  refine (Cert.Index.read_at (A := 8192) (B := 6656) x1 _ (2048 * b.val + r.val) k.val (by simp; omega) (by simp) (by omega) (by omega)).trans ?_
  rw [show Fin.ofNat 6656 k.val = k from Fin.ext (Nat.mod_eq_of_lt k.isLt)]

/-- The gates. -/
theorem gates : val_main_v4 (F := Ideal) x1 = Cert.Reference3Ideal.Read.val_main_v4 (F := Ideal) (arranged (U := 6656) place x1) := by
  funext i
  idx_vars i
  refine Eq.trans ?_ (Cert.Reference3Ideal.Out.gates (arranged (U := 6656) place x1) i0 i1 i2).symm
  rw [col_arranged _ _ _ _ (by omega)]
  unfold val_main_v4
  by_cases hk : i2.val < 2048
  · refine (concatenate_pair_apply_left (t := S4x2048x2560) 2 (val_main_v2 (F := Ideal) x1) (val_main_v3 (F := Ideal) x1) _ (ix3 i0 i1 i2) rfl
      (ix3 i0 i1 ⟨i2.val, hk⟩) (fun a => ?_)).trans ?_
    · match a with
      | ⟨0, _⟩ => rfl
      | ⟨1, _⟩ => rfl
      | ⟨2, _⟩ => rfl
    · rw [val_main_v2_apply]
      refine Eq.trans (congrArg (val_main_v1 (F := Ideal) x1) (?_ : _ = ix3 i0 i1 ⟨i2.val, by omega⟩)) ((column x1 i0 i1 ⟨i2.val, by omega⟩).trans ?_)
      · funext a
        match a with
        | ⟨0, _⟩ => exact Fin.ext (by simp [idx_main_v2])
        | ⟨1, _⟩ => exact Fin.ext (by simp [idx_main_v2])
        | ⟨2, _⟩ => exact Fin.ext (by simp [idx_main_v2])
      · rw [place, if_pos hk, show Fin.ofNat 6656 i2.val = ⟨i2.val, by omega⟩ from Fin.ext (Nat.mod_eq_of_lt (by omega))]
  · refine (concatenate_pair_apply_right (t := S4x2048x2560) 2 (val_main_v2 (F := Ideal) x1) (val_main_v3 (F := Ideal) x1) _ (ix3 i0 i1 i2) rfl rfl
      (ix3 i0 i1 ⟨i2.val - 2048, by omega⟩) (fun a ha => ?_) (Nat.sub_add_cancel (Nat.le_of_not_lt hk))).trans ?_
    · match a, ha with
      | ⟨0, _⟩, _ => rfl
      | ⟨1, _⟩, _ => rfl
      | ⟨2, _⟩, ha => exact absurd rfl ha
    · rw [val_main_v3_apply]
      refine Eq.trans (congrArg (val_main_v1 (F := Ideal) x1) (?_ : _ = ix3 i0 i1 ⟨i2.val + 3072, by omega⟩)) ((column x1 i0 i1 ⟨i2.val + 3072, by omega⟩).trans ?_)
      · funext a
        match a with
        | ⟨0, _⟩ => exact Fin.ext (by simp [idx_main_v3])
        | ⟨1, _⟩ => exact Fin.ext (by simp [idx_main_v3])
        | ⟨2, _⟩ => exact Fin.ext (by simp [idx_main_v3]; omega)
      · rw [place, if_neg hk, show Fin.ofNat 6656 (i2.val + 3072) = ⟨i2.val + 3072, by omega⟩ from Fin.ext (Nat.mod_eq_of_lt (by omega))]

/-- The memory queries. -/
theorem queries : val_main_v8 (F := Ideal) x1 = Cert.Reference3Ideal.Read.val_main_v6 (F := Ideal) (arranged (U := 6656) place x1) := by
  funext i
  idx_vars i
  refine Eq.trans ?_ (Cert.Reference3Ideal.Out.queries (arranged (U := 6656) place x1) i0 i1 i2 i3).symm
  have hf : place (2560 + (128 * i2.val + i3.val)) = 5632 + (128 * i2.val + i3.val) := by rw [place, if_neg (by omega)]; omega
  pointwise [val_main_v8, val_main_v5, val_main_v1, val_main_v0]
  exact read_col (U := 6656) place x1 _ _ (2560 + (128 * i2.val + i3.val)) (by simp; omega) (by rw [hf]; simp; omega) (by omega)
    (by rw [hf]; omega) (by omega)

/-- The scores. -/
theorem scores : val_main_v13 (F := Ideal) x1 x2 = Cert.Reference3Ideal.Read.val_main_v11 (F := Ideal) (arranged (U := 6656) place x1) x2 := by
  unfold val_main_v13 val_main_v11 Cert.Reference3Ideal.Read.val_main_v11 Cert.Reference3Ideal.Read.val_main_v9
  rw [queries]
  rfl

/-- The weights. -/
theorem weights : val_main_v24 (F := Ideal) x1 x2 = Cert.Reference3Ideal.Read.val_main_v22 (F := Ideal) (arranged (U := 6656) place x1) x2 := by
  unfold val_main_v24 val_main_v23 val_main_v22 val_main_v21 val_main_v20 val_main_v19 val_main_v18 val_main_v17 val_main_v16 val_main_v14
  rw [scores]
  rfl

/-- The activated gates. -/
theorem activated : val_main_v32 (F := Ideal) x1 = Cert.Reference3Ideal.Read.val_main_v30 (F := Ideal) (arranged (U := 6656) place x1) := by
  unfold val_main_v32 val_main_call0_v5 val_main_call0_v3 val_main_call0_v1 val_main_call0_v0
  rw [gates]
  rfl

/-- The rows before the residual. -/
theorem rows : val_main_v36 (F := Ideal) x0 x1 x2 x3 x4
    = Cert.Reference3Ideal.Read.val_main_v34 (F := Ideal) x0 (arranged (U := 6656) place x1) x2 x3 x4 := by
  unfold val_main_v36 val_main_v35 val_main_v34 val_main_v33 val_main_v31 val_main_v30 val_main_v28 val_main_v27
  rw [weights, activated]
  rfl

/-- The reference's result. -/
theorem result_eq : val_main_v36 (F := Ideal) x0 x1 x2 x3 x4
    = Cert.Arranged.result mean x0 (arranged (U := 6656) place x1) x2 x3 x4 := by
  rw [rows]
  funext i
  idx_vars i
  exact Cert.Reference3Ideal.Out.summed x0 (arranged (U := 6656) place x1) x2 x3 x4 ⟨i0.val / 2048, by omega⟩ ⟨i0.val % 2048, by omega⟩ i1 i0
    (by simp; omega)

end Cert.Reference9Ideal.Out

namespace Cert.Pre_finite_memory1

open Cert.Pre_finite_memory1 Idealize.ShloMosaic Cert.Kernel3Ideal.Out Cert.Arranged
open Cert.Kernel9Ideal.Out (place)

/-- Where the precondition holds, the memory queries and the memory keys are real numbers. -/
theorem reals (x0 : FVec Ideal S4x2048x2048 .bf16) (x1 : FVec Ideal S8192x6656 .bf16) (x2 : FVec Ideal S1024x1024 .bf16)
    (x3 : FVec Ideal S8192x2048 .f32) (x4 : FVec Ideal S2560x2048 .f32) [Facts]
    (h : fn (F := Ideal) x0 x1 x2 x3 x4 = fun _ => 1#1) :
    (∀ p k, k < 512 → ∃ r : ℝ, col (arranged (U := 6656) place x1) p (2560 + k) = r) ∧ ∀ p n k, k < 512 → ∃ r : ℝ, mem x2 p n k = r := by
  have h1 := congrFun h (Shape.Idx.first Facts.h_S_)
  have hs : Subsingleton S_.Idx := ⟨fun a b => funext fun k => k.elim0⟩
  have h2 := IntOp.andi_eq_one.mp h1
  refine ⟨columns_real (U := 6656) place 5632 x1 Facts.slices_S8192x6656_S8192x512_0_5632
      (fun k _ => by rw [place, if_neg (by omega)]; omega) (by omega) fun p k =>
      Cert.Pre_finite.real_of_abs_lt _ (Host.reduce_andi_all _ _ _ _ _ h2.1 (ix2 p k)),
    keys_real x2 Facts.slices_S1024x1024_S1024x512_0_0 fun n k =>
      Cert.Pre_finite.real_of_abs_lt _ (Host.reduce_andi_all _ _ _ _ _ h2.2 (ix2 n k))⟩

end Cert.Pre_finite_memory1

end
-- ==== Proof.OutLayer2.lean ====
module

public import proofs.«01_k».proof.Proof.OutArranged
public import proofs.«01_k».proof.Proof.Gen.Kernel13Ideal.Value
public import Idealize.ShloMosaic.Lib.Pipeline.Covers

@[expose] public section

set_option maxRecDepth 16384

/-! # The end of layer 2

The attention's output has 768 columns here. The memory heads are those of layer 3, out of projected columns in
another order; they stand from column 768 instead of column 2048. -/

noncomputable section

namespace Cert.Narrow

open Idealize.ShloMosaic Cert.Memory Cert.Kernel3Ideal.Out

/-- A matrix of extended reals. -/
abbrev Rows (R C : ℕ) := (⟨2, ![R, C]⟩ : Shape).Idx → EReal

section Spec

variable (q : (Fin 256 → EReal) → (Fin 256 → EReal) → EReal)
  (y : Rows 8192 768) (u : Rows 8192 4608) (mkv : Rows 1024 1024) (x : Rows 8192 2048) (w : Rows 1280 2048)

/-- Column `k` of the gated row `p`: 768 columns of the attention's output, then the memory heads. -/
def gatedRow (p k : ℕ) : EReal :=
  if k < 768 then y (ix2 (Fin.ofNat 8192 p) (Fin.ofNat 768 k)) * silu (col u p k)
  else Cert.Kernel3Ideal.Out.gatedRow q (fun _ => 0) u mkv p (k + 1280)

/-- Row `p` after the output projection and the residual. -/
def sumRow (p : ℕ) (j : Fin 2048) : EReal :=
  x (ix2 (Fin.ofNat 8192 p) j) + ∑ k : Fin 1280, gatedRow q y u mkv p k.val * w (ix2 k j)

/-- The result array. -/
def result (i : (⟨2, ![8192, 2048]⟩ : Shape).Idx) : EReal := sumRow q y u mkv x w (i 0).val (i 1)

end Spec

/-- At real memory queries and keys it does not matter how the mean of the values is taken. -/
theorem result_quotient (y : Rows 8192 768) (u : Rows 8192 4608) (mkv : Rows 1024 1024) (x : Rows 8192 2048) (w : Rows 1280 2048)
    (hu : ∀ p k, k < 512 → ∃ r : ℝ, col u p (2560 + k) = r) (hm : ∀ p n k, k < 512 → ∃ r : ℝ, mem mkv p n k = r) :
    result quotient y u mkv x w = result mean y u mkv x w := by
  have hrow : ∀ p (k : Fin 1280), gatedRow quotient y u mkv p k.val = gatedRow mean y u mkv p k.val := fun p k => by
    unfold gatedRow
    rw [gatedRow_quotient _ u mkv hu hm p (k.val + 1280) (by omega)]
  funext i
  unfold result sumRow
  simp only [hrow]

end Cert.Narrow

namespace Cert.Kernel13Ideal.Out

open Cert.Kernel13Ideal Cert.Kernel13Ideal.Gen Cert.Kernel13Ideal.Value Idealize.ShloMosaic Idealize.ShloMosaic.TcCoe Idealize.SL.Sem
open Cert.Memory Cert.Index Cert.Arranged Cert.Narrow
open Cert.Kernel3Ideal.Out (col mem gated scratch_at head_gated gated_blocks)

/-- The gated attention, at an index. -/
theorem gated_apply (z y : Vec Ideal S256x768 .bf16) (r : Fin 256) (d : Fin 768) :
    k0_pay3 z y (ix2 r d) = y (ix2 r d) * silu (z (ix2 r d)) := by
  pointwise [k0_pay3]
  rfl

/-- The output block, at an index. -/
theorem output_apply (x : Vec Ideal S256x2048 .f32) (h : Vec Ideal S256x1280 .bf16) (w : Vec Ideal S1280x2048 .bf16)
    (r : Fin 256) (d : Fin 2048) : k0_pay2 x h w (ix2 r d) = x (ix2 r d) + ∑ k, h (ix2 r k) * w (ix2 k d) := by
  pointwise [k0_pay2]

/-- A row of the scratch: 768 columns of gated attention, then layer 3's memory heads. -/
def gatedNarrow (x0 x1 : S256x768.Idx → EReal) (x2 x3 : S256x512.Idx → EReal) (x4 : S256x1024.Idx → EReal) (r : Fin 256) (k : ℕ) : EReal :=
  if k < 768 then x0 (ix2 r (Fin.ofNat 768 k)) * silu (x1 (ix2 r (Fin.ofNat 768 k)))
  else gated (fun _ => 0) (fun _ => 0) x2 x3 x4 r (k + 1280)

/-- The scratch as an array. -/
def scratch (x0 x1 : Vec Ideal S256x768 .bf16) (x2 x3 : Vec Ideal S256x512 .bf16) (x4 : Vec Ideal S256x1024 .bf16) : Vec Ideal S256x1280 .bf16 :=
  fun j => gatedNarrow x0 x1 x2 x3 x4 (j 0) (j 1).val

/-- Memory head `h` is the scratch's columns from `p`, by the same head of layer 3. -/
theorem head_narrow (x0 x1 : Vec Ideal S256x768 .bf16) (x2 x3 : Vec Ideal S256x512 .bf16) (x4 : Vec Ideal S256x1024 .bf16)
    (h o o' p p3 : ℕ) (ho : o = 128 * h) (ho' : o' = 512 + 128 * h) (hp : p = 768 + 128 * h) (hp3 : p3 = 2048 + 128 * h)
    (i1 : ∀ a, (![0, o] : Fin 2 → ℕ) a + (![256, 128] : Fin 2 → ℕ) a ≤ S256x512.size a)
    (i2 : ∀ a, (![0, o] : Fin 2 → ℕ) a + (![256, 128] : Fin 2 → ℕ) a ≤ S256x1024.size a)
    (i3 : ∀ a, (![0, o'] : Fin 2 → ℕ) a + (![256, 128] : Fin 2 → ℕ) a ≤ S256x1024.size a)
    (i4 : ∀ a, (![0, p] : Fin 2 → ℕ) a + (![256, 128] : Fin 2 → ℕ) a ≤ S256x1280.size a)
    (i5 : ∀ a, (![0, p3] : Fin 2 → ℕ) a + (![256, 128] : Fin 2 → ℕ) a ≤ Cert.Kernel3Ideal.S256x2560.size a)
    (y : S256x128.Idx) :
    Cert.Kernel3Ideal.Gen.k0_pay5 (F := Ideal) (Cert.Kernel3Ideal.Gen.k0_pay4 (F := Ideal) (View.ld x3 (Rect.unit ![0, o] ![256, 128] i1))
      (View.ld x4 (Rect.unit ![0, o] ![256, 128] i2)) (View.ld x4 (Rect.unit ![0, o'] ![256, 128] i3)) (View.ld x2 (Rect.unit ![0, o] ![256, 128] i1))) y
      = scratch x0 x1 x2 x3 x4 ((Rect.unit (s := S256x1280) ![0, p] ![256, 128] i4).emb y) := by
  refine (head_gated (fun _ => 0) (fun _ => 0) x2 x3 x4 h o o' p3 ho ho' hp3 i1 i2 i3 i5 y).trans ?_
  idx_vars y
  rw [scratch_at _ _ x2 x3 x4 _ y0 (p3 + y1.val) (by show 0 + 1 * y0.val = y0.val; omega) (by show p3 + 1 * y1.val = p3 + y1.val; omega)]
  have h0 : (Rect.unit (s := S256x1280) ![0, p] ![256, 128] i4).emb (ix2 y0 y1) 0 = y0 := Fin.ext (by show 0 + 1 * y0.val = y0.val; omega)
  have h1 : ((Rect.unit (s := S256x1280) ![0, p] ![256, 128] i4).emb (ix2 y0 y1) 1).val = p + y1.val := by show p + 1 * y1.val = p + y1.val; omega
  unfold scratch gatedNarrow
  rw [h0, h1, if_neg (by omega), show p + y1.val + 1280 = p3 + y1.val by omega]

/-- The gated attention is the scratch's first 768 columns. -/
theorem attention_narrow (x0 x1 : Vec Ideal S256x768 .bf16) (x2 x3 : Vec Ideal S256x512 .bf16) (x4 : Vec Ideal S256x1024 .bf16)
    (i4 : ∀ a, (![0, 0] : Fin 2 → ℕ) a + (![256, 768] : Fin 2 → ℕ) a ≤ S256x1280.size a) (y : S256x768.Idx) :
    k0_pay3 (F := Ideal) x1 x0 y
      = scratch x0 x1 x2 x3 x4 ((Rect.unit (s := S256x1280) ![0, 0] ![256, 768] i4).emb y) := by
  idx_vars y
  rw [gated_apply]
  have h0 : (Rect.unit (s := S256x1280) ![0, 0] ![256, 768] i4).emb (ix2 y0 y1) 0 = y0 := Fin.ext (by show 0 + 1 * y0.val = y0.val; omega)
  have h1 : ((Rect.unit (s := S256x1280) ![0, 0] ![256, 768] i4).emb (ix2 y0 y1) 1).val = y1.val := by show 0 + 1 * y1.val = y1.val; omega
  have hy : Fin.ofNat 768 y1.val = y1 := Fin.ext (Nat.mod_eq_of_lt y1.isLt)
  unfold scratch gatedNarrow
  rw [h0, h1, if_pos y1.isLt, hy]

/-- A load of the whole scratch after stores that are all pieces of one array and fill it. -/
theorem whole_read {sg : RefSig} (v : View sg .tc .vmem S256x1280 .bf16) (L : List (View.Piece (Elt Ideal) S256x1280 .bf16)) (G : Vec Ideal S256x1280 .bf16)
    (hL : View.PiecesOf (Val := Elt Ideal) (e := .bf16) G L) (hc : ∀ y : S256x1280.Idx, ∃ p ∈ L, y ∈ p.1.set) (inb) :
    v.readCov L (Rect.unit (s := S256x1280) ![0, 0] ![256, 1280] inb).toLoadRect = G := by
  rw [View.readCov_eq_canon']
  funext y
  have hy : (Rect.unit (s := S256x1280) ![0, 0] ![256, 1280] inb).toLoadRect.idx y = y := funext fun a => Fin.ext (by
    match a with
    | ⟨0, _⟩ => show 0 + 1 * (y 0).val = (y 0).val; omega
    | ⟨1, _⟩ => show 0 + 1 * (y 1).val = (y 1).val; omega)
  have h := View.canon_append_of_piecesOf (Val := Elt Ideal) (e := .bf16) G [] L hL y (hc y)
  rw [List.append_nil] at h
  exact (congrArg (View.canon L) hy).trans h

/-- The output block of a grid point. -/
theorem out_eq (c : Dev nD) (i : grid0.Coords) (arg1 : Memref sig .tc .vmem S256x768 .bf16) (harg1 : arg1.IsWhole) (arg2 : Memref sig .tc .vmem S256x768 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x1024 .bf16) (harg5 : arg5.IsWhole) (arg6 : Memref sig .tc .vmem S256x2048 .f32) (harg6 : arg6.IsWhole) (arg7 : Memref sig .tc .vmem S1280x2048 .bf16) (harg7 : arg7.IsWhole) (arg8 : Memref sig .tc .vmem S256x2048 .f32) (harg8 : arg8.IsWhole) (arg9 : Memref sig .tc .vmem S256x1280 .bf16) (harg9 : arg9.IsWhole)
    (x0 : Vec Ideal S256x768 .bf16) (x1 : Vec Ideal S256x768 .bf16) (x2 : Vec Ideal S256x512 .bf16) (x3 : Vec Ideal S256x512 .bf16) (x4 : Vec Ideal S256x1024 .bf16) (x5 : Vec Ideal S256x2048 .f32) (x6 : Vec Ideal S1280x2048 .bf16) :
    out0_A_7 c i arg1 harg1 arg2 harg2 arg3 harg3 arg4 harg4 arg5 harg5 arg6 harg6 arg7 harg7 arg8 harg8 arg9 harg9 x0 x1 x2 x3 x4 x5 x6 = k0_pay2 x5 (scratch x0 x1 x2 x3 x4) x6 := by
  frame_open
  frame_out
  refine congrArg (k0_pay2 x5 · x6) (whole_read _ _ (scratch x0 x1 x2 x3 x4) ?_ (View.cover_of_tiledBy _ ![256, 128] (by sl_kernel_rfl)) _)
  refine ⟨?_, ?_, ?_, ?_, ?_, trivial⟩
  · exact fun x => head_narrow x0 x1 x2 x3 x4 3 384 896 1152 2432 rfl rfl rfl rfl _ _ _ inb_S256x1280_S256x128_0_1152 Cert.Kernel3Ideal.Gen.inb_S256x2560_S256x128_0_2432 x
  · exact fun x => head_narrow x0 x1 x2 x3 x4 2 256 768 1024 2304 rfl rfl rfl rfl _ _ _ inb_S256x1280_S256x128_0_1024 Cert.Kernel3Ideal.Gen.inb_S256x2560_S256x128_0_2304 x
  · exact fun x => head_narrow x0 x1 x2 x3 x4 1 128 640 896 2176 rfl rfl rfl rfl _ _ _ inb_S256x1280_S256x128_0_896 Cert.Kernel3Ideal.Gen.inb_S256x2560_S256x128_0_2176 x
  · exact fun x => head_narrow x0 x1 x2 x3 x4 0 0 512 768 2048 rfl rfl rfl rfl _ _ _ inb_S256x1280_S256x128_0_768 Cert.Kernel3Ideal.Gen.inb_S256x2560_S256x128_0_2048 x
  · exact fun x => attention_narrow x0 x1 x2 x3 x4 inb_S256x1280_S256x768_0_0 x

/-- The block that each window stages at a grid point. -/
theorem index0 : ∀ t : Fin cfg0.N, win0_0.index t = ![t.val, 0] := (by decide +kernel : ∀ t : Fin grid0.N, _)
theorem index1 : ∀ t : Fin cfg0.N, win0_1.index t = ![t.val, 3] := (by decide +kernel : ∀ t : Fin grid0.N, _)
theorem index2 : ∀ t : Fin cfg0.N, win0_2.index t = ![t.val, 15] := (by decide +kernel : ∀ t : Fin grid0.N, _)
theorem index3 : ∀ t : Fin cfg0.N, win0_3.index t = ![t.val, 16] := (by decide +kernel : ∀ t : Fin grid0.N, _)
theorem index4 : ∀ t : Fin cfg0.N, win0_4.index t = ![t.val / 8, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)

/-- The column of the projected rows at which layer 3's column stands. -/
def place (k : ℕ) : ℕ := if k < 2048 then k + 2304 else k + 5632

variable (m : (ℓ : Loc nD τ sig) → Buf (Elt Ideal) ℓ) (c : Dev nD)

/-- The argument arrays; the gates and memory queries in the order of layer 3. -/
abbrev argY : S8192x768.Idx → EReal := m ((c : Thread nD τ).loc main_arg0)
abbrev argU : Cert.Kernel3Ideal.S8192x4608.Idx → EReal := arranged (U := 9216) place (m ((c : Thread nD τ).loc main_arg1))
abbrev argM : S1024x1024.Idx → EReal := m ((c : Thread nD τ).loc main_arg2)
abbrev argX : S8192x2048.Idx → EReal := m ((c : Thread nD τ).loc main_arg3)
abbrev argW : S1280x2048.Idx → EReal := m ((c : Thread nD τ).loc main_arg4)

/-- The attention's output. -/
theorem y_block (t : Fin cfg0.N) (r : Fin 256) (k : Fin 768) :
    iblk m c 0 t (ix2 r k) = argY m c (ix2 (Fin.ofNat 8192 (256 * t.val + r.val)) k) := by
  have e := index0 t
  have ht : t.val < 32 := t.isLt.trans_eq N_0
  show V m c main_arg0 (((cfg0.win 0).blk t).view.emb (ix2 r k)) = _
  rw [V_main_arg0 m c]
  refine (read_at (A := 8192) (B := 768) (argY m c) _ (256 * t.val + r.val) k.val (by blk_simp [e]; simp; omega) (by blk_simp [e]) (by omega) (by omega)).trans ?_
  rw [show Fin.ofNat 768 k.val = k from Fin.ext (Nat.mod_eq_of_lt k.isLt)]

/-- The gates of the attention. -/
theorem zy_block (t : Fin cfg0.N) (r : Fin 256) (k : Fin 768) : iblk m c 1 t (ix2 r k) = col (argU m c) (256 * t.val + r.val) k.val := by
  have e := index1 t
  have ht : t.val < 32 := t.isLt.trans_eq N_0
  show V m c main_arg1 (((cfg0.win 1).blk t).view.emb (ix2 r k)) = _
  rw [V_main_arg1 m c]
  have hf : place k.val = 2304 + k.val := by rw [place, if_pos (by omega)]; omega
  exact read_col (U := 9216) place _ _ (256 * t.val + r.val) k.val (by blk_simp [e]; simp; omega) (by rw [hf]; blk_simp [e]) (by omega) (by omega) (by omega)

/-- The gates of the memory heads. -/
theorem zm_block (t : Fin cfg0.N) (r : Fin 256) (k : Fin 512) : iblk m c 2 t (ix2 r k) = col (argU m c) (256 * t.val + r.val) (2048 + k.val) := by
  have e := index2 t
  have ht : t.val < 32 := t.isLt.trans_eq N_0
  show V m c main_arg1 (((cfg0.win 2).blk t).view.emb (ix2 r k)) = _
  rw [V_main_arg1 m c]
  have hf : place (2048 + k.val) = 7680 + k.val := by rw [place, if_neg (by omega)]; omega
  exact read_col (U := 9216) place _ _ (256 * t.val + r.val) (2048 + k.val) (by blk_simp [e]; simp; omega) (by rw [hf]; blk_simp [e]) (by omega) (by omega) (by omega)

/-- The memory queries. -/
theorem qm_block (t : Fin cfg0.N) (r : Fin 256) (k : Fin 512) : iblk m c 3 t (ix2 r k) = col (argU m c) (256 * t.val + r.val) (2560 + k.val) := by
  have e := index3 t
  have ht : t.val < 32 := t.isLt.trans_eq N_0
  show V m c main_arg1 (((cfg0.win 3).blk t).view.emb (ix2 r k)) = _
  rw [V_main_arg1 m c]
  have hf : place (2560 + k.val) = 8192 + k.val := by rw [place, if_neg (by omega)]; omega
  exact read_col (U := 9216) place _ _ (256 * t.val + r.val) (2560 + k.val) (by blk_simp [e]; simp; omega) (by rw [hf]; blk_simp [e]) (by omega) (by omega) (by omega)

/-- The memory keys and values. -/
theorem mem_block (t : Fin cfg0.N) (r n : Fin 256) (k : Fin 1024) : iblk m c 4 t (ix2 n k) = mem (argM m c) (256 * t.val + r.val) n.val k.val := by
  have e := index4 t
  have ht : t.val < 32 := t.isLt.trans_eq N_0
  have hr : (256 * t.val + r.val) / 2048 = t.val / 8 := by omega
  show V m c main_arg2 (((cfg0.win 4).blk t).view.emb (ix2 n k)) = _
  rw [V_main_arg2 m c, mem, hr]
  exact read_at (A := 1024) (B := 1024) (argM m c) _ _ _ (by blk_simp [e]; simp; omega) (by blk_simp [e]) (by omega) (by omega)

/-- The residual. -/
theorem x_block (t : Fin cfg0.N) (r : Fin 256) (k : Fin 2048) : iblk m c 5 t (ix2 r k) = argX m c (ix2 (Fin.ofNat 8192 (256 * t.val + r.val)) k) := by
  have e := index5 t
  have ht : t.val < 32 := t.isLt.trans_eq N_0
  show V m c main_arg3 (((cfg0.win 5).blk t).view.emb (ix2 r k)) = _
  rw [V_main_arg3 m c]
  refine (read_at (A := 8192) (B := 2048) (argX m c) _ (256 * t.val + r.val) k.val (by blk_simp [e]; simp; omega) (by blk_simp [e]) (by omega) (by omega)).trans ?_
  rw [show Fin.ofNat 2048 k.val = k from Fin.ext (Nat.mod_eq_of_lt k.isLt)]

/-- The weight. -/
theorem w_block (t : Fin cfg0.N) (k : Fin 1280) (j : Fin 2048) : iblk m c 6 t (ix2 k j) = argW m c (ix2 k j) := by
  have e := index6 t
  show V m c main_v0 (((cfg0.win 6).blk t).view.emb (ix2 k j)) = _
  entry_read
  refine congrArg (argW m c) (funext fun a => Fin.ext ?_)
  match a with
  | ⟨0, _⟩ => blk_simp [e]
  | ⟨1, _⟩ => blk_simp [e]

/-- Every place of the result array lies in a block that is written back. -/
theorem covered (i : S8192x2048.Idx) : ∃ t : Fin cfg0.N, (cfg0.win 7).flush t = true ∧ i ∈ ((cfg0.win 7).blk t).view.set :=
  (by decide +kernel : (cfg0.win 7).Covers).cover _ (Memref.isWhole_whole _) i

/-- The scratch of a grid point holds the gated rows. -/
theorem gated_point (t : Fin cfg0.N) (r : Fin 256) (k : Fin 1280) :
    scratch (iblk m c 0 t) (iblk m c 1 t) (iblk m c 2 t) (iblk m c 3 t) (iblk m c 4 t) (ix2 r k)
      = gatedRow quotient (argY m c) (argU m c) (argM m c) (256 * t.val + r.val) k.val := by
  show gatedNarrow (iblk m c 0 t) (iblk m c 1 t) (iblk m c 2 t) (iblk m c 3 t) (iblk m c 4 t) r k.val = _
  unfold gatedNarrow gatedRow
  split
  · rename_i h
    have hk : (Fin.ofNat 768 k.val).val = k.val := Nat.mod_eq_of_lt h
    rw [y_block, zy_block, hk]
  · rename_i h
    refine Eq.trans ?_ (gated_blocks (fun _ => 0) (argU m c) (argM m c) (fun _ => 0) (fun j => col (argU m c) (256 * t.val + r.val) (j 1).val)
      (iblk m c 2 t) (iblk m c 3 t) (iblk m c 4 t) (256 * t.val + r.val) r (fun _ => rfl) (fun _ => rfl) (zm_block m c t r) (qm_block m c t r)
      (mem_block m c t r) (k.val + 1280) (by omega))
    unfold gated
    rw [if_neg (by omega), if_neg (by omega)]

/-- What a grid point leaves in its output block. -/
theorem point_value (t : Fin cfg0.N) (r : Fin 256) (d : Fin 2048) : outsAt0 m c t (ix2 r d)
    = sumRow quotient (argY m c) (argU m c) (argM m c) (argX m c) (argW m c) (256 * t.val + r.val) d := by
  unfold outsAt0
  rw [out_eq, output_apply]
  simp only [x_block, w_block, gated_point]
  rfl

/-- The array after the run. -/
theorem final : (dats m 0 c).arrAt 7 cfg0.N = Cert.Narrow.result quotient (argY m c) (argU m c) (argM m c) (argX m c) (argW m c) := by
  refine (dats m 0 c).arrAt_eq_of_cover 7 (Cert.Narrow.result quotient (argY m c) (argU m c) (argM m c) (argX m c) (argW m c)) (fun t _ => ?_) covered
  rw [flushed7]
  have e := index7 t
  refine funext fun y => ?_
  idx_vars y
  refine (point_value m c t y0 y1).trans ?_
  show _ = Cert.Narrow.result quotient (argY m c) (argU m c) (argM m c) (argX m c) (argW m c) (((cfg0.win 7).blk t).view.emb (ix2 y0 y1))
  unfold Cert.Narrow.result
  have h0 : (((cfg0.win 7).blk t).view.emb (ix2 y0 y1) 0).val = 256 * t.val + y0.val := by blk_simp [e]; simp; omega
  have h1 : ((cfg0.win 7).blk t).view.emb (ix2 y0 y1) 1 = y1 := Fin.ext (by blk_simp [e])
  rw [h0, h1]

/-- The generated run with the result array at its function of the arguments. -/
theorem run (ρ : Dev nD → PrngReg) :
    θ_run defs (onTc (τ := τ) (main (F := Ideal))) ⟨m, fun _ => 0, ρ⟩ fun r => ∀ c : Dev nD,
      r.2.mem ((c : Thread nD τ).loc main_v1) = Cert.Narrow.result quotient (argY m c) (argU m c) (argM m c) (argX m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (run_blocks m ρ)

end Cert.Kernel13Ideal.Out

end
-- ==== Proof.OutRefLayer2.lean ====
module

public import proofs.«01_k».proof.Proof.OutLayer2
public import proofs.«01_k».proof.Proof.OutRef
public import proofs.«01_k».proof.Proof.Gen.Reference13Ideal.Read
public import proofs.«01_k».proof.Proof.Gen.Pre_finite_memory2

@[expose] public section

set_option maxRecDepth 16384

/-! # What the reference of the end of layer 2 computes

Its memory queries are those that layer 3's reference takes out of the arranged columns, so its memory heads are
layer 3's. -/

noncomputable section

namespace Cert.Reference13Ideal.Out

open Cert.Reference13Ideal Cert.Reference13Ideal.Read Idealize.ShloMosaic Idealize.ShloMosaic.TcCoe Idealize.SL.Sem
open Cert.Memory Cert.Arranged Cert.Narrow
open Cert.Kernel3Ideal.Out (col mem score)
open Cert.Kernel13Ideal.Out (place)

variable (x0 : (⟨S8192x768, .bf16⟩ : BufTy).Contents (Elt Ideal)) (x1 : (⟨S8192x9216, .bf16⟩ : BufTy).Contents (Elt Ideal))
  (x2 : (⟨S1024x1024, .bf16⟩ : BufTy).Contents (Elt Ideal)) (x3 : (⟨S8192x2048, .f32⟩ : BufTy).Contents (Elt Ideal))
  (x4 : (⟨S1280x2048, .f32⟩ : BufTy).Contents (Elt Ideal))

/-- A column of the projected rows, wherever it stands. -/
theorem column (b : Fin 4) (r : Fin 2048) (k : Fin 9216) : val_main_v1 (F := Ideal) x1 (ix3 b r k)
    = x1 (ix2 (Fin.ofNat 8192 (2048 * b.val + r.val)) k) := by
  pointwise [val_main_v1, val_main_v0]
  refine (Cert.Index.read_at (A := 8192) (B := 9216) x1 _ (2048 * b.val + r.val) k.val (by simp; omega) (by simp) (by omega) (by omega)).trans ?_
  rw [show Fin.ofNat 9216 k.val = k from Fin.ext (Nat.mod_eq_of_lt k.isLt)]

/-- The gates: layer 3's gates of the attention's first 768 columns, then those of the memory heads. -/
theorem gates (b : Fin 4) (r : Fin 2048) (k : Fin 1280) : val_main_v4 (F := Ideal) x1 (ix3 b r k)
    = col (arranged (U := 9216) place x1) (2048 * b.val + r.val) (if k.val < 768 then k.val else k.val + 1280) := by
  unfold val_main_v4
  by_cases hk : k.val < 768
  · rw [if_pos hk, col_arranged _ _ _ _ (by omega)]
    refine (concatenate_pair_apply_left (t := S4x2048x1280) 2 (val_main_v2 (F := Ideal) x1) (val_main_v3 (F := Ideal) x1) _ (ix3 b r k) rfl
      (ix3 b r ⟨k.val, hk⟩) (fun a => ?_)).trans ?_
    · match a with
      | ⟨0, _⟩ => rfl
      | ⟨1, _⟩ => rfl
      | ⟨2, _⟩ => rfl
    · rw [val_main_v2_apply]
      refine Eq.trans (congrArg (val_main_v1 (F := Ideal) x1) (?_ : _ = ix3 b r ⟨k.val + 2304, by omega⟩)) ((column x1 b r ⟨k.val + 2304, by omega⟩).trans ?_)
      · funext a
        match a with
        | ⟨0, _⟩ => exact Fin.ext (by simp [idx_main_v2])
        | ⟨1, _⟩ => exact Fin.ext (by simp [idx_main_v2])
        | ⟨2, _⟩ => exact Fin.ext (by simp [idx_main_v2]; omega)
      · rw [place, if_pos (by omega), show Fin.ofNat 9216 (k.val + 2304) = ⟨k.val + 2304, by omega⟩ from Fin.ext (Nat.mod_eq_of_lt (by omega))]
  · rw [if_neg hk, col_arranged _ _ _ _ (by omega)]
    refine (concatenate_pair_apply_right (t := S4x2048x1280) 2 (val_main_v2 (F := Ideal) x1) (val_main_v3 (F := Ideal) x1) _ (ix3 b r k) rfl rfl
      (ix3 b r ⟨k.val - 768, by omega⟩) (fun a ha => ?_) (Nat.sub_add_cancel (Nat.le_of_not_lt hk))).trans ?_
    · match a, ha with
      | ⟨0, _⟩, _ => rfl
      | ⟨1, _⟩, _ => rfl
      | ⟨2, _⟩, ha => exact absurd rfl ha
    · rw [val_main_v3_apply]
      refine Eq.trans (congrArg (val_main_v1 (F := Ideal) x1) (?_ : _ = ix3 b r ⟨k.val + 6912, by omega⟩)) ((column x1 b r ⟨k.val + 6912, by omega⟩).trans ?_)
      · funext a
        match a with
        | ⟨0, _⟩ => exact Fin.ext (by simp [idx_main_v3])
        | ⟨1, _⟩ => exact Fin.ext (by simp [idx_main_v3])
        | ⟨2, _⟩ => exact Fin.ext (by simp [idx_main_v3]; omega)
      · rw [place, if_neg (by omega), show Fin.ofNat 9216 (k.val + 1280 + 5632) = ⟨k.val + 6912, by omega⟩ from Fin.ext (Nat.mod_eq_of_lt (by omega))]

/-- The memory queries. -/
theorem queries : val_main_v9 (F := Ideal) x1 = Cert.Reference3Ideal.Read.val_main_v6 (F := Ideal) (arranged (U := 9216) place x1) := by
  funext i
  idx_vars i
  refine Eq.trans ?_ (Cert.Reference3Ideal.Out.queries (arranged (U := 9216) place x1) i0 i1 i2 i3).symm
  have hf : place (2560 + (128 * i2.val + i3.val)) = 8192 + (128 * i2.val + i3.val) := by rw [place, if_neg (by omega)]; omega
  pointwise [val_main_v9, val_main_v6, val_main_v1, val_main_v0]
  exact read_col (U := 9216) place x1 _ _ (2560 + (128 * i2.val + i3.val)) (by simp; omega) (by rw [hf]; simp; omega) (by omega)
    (by rw [hf]; omega) (by omega)

/-- The scores. -/
theorem scores : val_main_v14 (F := Ideal) x1 x2 = Cert.Reference3Ideal.Read.val_main_v11 (F := Ideal) (arranged (U := 9216) place x1) x2 := by
  unfold val_main_v14 val_main_v12 Cert.Reference3Ideal.Read.val_main_v11 Cert.Reference3Ideal.Read.val_main_v9
  rw [queries]
  rfl

/-- The weights. -/
theorem weights : val_main_v25 (F := Ideal) x1 x2 = Cert.Reference3Ideal.Read.val_main_v22 (F := Ideal) (arranged (U := 9216) place x1) x2 := by
  unfold val_main_v25 val_main_v24 val_main_v23 val_main_v22 val_main_v21 val_main_v20 val_main_v19 val_main_v18 val_main_v17 val_main_v15
  rw [scores]
  rfl

/-- The memory heads side by side. -/
theorem heads : val_main_v31 (F := Ideal) x1 x2 = Cert.Reference3Ideal.Read.val_main_v28 (F := Ideal) (arranged (U := 9216) place x1) x2 := by
  unfold val_main_v31 val_main_v29 val_main_v28
  rw [weights]
  rfl

/-- The activated gates. -/
theorem activated (b : Fin 4) (r : Fin 2048) (k : Fin 1280) :
    val_main_v33 (F := Ideal) x1 (ix3 b r k) = silu (val_main_v4 (F := Ideal) x1 (ix3 b r k)) := by
  have h1 : Ideal.ofBits .f32 0x3F800000#32 = 1 := by
    simp [Ideal.ofBits, Ideal.ieee]
    rw [← EReal.coe_mul, show (8388608 : ℝ) * (2 ^ 23)⁻¹ = 1 by norm_num, EReal.coe_one]
  have hs : val_main_v33 (F := Ideal) x1 (ix3 b r k) = val_main_v4 (F := Ideal) x1 (ix3 b r k)
      * Ideal.div (Ideal.ofBits .f32 0x3F800000#32) (Ideal.ofBits .f32 0x3F800000#32 + Ideal.exp (-val_main_v4 (F := Ideal) x1 (ix3 b r k))) := by
    generalize hy : val_main_v4 (F := Ideal) x1 = y
    pointwise [val_main_v33, val_main_call0_v5, val_main_call0_v4, val_main_call0_v3, val_main_call0_v2, val_main_call0_v1,
      val_main_call0_v0, val_main_call0_cst, val_main_call0_cst_0]
    rw [hy]
  rw [hs, h1]
  rfl

/-- The attention's output. -/
theorem attended (b : Fin 4) (r : Fin 2048) (k : Fin 768) :
    val_main_v30 (F := Ideal) x0 (ix3 b r k) = x0 (ix2 (Fin.ofNat 8192 (2048 * b.val + r.val)) k) := by
  pointwise [val_main_v30, val_main_v5]
  refine (Cert.Index.read_at (A := 8192) (B := 768) x0 _ (2048 * b.val + r.val) k.val (by simp; omega) (by simp) (by omega) (by omega)).trans ?_
  rw [show Fin.ofNat 768 k.val = k from Fin.ext (Nat.mod_eq_of_lt k.isLt)]

/-- The gated row. -/
theorem gatedRef (b : Fin 4) (r : Fin 2048) (k : Fin 1280) : val_main_v34 (F := Ideal) x0 x1 x2 (ix3 b r k)
    = gatedRow mean x0 (arranged (U := 9216) place x1) x2 (2048 * b.val + r.val) k.val := by
  rw [val_main_v34_apply, activated, gates]
  unfold gatedRow val_main_v32
  by_cases hk : k.val < 768
  · rw [if_pos hk, if_pos hk]
    refine congrArg (fun a : EReal => a * silu (col (arranged (U := 9216) place x1) (2048 * b.val + r.val) k.val)) ?_
    refine (concatenate_pair_apply_left (t := S4x2048x1280) 2 (val_main_v30 (F := Ideal) x0) (val_main_v31 (F := Ideal) x1 x2) _ (ix3 b r k) rfl
      (ix3 b r ⟨k.val, hk⟩) (fun a => ?_)).trans ?_
    · match a with
      | ⟨0, _⟩ => rfl
      | ⟨1, _⟩ => rfl
      | ⟨2, _⟩ => rfl
    · rw [attended, show Fin.ofNat 768 k.val = ⟨k.val, hk⟩ from Fin.ext (Nat.mod_eq_of_lt hk)]
  · rw [if_neg hk, if_neg hk, Cert.Kernel3Ideal.Out.gatedRow, if_neg (by omega)]
    refine congrArg (fun a : EReal => a * silu (col (arranged (U := 9216) place x1) (2048 * b.val + r.val) (k.val + 1280))) ?_
    refine (concatenate_pair_apply_right (t := S4x2048x1280) 2 (val_main_v30 (F := Ideal) x0) (val_main_v31 (F := Ideal) x1 x2) _ (ix3 b r k) rfl rfl
      (ix3 b r ⟨k.val - 768, by omega⟩) (fun a ha => ?_) (Nat.sub_add_cancel (Nat.le_of_not_lt hk))).trans ?_
    · match a, ha with
      | ⟨0, _⟩, _ => rfl
      | ⟨1, _⟩, _ => rfl
      | ⟨2, _⟩, ha => exact absurd rfl ha
    · rw [heads, Cert.Reference3Ideal.Out.memoryRow, show k.val + 1280 - 2048 = k.val - 768 by omega]

/-- The row after the output projection and the residual. -/
theorem summed (b : Fin 4) (r j : Fin 2048) (i : Fin 8192) (hi : i.val = 2048 * b.val + r.val) :
    val_main_v37 (F := Ideal) x0 x1 x2 x3 x4 (ix2 i j) = sumRow mean x0 (arranged (U := 9216) place x1) x2 x3 x4 i.val j := by
  have hs : val_main_v37 (F := Ideal) x0 x1 x2 x3 x4 (ix2 i j)
      = x3 (ix2 i j) + val_main_v35 (F := Ideal) x0 x1 x2 x4 (ix3 b r j) := by
    rw [val_main_v37_apply, val_main_v36_apply]
    refine congrArg (fun a : EReal => x3 (ix2 i j) + a) (congrArg (val_main_v35 (F := Ideal) x0 x1 x2 x4) (funext fun a => Fin.ext ?_))
    match a with
    | ⟨0, _⟩ => show (i.val * 2048 + j.val) / 4194304 = b.val; omega
    | ⟨1, _⟩ => show (i.val * 2048 + j.val) / 2048 % 2048 = r.val; omega
    | ⟨2, _⟩ => show (i.val * 2048 + j.val) % 2048 = j.val; omega
  have hd : val_main_v35 (F := Ideal) x0 x1 x2 x4 (ix3 b r j)
      = ∑ k : Fin 1280, val_main_v34 (F := Ideal) x0 x1 x2 (ix3 b r k) * x4 (ix2 k j) := by
    generalize hy : val_main_v34 (F := Ideal) x0 x1 x2 = y
    pointwise [val_main_v35]
    rw [hy]
  rw [hs, hd]
  simp only [gatedRef, ← hi]
  unfold sumRow
  rw [show Fin.ofNat 8192 i.val = i from Fin.ext (Nat.mod_eq_of_lt i.isLt)]

/-- The reference's result. -/
theorem result_eq : val_main_v37 (F := Ideal) x0 x1 x2 x3 x4
    = Cert.Narrow.result mean x0 (arranged (U := 9216) place x1) x2 x3 x4 := by
  funext i
  idx_vars i
  exact summed x0 x1 x2 x3 x4 ⟨i0.val / 2048, by omega⟩ ⟨i0.val % 2048, by omega⟩ i1 i0 (by simp; omega)

end Cert.Reference13Ideal.Out

namespace Cert.Pre_finite_memory2

open Cert.Pre_finite_memory2 Idealize.ShloMosaic Cert.Kernel3Ideal.Out Cert.Arranged
open Cert.Kernel13Ideal.Out (place)

/-- Where the precondition holds, the memory queries and the memory keys are real numbers. -/
theorem reals (x0 : FVec Ideal S8192x768 .bf16) (x1 : FVec Ideal S8192x9216 .bf16) (x2 : FVec Ideal S1024x1024 .bf16)
    (x3 : FVec Ideal S8192x2048 .f32) (x4 : FVec Ideal S1280x2048 .f32) [Facts]
    (h : fn (F := Ideal) x0 x1 x2 x3 x4 = fun _ => 1#1) :
    (∀ p k, k < 512 → ∃ r : ℝ, col (arranged (U := 9216) place x1) p (2560 + k) = r) ∧ ∀ p n k, k < 512 → ∃ r : ℝ, mem x2 p n k = r := by
  have h1 := congrFun h (Shape.Idx.first Facts.h_S_)
  have hs : Subsingleton S_.Idx := ⟨fun a b => funext fun k => k.elim0⟩
  have h2 := IntOp.andi_eq_one.mp h1
  refine ⟨columns_real (U := 9216) place 8192 x1 Facts.slices_S8192x9216_S8192x512_0_8192
      (fun k _ => by rw [place, if_neg (by omega)]; omega) (by omega) fun p k =>
      Cert.Pre_finite.real_of_abs_lt _ (Host.reduce_andi_all _ _ _ _ _ h2.1 (ix2 p k)),
    keys_real x2 Facts.slices_S1024x1024_S1024x512_0_0 fun n k =>
      Cert.Pre_finite.real_of_abs_lt _ (Host.reduce_andi_all _ _ _ _ _ h2.2 (ix2 n k))⟩

end Cert.Pre_finite_memory2

end
-- ==== Proof.UpShared.lean ====
module

public import proofs.«01_k».proof.Proof.ProjShared

@[expose] public section

set_option maxRecDepth 16384

/-! # The up-projections of layer 3

Rows of 512 columns of the fused projection are normed and multiplied by a weight of any number of columns.
As in the input projections, the first point of a row of blocks leaves the normed rows in the scratch. -/

noncomputable section

namespace Cert.Up

open Idealize.ShloMosaic Cert.Proj

/-- Element `d` of a row of 512 numbers divided by the root of its mean square, with its gain. -/
def normRow (x g : Fin 512 → EReal) (d : Fin 512) : EReal :=
  x d * Ideal.rsqrt (Ideal.div (∑ k, x k * x k) (Ideal.ofBits .f32 0x44000000#32) + Ideal.ofBits .f32 0x358637BD#32) * g d

section Spec

variable {C : ℕ} [NeZero C] (lo : ℕ) (u : Mat 8192 4608) (g : Row 512) (w : Mat 512 C)

/-- Row `p` of the 512 columns of `u` from `lo`. -/
def part (p : ℕ) (d : Fin 512) : EReal := u (ix2 (Fin.ofNat 8192 p) (Fin.ofNat 4608 (lo + d.val)))

/-- The same row, normed. -/
def normed (p : ℕ) (d : Fin 512) : EReal := normRow (part lo u p) (fun k => g (ix1 k)) d

/-- The product of the normed row `p` with column `q` of the weight. -/
def proj (p q : ℕ) : EReal := ∑ d : Fin 512, normed lo u g p d * w (ix2 d (Fin.ofNat C q))

/-- The result array. -/
def result (i : (⟨2, ![8192, C]⟩ : Shape).Idx) : EReal := proj lo u g w (i 0).val (i 1).val

end Spec

section Points

variable {C N : ℕ} [NeZero C] (K lo : ℕ) (u : Mat 8192 4608) (g : Row 512) (w : Mat 512 C)
  (outs : ∀ n : ℕ, n < N → Mat 1024 512 × Mat 1024 512) (W : Fin N → Mat 512 512)
  (first : ∀ t : Fin N, t.val % K = 0 → ∀ (r : Fin 1024) (d : Fin 512),
    (outs t.val t.isLt).2 (ix2 r d) = normed lo u g (1024 * (t.val / K) + r.val) d)
  (later : ∀ (n : ℕ) (hn : n + 1 < N), ¬(n + 1) % K = 0 → (outs (n + 1) hn).2 = (outs n (Nat.lt_of_succ_lt hn)).2)
  (product : ∀ (t : Fin N) (r : Fin 1024) (q : Fin 512),
    (outs t.val t.isLt).1 (ix2 r q) = ∑ d, (outs t.val t.isLt).2 (ix2 r d) * W t (ix2 d q))
  (hW : ∀ t d q, W t (ix2 d q) = w (ix2 d (Fin.ofNat C (512 * (t.val % K) + q.val))))

include first later in
/-- What the scratch holds after a grid point: the normed rows of the point's row of blocks. -/
theorem held (n : ℕ) (hn : n < N) (r : Fin 1024) (d : Fin 512) :
    (outs n hn).2 (ix2 r d) = normed lo u g (1024 * (n / K) + r.val) d := by
  induction n with
  | zero => exact first ⟨0, hn⟩ (Nat.zero_mod K) r d
  | succ n ih =>
    by_cases h0 : (n + 1) % K = 0
    · exact first ⟨n + 1, hn⟩ h0 r d
    · rw [later n hn h0, same_row K n h0]
      exact ih (Nat.lt_of_succ_lt hn)

include first later product hW in
/-- What a grid point leaves in its output block. -/
theorem point (t : Fin N) (r : Fin 1024) (q : Fin 512) :
    (outs t.val t.isLt).1 (ix2 r q) = proj lo u g w (1024 * (t.val / K) + r.val) (512 * (t.val % K) + q.val) := by
  rw [product]
  simp only [held K lo u g outs first later, hW]
  rfl

end Points

/-- The gains laid out as one row, at an index. -/
theorem gains_row {α : Type} (x : (⟨1, ![512]⟩ : Shape).Idx → α) (hs : (⟨1, ![512]⟩ : Shape).ShapeCasts (⟨2, ![1, 512]⟩ : Shape)) (d : Fin 512)
    (j : (⟨2, ![1, 512]⟩ : Shape).Idx) (h1 : (j 1).val = d.val) : shapeCast (⟨2, ![1, 512]⟩ : Shape) x hs j = x (ix1 d) := by
  refine shapeCast_apply _ _ _ _ ?_
  idx_vars j
  rw [Shape.rowMajor_val_one, Shape.rowMajor_val_two]
  simp at h1
  simp [h1]

end Cert.Up

end
-- ==== Proof.UpQueries.lean ====
module

public import proofs.«01_k».proof.Proof.UpShared
public import proofs.«01_k».proof.Proof.Gen.Kernel11Ideal.Value
public import proofs.«01_k».proof.Proof.Gen.Reference11Ideal.Read
public import Idealize.ShloMosaic.Lib.Pipeline.Covers

@[expose] public section

set_option maxRecDepth 16384

/-! # The up-projection of layer 3's queries

3072 columns, in six blocks, out of the 512 columns of the fused projection from 3072. -/

noncomputable section

namespace Cert.Kernel11Ideal.Up

open Cert.Kernel11Ideal Cert.Kernel11Ideal.Gen Cert.Kernel11Ideal.Value Idealize.ShloMosaic Idealize.ShloMosaic.TcCoe Idealize.SL.Sem
open Cert.Index

/-- The stored normed rows, at an index. -/
theorem norm_apply (x0 : Vec Ideal S1024x512 .bf16) (x1 : Vec Ideal S1x512 .f32) (r : Fin 1024) (d : Fin 512) :
    k0_pay1 x0 x1 (ix2 r d) = Cert.Up.normRow (fun k => x0 (ix2 r k)) (fun k => x1 (ix2 0 k)) d := by
  pointwise [k0_pay1]
  rfl

/-- The stored product, at an index. -/
theorem product_apply (h : Vec Ideal S1024x512 .bf16) (w : Vec Ideal S512x512 .bf16) (r : Fin 1024) (q : Fin 512) :
    k0_pay2 h w (ix2 r q) = ∑ d, h (ix2 r d) * w (ix2 d q) := by
  pointwise [k0_pay2]

section Block

variable (c : Dev nD) (i : grid0.Coords)
  (arg2 : Memref sig .tc .vmem S1024x512 .bf16) (harg2 : arg2.IsWhole) (arg3 : Memref sig .tc .vmem S1x512 .f32) (harg3 : arg3.IsWhole)
  (arg4 : Memref sig .tc .vmem S512x512 .bf16) (harg4 : arg4.IsWhole) (arg5 : Memref sig .tc .vmem S1024x512 .bf16) (harg5 : arg5.IsWhole)
  (arg6 : Memref sig .tc .vmem S1024x512 .bf16) (harg6 : arg6.IsWhole)
  (x0 : Vec Ideal S1024x512 .bf16) (x1 : Vec Ideal S1x512 .f32) (x2 : Vec Ideal S512x512 .bf16) (xs : Vec Ideal S1024x512 .bf16)

/-- The scratch and the output block of a row's first point, and the output block of every other point. -/
theorem scratch_eq (hc : cond0_0 i) :
    sout0_A_0 (F := Ideal) c i arg2 harg2 arg3 harg3 arg4 harg4 arg5 harg5 arg6 harg6 hc x0 x1 x2 = k0_pay1 x0 x1 := by
  frame_out

theorem first_eq (hc : cond0_0 i) :
    out0_A_3 (F := Ideal) c i arg2 harg2 arg3 harg3 arg4 harg4 arg5 harg5 arg6 harg6 hc x0 x1 x2 = k0_pay2 (k0_pay1 x0 x1) x2 := by
  frame_out

theorem later_eq (hc : ¬cond0_0 i) :
    out0_B_3 (F := Ideal) c i arg2 harg2 arg3 harg3 arg4 harg4 arg5 harg5 arg6 harg6 hc x0 x1 x2 xs = k0_pay2 xs x2 := by
  frame_out

end Block

/-- The block that each window stages at a grid point. -/
theorem index0 : ∀ t : Fin cfg0.N, win0_0.index t = ![t.val / 6, 6] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, t.val % 6] := (by decide +kernel : ∀ t : Fin grid0.N, _)
theorem index3 : ∀ t : Fin cfg0.N, win0_3.index t = ![t.val / 6, t.val % 6] := (by decide +kernel : ∀ t : Fin grid0.N, _)

variable (m : (ℓ : Loc nD τ sig) → Buf (Elt Ideal) ℓ) (c : Dev nD)

/-- The three argument arrays. -/
abbrev argU : Cert.Proj.Mat 8192 4608 := m ((c : Thread nD τ).loc main_arg0)
abbrev argG : Cert.Proj.Row 512 := m ((c : Thread nD τ).loc main_arg1)
abbrev argW : Cert.Proj.Mat 512 3072 := m ((c : Thread nD τ).loc main_arg2)

/-- The rows, the gains and the columns of the weight of a grid point. -/
theorem row_block (t : Fin cfg0.N) (r : Fin 1024) (d : Fin 512) :
    iblk m c 0 t (ix2 r d) = Cert.Up.part 3072 (argU m c) (1024 * (t.val / 6) + r.val) d := by
  have e := index0 t
  have ht : t.val < 48 := t.isLt.trans_eq N_0
  show V m c main_arg0 (((cfg0.win 0).blk t).view.emb (ix2 r d)) = _
  rw [V_main_arg0 m c]
  exact read_at (A := 8192) (B := 4608) (argU m c) _ (1024 * (t.val / 6) + r.val) (3072 + d.val) (by blk_simp [e]; simp; omega)
    (by blk_simp [e]) (by omega) (by omega)

theorem gain_block (t : Fin cfg0.N) (d : Fin 512) : iblk m c 1 t (ix2 0 d) = argG m c (ix1 d) := by
  have e := index1 t
  show V m c main_v0 (((cfg0.win 1).blk t).view.emb (ix2 0 d)) = _
  entry_read
  exact Cert.Up.gains_row _ _ d _ (by blk_simp [e])

theorem weight_block (t : Fin cfg0.N) (d : Fin 512) (q : Fin 512) :
    iblk m c 2 t (ix2 d q) = argW m c (ix2 d (Fin.ofNat 3072 (512 * (t.val % 6) + q.val))) := by
  have e := index2 t
  have hm : t.val % 6 < 6 := Nat.mod_lt _ (by decide)
  show V m c main_arg2 (((cfg0.win 2).blk t).view.emb (ix2 d q)) = _
  rw [V_main_arg2 m c]
  refine (read_at (A := 512) (B := 3072) (argW m c) _ d.val (512 * (t.val % 6) + q.val) (by blk_simp [e]) (by blk_simp [e]; simp; omega) (by omega) (by omega)).trans ?_
  rw [show Fin.ofNat 512 d.val = d from Fin.ext (Nat.mod_eq_of_lt d.isLt)]

/-- A row's first point leaves its normed rows in the scratch. -/
theorem first_point (t : Fin cfg0.N) (h : t.val % 6 = 0) (r : Fin 1024) (d : Fin 512) :
    (outsAt0 m c t.val t.isLt).2 (ix2 r d) = Cert.Up.normed 3072 (argU m c) (argG m c) (1024 * (t.val / 6) + r.val) d := by
  rw [outsAt0_A m c t h]
  dsimp only
  rw [scratch_eq, norm_apply]
  simp only [row_block, gain_block]
  rfl

/-- Every other point leaves the scratch as it was. -/
theorem later_point (n : ℕ) (hn : n + 1 < cfg0.N) (h : ¬(n + 1) % 6 = 0) :
    (outsAt0 m c (n + 1) hn).2 = (outsAt0 m c n (Nat.lt_of_succ_lt hn)).2 := by
  rw [outsAt0_B m c ⟨n + 1, hn⟩ h]
  rfl

/-- Every point stores the product of the scratch with its columns of the weight. -/
theorem product_point (t : Fin cfg0.N) (r : Fin 1024) (q : Fin 512) :
    (outsAt0 m c t.val t.isLt).1 (ix2 r q) = ∑ d, (outsAt0 m c t.val t.isLt).2 (ix2 r d) * iblk m c 2 t (ix2 d q) := by
  by_cases h : t.val % 6 = 0
  · rw [outsAt0_A m c t h]
    dsimp only
    rw [first_eq, scratch_eq, product_apply]
  · rw [outsAt0_B m c t h]
    dsimp only
    rw [later_eq, product_apply]
    rfl

/-- Every place of the result array lies in a block that is written back. -/
theorem covered (i : S8192x3072.Idx) : ∃ t : Fin cfg0.N, (cfg0.win 3).flush t = true ∧ i ∈ ((cfg0.win 3).blk t).view.set :=
  (by decide +kernel : (cfg0.win 3).Covers).cover _ (Memref.isWhole_whole _) i

/-- The array after the run. -/
theorem final : (dats m 0 c).arrAt 3 cfg0.N = Cert.Up.result 3072 (argU m c) (argG m c) (argW m c) := by
  refine (dats m 0 c).arrAt_eq_of_cover 3 (Cert.Up.result 3072 (argU m c) (argG m c) (argW m c)) (fun t _ => ?_) covered
  rw [flushed3]
  have e := index3 t
  refine funext fun y => ?_
  idx_vars y
  refine (Cert.Up.point 6 3072 (argU m c) (argG m c) (argW m c) (outsAt0 m c) (iblk m c 2) (first_point m c) (later_point m c)
    (product_point m c) (weight_block m c) t y0 y1).trans ?_
  show _ = Cert.Up.result 3072 (argU m c) (argG m c) (argW m c) (((cfg0.win 3).blk t).view.emb (ix2 y0 y1))
  unfold Cert.Up.result
  congr 1
  · blk_simp [e]; simp; omega
  · blk_simp [e]; simp; omega

/-- The generated run with the result array at its function of the arguments. -/
theorem run (ρ : Dev nD → PrngReg) :
    θ_run defs (onTc (τ := τ) (main (F := Ideal))) ⟨m, fun _ => 0, ρ⟩ fun r => ∀ c : Dev nD,
      r.2.mem ((c : Thread nD τ).loc main_v1) = Cert.Up.result 3072 (argU m c) (argG m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.Kernel11Ideal.Up

namespace Cert.Reference11Ideal.Up

open Cert.Reference11Ideal Cert.Reference11Ideal.Read Idealize.ShloMosaic Idealize.ShloMosaic.TcCoe Idealize.SL.Sem

/-- The reference's result. -/
theorem result_eq (x0 : (⟨S8192x4608, .bf16⟩ : BufTy).Contents (Elt Ideal)) (x1 : (⟨S512, .f32⟩ : BufTy).Contents (Elt Ideal))
    (x2 : (⟨S512x3072, .bf16⟩ : BufTy).Contents (Elt Ideal)) : val_main_v17 (F := Ideal) x0 x1 x2 = Cert.Up.result 3072 x0 x1 x2 := by
  funext i
  idx_vars i
  have hx : ∀ d, val_main_v1 (F := Ideal) x0 (ix2 i0 d) = Cert.Up.part 3072 x0 i0.val d := fun d => by
    pointwise [val_main_v1, val_main_v0]
    exact Cert.Index.read_at (A := 8192) (B := 4608) x0 _ _ _ (by simp) (by simp) (by omega) (by omega)
  have hn : ∀ d, val_main_v14 (F := Ideal) x0 x1 (ix2 i0 d)
      = Cert.Up.normRow (fun k => val_main_v1 (F := Ideal) x0 (ix2 i0 k)) (fun k => x1 (ix1 k)) d := fun d => by
    generalize hy : val_main_v1 (F := Ideal) x0 = y
    pointwise [val_main_v14, val_main_v13, val_main_v12, val_main_v11, val_main_v10, val_main_v9, val_main_v8, val_main_v7, val_main_v6,
      val_main_v5, val_main_v4, val_main_v3, val_main_v2, val_main_cst, val_main_cst_0, val_main_cst_1]
    rw [hy]
    rfl
  have hp : val_main_v17 (F := Ideal) x0 x1 x2 (ix2 i0 i1) = ∑ d, val_main_v14 (F := Ideal) x0 x1 (ix2 i0 d) * x2 (ix2 d i1) := by
    generalize hy : val_main_v14 (F := Ideal) x0 x1 = y
    pointwise [val_main_v17, val_main_v16, val_main_v15]
    rw [hy]
  rw [hp]
  simp only [hn, hx]
  show _ = Cert.Up.proj 3072 x0 x1 x2 i0.val i1.val
  rw [Cert.Up.proj, show Fin.ofNat 3072 i1.val = i1 from Fin.ext (Nat.mod_eq_of_lt i1.isLt)]
  rfl

end Cert.Reference11Ideal.Up

end
-- ==== Proof.UpKeys.lean ====
module

public import proofs.«01_k».proof.Proof.UpShared
public import proofs.«01_k».proof.Proof.Gen.Kernel12Ideal.Value
public import proofs.«01_k».proof.Proof.Gen.Reference12Ideal.Read
public import Idealize.ShloMosaic.Lib.Pipeline.Covers

@[expose] public section

set_option maxRecDepth 16384

/-! # The up-projection of layer 3's keys and values

4096 columns, in eight blocks, out of the 512 columns of the fused projection from 3584. -/

noncomputable section

namespace Cert.Kernel12Ideal.Up

open Cert.Kernel12Ideal Cert.Kernel12Ideal.Gen Cert.Kernel12Ideal.Value Idealize.ShloMosaic Idealize.ShloMosaic.TcCoe Idealize.SL.Sem
open Cert.Index

/-- The stored normed rows, at an index. -/
theorem norm_apply (x0 : Vec Ideal S1024x512 .bf16) (x1 : Vec Ideal S1x512 .f32) (r : Fin 1024) (d : Fin 512) :
    k0_pay1 x0 x1 (ix2 r d) = Cert.Up.normRow (fun k => x0 (ix2 r k)) (fun k => x1 (ix2 0 k)) d := by
  pointwise [k0_pay1]
  rfl

/-- The stored product, at an index. -/
theorem product_apply (h : Vec Ideal S1024x512 .bf16) (w : Vec Ideal S512x512 .bf16) (r : Fin 1024) (q : Fin 512) :
    k0_pay2 h w (ix2 r q) = ∑ d, h (ix2 r d) * w (ix2 d q) := by
  pointwise [k0_pay2]

section Block

variable (c : Dev nD) (i : grid0.Coords)
  (arg2 : Memref sig .tc .vmem S1024x512 .bf16) (harg2 : arg2.IsWhole) (arg3 : Memref sig .tc .vmem S1x512 .f32) (harg3 : arg3.IsWhole)
  (arg4 : Memref sig .tc .vmem S512x512 .bf16) (harg4 : arg4.IsWhole) (arg5 : Memref sig .tc .vmem S1024x512 .bf16) (harg5 : arg5.IsWhole)
  (arg6 : Memref sig .tc .vmem S1024x512 .bf16) (harg6 : arg6.IsWhole)
  (x0 : Vec Ideal S1024x512 .bf16) (x1 : Vec Ideal S1x512 .f32) (x2 : Vec Ideal S512x512 .bf16) (xs : Vec Ideal S1024x512 .bf16)

/-- The scratch and the output block of a row's first point, and the output block of every other point. -/
theorem scratch_eq (hc : cond0_0 i) :
    sout0_A_0 (F := Ideal) c i arg2 harg2 arg3 harg3 arg4 harg4 arg5 harg5 arg6 harg6 hc x0 x1 x2 = k0_pay1 x0 x1 := by
  frame_out

theorem first_eq (hc : cond0_0 i) :
    out0_A_3 (F := Ideal) c i arg2 harg2 arg3 harg3 arg4 harg4 arg5 harg5 arg6 harg6 hc x0 x1 x2 = k0_pay2 (k0_pay1 x0 x1) x2 := by
  frame_out

theorem later_eq (hc : ¬cond0_0 i) :
    out0_B_3 (F := Ideal) c i arg2 harg2 arg3 harg3 arg4 harg4 arg5 harg5 arg6 harg6 hc x0 x1 x2 xs = k0_pay2 xs x2 := by
  frame_out

end Block

/-- The block that each window stages at a grid point. -/
theorem index0 : ∀ t : Fin cfg0.N, win0_0.index t = ![t.val / 8, 7] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, t.val % 8] := (by decide +kernel : ∀ t : Fin grid0.N, _)
theorem index3 : ∀ t : Fin cfg0.N, win0_3.index t = ![t.val / 8, t.val % 8] := (by decide +kernel : ∀ t : Fin grid0.N, _)

variable (m : (ℓ : Loc nD τ sig) → Buf (Elt Ideal) ℓ) (c : Dev nD)

/-- The three argument arrays. -/
abbrev argU : Cert.Proj.Mat 8192 4608 := m ((c : Thread nD τ).loc main_arg0)
abbrev argG : Cert.Proj.Row 512 := m ((c : Thread nD τ).loc main_arg1)
abbrev argW : Cert.Proj.Mat 512 4096 := m ((c : Thread nD τ).loc main_arg2)

/-- The rows, the gains and the columns of the weight of a grid point. -/
theorem row_block (t : Fin cfg0.N) (r : Fin 1024) (d : Fin 512) :
    iblk m c 0 t (ix2 r d) = Cert.Up.part 3584 (argU m c) (1024 * (t.val / 8) + r.val) d := by
  have e := index0 t
  have ht : t.val < 64 := t.isLt.trans_eq N_0
  show V m c main_arg0 (((cfg0.win 0).blk t).view.emb (ix2 r d)) = _
  rw [V_main_arg0 m c]
  exact read_at (A := 8192) (B := 4608) (argU m c) _ (1024 * (t.val / 8) + r.val) (3584 + d.val) (by blk_simp [e]; simp; omega)
    (by blk_simp [e]) (by omega) (by omega)

theorem gain_block (t : Fin cfg0.N) (d : Fin 512) : iblk m c 1 t (ix2 0 d) = argG m c (ix1 d) := by
  have e := index1 t
  show V m c main_v0 (((cfg0.win 1).blk t).view.emb (ix2 0 d)) = _
  entry_read
  exact Cert.Up.gains_row _ _ d _ (by blk_simp [e])

theorem weight_block (t : Fin cfg0.N) (d : Fin 512) (q : Fin 512) :
    iblk m c 2 t (ix2 d q) = argW m c (ix2 d (Fin.ofNat 4096 (512 * (t.val % 8) + q.val))) := by
  have e := index2 t
  have hm : t.val % 8 < 8 := Nat.mod_lt _ (by decide)
  show V m c main_arg2 (((cfg0.win 2).blk t).view.emb (ix2 d q)) = _
  rw [V_main_arg2 m c]
  refine (read_at (A := 512) (B := 4096) (argW m c) _ d.val (512 * (t.val % 8) + q.val) (by blk_simp [e]) (by blk_simp [e]; simp; omega) (by omega) (by omega)).trans ?_
  rw [show Fin.ofNat 512 d.val = d from Fin.ext (Nat.mod_eq_of_lt d.isLt)]

/-- A row's first point leaves its normed rows in the scratch. -/
theorem first_point (t : Fin cfg0.N) (h : t.val % 8 = 0) (r : Fin 1024) (d : Fin 512) :
    (outsAt0 m c t.val t.isLt).2 (ix2 r d) = Cert.Up.normed 3584 (argU m c) (argG m c) (1024 * (t.val / 8) + r.val) d := by
  rw [outsAt0_A m c t h]
  dsimp only
  rw [scratch_eq, norm_apply]
  simp only [row_block, gain_block]
  rfl

/-- Every other point leaves the scratch as it was. -/
theorem later_point (n : ℕ) (hn : n + 1 < cfg0.N) (h : ¬(n + 1) % 8 = 0) :
    (outsAt0 m c (n + 1) hn).2 = (outsAt0 m c n (Nat.lt_of_succ_lt hn)).2 := by
  rw [outsAt0_B m c ⟨n + 1, hn⟩ h]
  rfl

/-- Every point stores the product of the scratch with its columns of the weight. -/
theorem product_point (t : Fin cfg0.N) (r : Fin 1024) (q : Fin 512) :
    (outsAt0 m c t.val t.isLt).1 (ix2 r q) = ∑ d, (outsAt0 m c t.val t.isLt).2 (ix2 r d) * iblk m c 2 t (ix2 d q) := by
  by_cases h : t.val % 8 = 0
  · rw [outsAt0_A m c t h]
    dsimp only
    rw [first_eq, scratch_eq, product_apply]
  · rw [outsAt0_B m c t h]
    dsimp only
    rw [later_eq, product_apply]
    rfl

/-- Every place of the result array lies in a block that is written back. -/
theorem covered (i : S8192x4096.Idx) : ∃ t : Fin cfg0.N, (cfg0.win 3).flush t = true ∧ i ∈ ((cfg0.win 3).blk t).view.set :=
  (by decide +kernel : (cfg0.win 3).Covers).cover _ (Memref.isWhole_whole _) i

/-- The array after the run. -/
theorem final : (dats m 0 c).arrAt 3 cfg0.N = Cert.Up.result 3584 (argU m c) (argG m c) (argW m c) := by
  refine (dats m 0 c).arrAt_eq_of_cover 3 (Cert.Up.result 3584 (argU m c) (argG m c) (argW m c)) (fun t _ => ?_) covered
  rw [flushed3]
  have e := index3 t
  refine funext fun y => ?_
  idx_vars y
  refine (Cert.Up.point 8 3584 (argU m c) (argG m c) (argW m c) (outsAt0 m c) (iblk m c 2) (first_point m c) (later_point m c)
    (product_point m c) (weight_block m c) t y0 y1).trans ?_
  show _ = Cert.Up.result 3584 (argU m c) (argG m c) (argW m c) (((cfg0.win 3).blk t).view.emb (ix2 y0 y1))
  unfold Cert.Up.result
  congr 1
  · blk_simp [e]; simp; omega
  · blk_simp [e]; simp; omega

/-- The generated run with the result array at its function of the arguments. -/
theorem run (ρ : Dev nD → PrngReg) :
    θ_run defs (onTc (τ := τ) (main (F := Ideal))) ⟨m, fun _ => 0, ρ⟩ fun r => ∀ c : Dev nD,
      r.2.mem ((c : Thread nD τ).loc main_v1) = Cert.Up.result 3584 (argU m c) (argG m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.Kernel12Ideal.Up

namespace Cert.Reference12Ideal.Up

open Cert.Reference12Ideal Cert.Reference12Ideal.Read Idealize.ShloMosaic Idealize.ShloMosaic.TcCoe Idealize.SL.Sem

/-- The reference's result. -/
theorem result_eq (x0 : (⟨S8192x4608, .bf16⟩ : BufTy).Contents (Elt Ideal)) (x1 : (⟨S512, .f32⟩ : BufTy).Contents (Elt Ideal))
    (x2 : (⟨S512x4096, .bf16⟩ : BufTy).Contents (Elt Ideal)) : val_main_v17 (F := Ideal) x0 x1 x2 = Cert.Up.result 3584 x0 x1 x2 := by
  funext i
  idx_vars i
  have hx : ∀ d, val_main_v1 (F := Ideal) x0 (ix2 i0 d) = Cert.Up.part 3584 x0 i0.val d := fun d => by
    pointwise [val_main_v1, val_main_v0]
    exact Cert.Index.read_at (A := 8192) (B := 4608) x0 _ _ _ (by simp) (by simp) (by omega) (by omega)
  have hn : ∀ d, val_main_v14 (F := Ideal) x0 x1 (ix2 i0 d)
      = Cert.Up.normRow (fun k => val_main_v1 (F := Ideal) x0 (ix2 i0 k)) (fun k => x1 (ix1 k)) d := fun d => by
    generalize hy : val_main_v1 (F := Ideal) x0 = y
    pointwise [val_main_v14, val_main_v13, val_main_v12, val_main_v11, val_main_v10, val_main_v9, val_main_v8, val_main_v7, val_main_v6,
      val_main_v5, val_main_v4, val_main_v3, val_main_v2, val_main_cst, val_main_cst_0, val_main_cst_1]
    rw [hy]
    rfl
  have hp : val_main_v17 (F := Ideal) x0 x1 x2 (ix2 i0 i1) = ∑ d, val_main_v14 (F := Ideal) x0 x1 (ix2 i0 d) * x2 (ix2 d i1) := by
    generalize hy : val_main_v14 (F := Ideal) x0 x1 = y
    pointwise [val_main_v17, val_main_v16, val_main_v15]
    rw [hy]
  rw [hp]
  simp only [hn, hx]
  show _ = Cert.Up.proj 3584 x0 x1 x2 i0.val i1.val
  rw [Cert.Up.proj, show Fin.ofNat 4096 i1.val = i1 from Fin.ext (Nat.mod_eq_of_lt i1.isLt)]
  rfl

end Cert.Reference12Ideal.Up

end
-- ==== Proof.Combine.lean ====
module

public import proofs.«01_k».proof.Proof.Online
public import proofs.«01_k».proof.Proof.Finite
public import proofs.«01_k».proof.Proof.Gen.Kernel14Ideal.Value
public import proofs.«01_k».proof.Proof.Gen.Reference14Ideal.Read
public import proofs.«01_k».proof.Proof.Gen.Pre_finite_lses

@[expose] public section

set_option maxRecDepth 16384

/-! # The mixture of layer 2's three groups

Each group's output is weighted by the exponential of its logsumexp. The kernel divides the weighted sum once by the
sum of the weights, the reference divides each weight. -/

noncomputable section

namespace Cert.Combine

open Idealize.ShloMosaic Cert.Online

/-- The mixture as the reference takes it: each weight divided by their sum. -/
def mixture (a b c o p q : EReal) : EReal :=
  let m := max (max a b) c
  let l := Ideal.exp (a - m) + Ideal.exp (b - m) + Ideal.exp (c - m)
  o * Ideal.div (Ideal.exp (a - m)) l + p * Ideal.div (Ideal.exp (b - m)) l + q * Ideal.div (Ideal.exp (c - m)) l

/-- The sum divided once is that mixture, at real logsumexps and any outputs. -/
theorem divided_once (a b c : ℝ) (o p q : EReal) :
    Ideal.div (Ideal.exp ((a : EReal) - max (max (a : EReal) b) c) * o + Ideal.exp ((b : EReal) - max (max (a : EReal) b) c) * p
        + Ideal.exp ((c : EReal) - max (max (a : EReal) b) c) * q)
      (Ideal.exp ((a : EReal) - max (max (a : EReal) b) c) + Ideal.exp ((b : EReal) - max (max (a : EReal) b) c)
        + Ideal.exp ((c : EReal) - max (max (a : EReal) b) c))
      = mixture a b c o p q := by
  have hm : max (max (a : EReal) b) c = ((max (max a b) c : ℝ) : EReal) := by
    rw [EReal.coe_strictMono.monotone.map_max, EReal.coe_strictMono.monotone.map_max]
  unfold mixture
  simp only [hm, ← EReal.coe_sub, Ideal.exp_coe, ← EReal.coe_add]
  have hp : 0 < Real.exp (a - max (max a b) c) + Real.exp (b - max (max a b) c) + Real.exp (c - max (max a b) c) :=
    add_pos (add_pos (Real.exp_pos _) (Real.exp_pos _)) (Real.exp_pos _)
  have hd := (one_div_pos.2 hp).le
  simp only [Ideal.div_coe hp.ne']
  have h := sum_mul_real Finset.univ ![(Real.exp (a - max (max a b) c) : EReal) * o, (Real.exp (b - max (max a b) c) : EReal) * p,
    (Real.exp (c - max (max a b) c) : EReal) * q] hd
  simp only [Fin.sum_univ_three, Matrix.cons_val_zero, Matrix.cons_val_one, Matrix.cons_val_two, Matrix.head_cons, Matrix.tail_cons] at h
  rw [h]
  ac_rfl

end Cert.Combine

namespace Cert.Reference14Ideal.Combine

open Cert.Reference14Ideal Cert.Reference14Ideal.Read Idealize.ShloMosaic Idealize.ShloMosaic.TcCoe Idealize.SL.Sem Cert.Combine

variable (x0 x1 x2 x3 x4 x5 : (⟨S8192x768, .f32⟩ : BufTy).Contents (Elt Ideal))

/-- The three logsumexps side by side. -/
theorem stacked (i : Fin 8192) (j : Fin 768) (k : Fin 3) :
    val_main_v3 (F := Ideal) x3 x4 x5 (ix3 i j k) = ![x3 (ix2 i j), x4 (ix2 i j), x5 (ix2 i j)] k := by
  fin_cases k <;> pointwise [val_main_v3, val_main_v0, val_main_v1, val_main_v2]

/-- The three outputs side by side. -/
theorem outputs (i : Fin 8192) (j : Fin 768) (k : Fin 3) :
    val_main_v18 (F := Ideal) x0 x1 x2 (ix3 i j k) = ![x0 (ix2 i j), x1 (ix2 i j), x2 (ix2 i j)] k := by
  fin_cases k <;> pointwise [val_main_v18, val_main_v15, val_main_v16, val_main_v17]

/-- The greatest of three. -/
theorem fold_three (f : Fin 3 → EReal) : Finset.univ.fold max ⊥ f = max (max (f 0) (f 1)) (f 2) := by
  simp [Fin.univ_succ, max_assoc]

/-- The greatest of the three logsumexps, as the reference folds it. -/
theorem folded (i : Fin 8192) (j : Fin 768) : val_main_v4 (F := Ideal) x3 x4 x5 (ix2 i j)
    = Finset.univ.fold max (Ideal.ofBits .f32 0xFF800000#32) fun k : Fin 3 => val_main_v3 (F := Ideal) x3 x4 x5 (ix3 i j k) := by
  unfold val_main_v4
  generalize val_main_v3 (F := Ideal) x3 x4 x5 = y
  pointwise [val_main_cst]

/-- The greatest of the three logsumexps. -/
theorem greatest (i : Fin 8192) (j : Fin 768) :
    val_main_v6 (F := Ideal) x3 x4 x5 (ix2 i j) = max (max (x3 (ix2 i j)) (x4 (ix2 i j))) (x5 (ix2 i j)) := by
  have neg_inf : Ideal.ofBits .f32 0xFF800000#32 = ⊥ := by simp [Ideal.ofBits, Ideal.ieee]
  have hb : val_main_v5 (F := Ideal) (ix2 i j) = ⊥ := (val_main_v5_apply (F := Ideal) (ix2 i j)).trans neg_inf
  have h0 : val_main_v3 (F := Ideal) x3 x4 x5 (ix3 i j 0) = x3 (ix2 i j) := stacked x3 x4 x5 i j 0
  have h1 : val_main_v3 (F := Ideal) x3 x4 x5 (ix3 i j 1) = x4 (ix2 i j) := stacked x3 x4 x5 i j 1
  have h2 : val_main_v3 (F := Ideal) x3 x4 x5 (ix3 i j 2) = x5 (ix2 i j) := stacked x3 x4 x5 i j 2
  rw [val_main_v6_apply, folded, hb, neg_inf, fold_three, h0, h1, h2]
  exact max_eq_right bot_le

/-- One weight before the division. -/
theorem weight (i : Fin 8192) (j : Fin 768) (k : Fin 3) : val_main_v10 (F := Ideal) x3 x4 x5 (ix3 i j k)
    = Ideal.exp (![x3 (ix2 i j), x4 (ix2 i j), x5 (ix2 i j)] k - max (max (x3 (ix2 i j)) (x4 (ix2 i j))) (x5 (ix2 i j))) := by
  rw [← stacked, ← greatest]
  generalize hy : val_main_v3 (F := Ideal) x3 x4 x5 = y
  generalize hz : val_main_v6 (F := Ideal) x3 x4 x5 = z
  pointwise [val_main_v10, val_main_v9, val_main_v8, val_main_v7]
  rw [hy, hz]

/-- The reference's result is the mixture, element by element. -/
theorem result_eq (i : Fin 8192) (j : Fin 768) : val_main_v20 (F := Ideal) x0 x1 x2 x3 x4 x5 (ix2 i j)
    = mixture (x3 (ix2 i j)) (x4 (ix2 i j)) (x5 (ix2 i j)) (x0 (ix2 i j)) (x1 (ix2 i j)) (x2 (ix2 i j)) := by
  have hs : val_main_v20 (F := Ideal) x0 x1 x2 x3 x4 x5 (ix2 i j) = ∑ k : Fin 3, val_main_v18 (F := Ideal) x0 x1 x2 (ix3 i j k)
      * Ideal.div (val_main_v10 (F := Ideal) x3 x4 x5 (ix3 i j k)) (∑ n : Fin 3, val_main_v10 (F := Ideal) x3 x4 x5 (ix3 i j n)) := by
    generalize hy : val_main_v10 (F := Ideal) x3 x4 x5 = y
    generalize hz : val_main_v18 (F := Ideal) x0 x1 x2 = z
    pointwise [val_main_v20, val_main_v19, val_main_v14, val_main_v13, val_main_v12, val_main_v11, val_main_cst_1]
    rw [hy, hz]
  rw [hs]
  simp only [outputs, weight, Fin.sum_univ_three]
  rfl

end Cert.Reference14Ideal.Combine

namespace Cert.Pre_finite_lses

open Cert.Pre_finite_lses Idealize.ShloMosaic

/-- Where the precondition holds, the three logsumexps are real numbers. -/
theorem reals (x0 x1 x2 x3 x4 x5 : FVec Ideal S8192x768 .f32) [Facts] (h : fn (F := Ideal) x0 x1 x2 x3 x4 x5 = fun _ => 1#1)
    (i : S8192x768.Idx) : (∃ r : ℝ, x3 i = r) ∧ (∃ r : ℝ, x4 i = r) ∧ ∃ r : ℝ, x5 i = r := by
  have h1 := congrFun h (Shape.Idx.first Facts.h_S_)
  have hs : Subsingleton S_.Idx := ⟨fun a b => funext fun k => k.elim0⟩
  have h2 := IntOp.andi_eq_one.mp h1
  have h3 := IntOp.andi_eq_one.mp h2.1
  exact ⟨Cert.Pre_finite.real_of_abs_lt _ (Host.reduce_andi_all _ _ _ _ _ h3.1 i),
    Cert.Pre_finite.real_of_abs_lt _ (Host.reduce_andi_all _ _ _ _ _ h3.2 i),
    Cert.Pre_finite.real_of_abs_lt _ (Host.reduce_andi_all _ _ _ _ _ h2.2 i)⟩

end Cert.Pre_finite_lses

namespace Cert.Kernel14Ideal.Combine

open Cert.Kernel14Ideal Cert.Kernel14Ideal.Value Idealize.ShloMosaic Cert.Combine

/-- The kernel's result is the reference's, at real logsumexps. -/
theorem result_eq (x0 x1 x2 x3 x4 x5 : S8192x768.Idx → EReal)
    (hl : ∀ i, (∃ r : ℝ, x3 i = r) ∧ (∃ r : ℝ, x4 i = r) ∧ ∃ r : ℝ, x5 i = r) :
    Cert.Reference14Ideal.Read.val_main_v20 (F := Ideal) x0 x1 x2 x3 x4 x5 = G6 (F := Ideal) x3 x4 x5 x0 x1 x2 := by
  funext i
  idx_vars i
  refine (Cert.Reference14Ideal.Combine.result_eq x0 x1 x2 x3 x4 x5 i0 i1).trans ?_
  obtain ⟨⟨a, ha⟩, ⟨b, hb⟩, ⟨c, hc⟩⟩ := hl (ix2 i0 i1)
  have h := divided_once a b c (x0 (ix2 i0 i1)) (x1 (ix2 i0 i1)) (x2 (ix2 i0 i1))
  rw [← ha, ← hb, ← hc] at h
  exact h.symm

end Cert.Kernel14Ideal.Combine

end
-- ==== Proof.MlaBlock.lean ====
module

public import proofs.«01_k».proof.Proof.Gen.Kernel10Ideal.Value
public import proofs.«01_k».proof.Proof.Block

@[expose] public section

set_option maxRecDepth 16384

/-! # One head of layer 3's attention at one grid point

A head's queries and keys have two parts, 128 channels without and 64 with the rotary embedding; the
score is the scaled sum of the two products.  At real queries and keys the head's output block holds,
at row `r` and channel `d`, the weighted mean of the values over the columns up to the row's own. -/

noncomputable section

namespace Cert.Kernel10Ideal.Attn

open Cert.Kernel10Ideal Cert.Kernel10Ideal.Gen Idealize.ShloMosaic Idealize.ShloMosaic.TcCoe Idealize.SL.Sem
open Cert.Online
open Cert.KernelIdeal.Attn (neg_inf mask_eq select_eq)

/-- The factor on the scores, `192 ^ (-1/2)` rounded to f32. -/
def scale : ℝ := (Ideal.ofBits .f32 0x3D93CD3A#32).toReal

/-- The factor is a real number. -/
theorem scale_eq : Ideal.ofBits .f32 0x3D93CD3A#32 = (scale : EReal) := by
  refine (EReal.coe_toReal ?_ ?_).symm
  · simp [Ideal.ofBits, Ideal.ieee]
    rw [← EReal.coe_mul]
    exact EReal.coe_ne_top _
  · simp [Ideal.ofBits, Ideal.ieee]
    rw [← EReal.coe_mul]
    exact EReal.coe_ne_bot _

/-- The mask's named constant is `-∞`. -/
theorem mask_value : Named.named (F := Ideal) (φ := .f32) κ "mask" 0xF149F2CA#32 = ⊥ :=
  IdealRules.named_const.ideal_named_scalar κ "mask" (φ := .f32) 0xF149F2CA#32 ⊥ rfl

section

variable (qn : FVec Ideal S512x128 .bf16) (qr : FVec Ideal S512x64 .bf16) (kn : ℕ → Vec Ideal S1x512x128 .bf16)
  (kr : ℕ → Vec Ideal S512x64 .bf16) (v : ℕ → Vec Ideal S1x512x128 .bf16)

/-- What a head's loop carries before trip `k`: the reference scores, the sums of the weights and the
sums of the weighted values; `kn k`, `kr k` and `v k` are the blocks that trip `k` loads. -/
def carried : ℕ → FVec Ideal S512x1 .f32 × FVec Ideal S512x1 .f32 × FVec Ideal S512x128 .f32
  | 0 => (k0_pay28, k0_pay29, k0_pay30)
  | k + 1 => (k0_pay32 qn qr (carried k).1 (kn k) (kr k),
      k0_pay35 qn qr (carried k).1 (carried k).2.1 (kn k) (kr k),
      k0_pay36 qn qr (carried k).1 (carried k).2.2 (kn k) (kr k) (v k))

/-- One trip: the three updates, at the blocks it loads. -/
theorem carried_succ (k : ℕ) : carried qn qr kn kr v (k + 1)
    = (k0_pay32 qn qr (carried qn qr kn kr v k).1 (kn k) (kr k),
      k0_pay35 qn qr (carried qn qr kn kr v k).1 (carried qn qr kn kr v k).2.1 (kn k) (kr k),
      k0_pay36 qn qr (carried qn qr kn kr v k).1 (carried qn qr kn kr v k).2.2 (kn k) (kr k) (v k)) := rfl

/-- A head's output block at query block `j`: the masked update on the diagonal block, divided. -/
def head (j : ℕ) : FVec Ideal S1x512x128 .bf16 :=
  k0_pay25 (BitVec.ofNat 32 j) (carried qn qr kn kr v j).1 (carried qn qr kn kr v j).2.1 (carried qn qr kn kr v j).2.2
    (k0_pay31 qn qr (kn j) (kr j)) (v j)

end

variable (q : Fin 512 → Fin 128 → ℝ) (p : Fin 512 → Fin 64 → ℝ) (kk : ℕ → Fin 128 → ℝ) (kp : ℕ → Fin 64 → ℝ)
  (vv : ℕ → Fin 128 → EReal)

/-- The score of row `r` against column `j`. -/
def score (r : Fin 512) (j : ℕ) : ℝ := (∑ d, q r d * kk j d + ∑ e, p r e * kp j e) * scale

variable (qn : FVec Ideal S512x128 .bf16) (qr : FVec Ideal S512x64 .bf16)
  (hq : ∀ r d, qn (ix2 r d) = (q r d : EReal)) (hp : ∀ r e, qr (ix2 r e) = (p r e : EReal))

include hq hp in
/-- The scores of one block. -/
theorem score_block (kn : Vec Ideal S1x512x128 .bf16) (kr : Vec Ideal S512x64 .bf16) (n : ℕ)
    (hk : ∀ c d, kn (ix3 0 c d) = (kk (n + c.val) d : EReal)) (hr : ∀ c e, kr (ix2 c e) = (kp (n + c.val) e : EReal))
    (r c : Fin 512) : k0_pay31 qn qr kn kr (ix2 r c) = (score q p kk kp r (n + c.val) : EReal) := by
  pointwise [k0_pay31]
  rw [score, EReal.coe_mul, EReal.coe_add, coe_sum, coe_sum, scale_eq]
  refine congrArg₂ (fun s t => (s + t) * (scale : EReal)) (Finset.sum_congr rfl fun d _ => ?_) (Finset.sum_congr rfl fun e _ => ?_)
  · rw [hq, hk, EReal.coe_mul]
  · rw [hp, hr, EReal.coe_mul]

include hq hp in
/-- One trip on one block of columns, at a row and a channel. -/
theorem trip_state (kn v : Vec Ideal S1x512x128 .bf16) (kr : Vec Ideal S512x64 .bf16) (n : ℕ)
    (hk : ∀ c d, kn (ix3 0 c d) = (kk (n + c.val) d : EReal)) (hr : ∀ c e, kr (ix2 c e) = (kp (n + c.val) e : EReal))
    (hv : ∀ c d, v (ix3 0 c d) = vv (n + c.val) d) (m l : FVec Ideal S512x1 .f32)
    (a : FVec Ideal S512x128 .f32) (r : Fin 512) (d : Fin 128)
    (h : State n (score q p kk kp r) (fun j => vv j d) (m (ix2 r 0)) (l (ix2 r 0)) (a (ix2 r d))) :
    State (n + 512) (score q p kk kp r) (fun j => vv j d) (k0_pay32 qn qr m kn kr (ix2 r 0))
      (k0_pay35 qn qr m l kn kr (ix2 r 0)) (k0_pay36 qn qr m a kn kr v (ix2 r d)) := by
  have hm : k0_pay32 qn qr m kn kr (ix2 r 0)
      = max (m (ix2 r 0)) (Finset.univ.fold max ⊥ fun c => k0_pay31 qn qr kn kr (ix2 r c)) := by
    generalize hy : k0_pay31 qn qr kn kr = y
    pointwise [k0_pay32]
    rw [neg_inf, hy]
  have hs := h.step (w := 512) (by omega) le_rfl (fun c => k0_pay31 qn qr kn kr (ix2 r c))
    (fun c => v (ix3 0 c d))
    (fun c => by rw [if_pos c.isLt]; exact score_block q p kk kp qn qr hq hp kn kr n hk hr r c)
    (fun c => hv c d) hm
  have hl : k0_pay35 qn qr m l kn kr (ix2 r 0)
      = Ideal.exp (m (ix2 r 0) - k0_pay32 qn qr m kn kr (ix2 r 0)) * l (ix2 r 0)
        + ∑ c, Ideal.exp (k0_pay31 qn qr kn kr (ix2 r c) - k0_pay32 qn qr m kn kr (ix2 r 0)) := by
    pointwise [k0_pay33, k0_pay34, k0_pay35]
  have ha : k0_pay36 qn qr m a kn kr v (ix2 r d)
      = Ideal.exp (m (ix2 r 0) - k0_pay32 qn qr m kn kr (ix2 r 0)) * a (ix2 r d)
        + ∑ c, Ideal.exp (k0_pay31 qn qr kn kr (ix2 r c) - k0_pay32 qn qr m kn kr (ix2 r 0)) * v (ix3 0 c d) := by
    pointwise [k0_pay33, k0_pay34, k0_pay36]
  rw [hl, ha]
  exact hs

/-- The last, masked update on the diagonal block and the division: the weighted mean over the
columns up to the row's own. -/
theorem diagonal (b : Fin 4) (s : FVec Ideal S512x512 .f32) (v : Vec Ideal S1x512x128 .bf16)
    (n : ℕ) (h24 : ∀ r c, s (ix2 r c) = (score q p kk kp r (n + c.val) : EReal))
    (hv : ∀ c d, v (ix3 0 c d) = vv (n + c.val) d) (m l : FVec Ideal S512x1 .f32)
    (a : FVec Ideal S512x128 .f32) (r : Fin 512) (d : Fin 128)
    (h : State n (score q p kk kp r) (fun j => vv j d) (m (ix2 r 0)) (l (ix2 r 0)) (a (ix2 r d))) :
    k0_pay25 (BitVec.ofNat 32 b.val) m l a s v (ix3 0 r d)
      = mean (n + (r.val + 1)) (score q p kk kp r) (fun j => vv j d) := by
  pointwise [k0_pay25]
  rw [neg_inf, mask_value]
  have hmask : ∀ x : Fin 512, Scalar.select
      (IntOp.cmpi .sle (IntOp.addi (BitVec.ofNat 32 x.val) (Scalar.muli (BitVec.ofNat 32 b.val) 512#32))
        (IntOp.addi (BitVec.ofNat 32 r.val) (Scalar.muli (BitVec.ofNat 32 b.val) 512#32)))
      (s (ix2 r x)) ⊥ = if x.val < r.val + 1 then (score q p kk kp r (n + x.val) : EReal) else ⊥ := fun x => by
    rw [mask_eq b x r, select_eq, h24]
    exact if_congr Nat.lt_succ_iff.symm rfl rfl
  simp only [hmask]
  exact (h.step (w := r.val + 1) (by omega) r.isLt
    (fun c => if c.val < r.val + 1 then (score q p kk kp r (n + c.val) : EReal) else ⊥) (fun c => v (ix3 0 c d))
    (fun c => rfl) (fun c => hv c d) rfl).div (by omega)

/-- The initial values: no column taken yet. -/
theorem init_state (σ : ℕ → ℝ) (v : ℕ → EReal) (r : Fin 512) (d : Fin 128) :
    State 0 σ v (k0_pay28 (F := Ideal) (ix2 r 0)) (k0_pay29 (F := Ideal) (ix2 r 0)) (k0_pay30 (F := Ideal) (ix2 r d)) := by
  refine .inl ⟨rfl, ?_, ?_, ?_⟩
  · pointwise [k0_pay28]
    exact mask_value
  · pointwise [k0_pay29]
  · pointwise [k0_pay30]

variable (kn : ℕ → Vec Ideal S1x512x128 .bf16) (kr : ℕ → Vec Ideal S512x64 .bf16) (v : ℕ → Vec Ideal S1x512x128 .bf16)
  (hk : ∀ k c d, kn k (ix3 0 c d) = (kk (512 * k + c.val) d : EReal))
  (hr : ∀ k c e, kr k (ix2 c e) = (kp (512 * k + c.val) e : EReal))
  (hv : ∀ k c d, v k (ix3 0 c d) = vv (512 * k + c.val) d)

include hq hp hk hr hv in
/-- Before trip `k` the loop carries the sums over the first `512 k` columns. -/
theorem carried_state (r : Fin 512) (d : Fin 128) (k : ℕ) :
    State (512 * k) (score q p kk kp r) (fun j => vv j d) ((carried qn qr kn kr v k).1 (ix2 r 0))
      ((carried qn qr kn kr v k).2.1 (ix2 r 0)) ((carried qn qr kn kr v k).2.2 (ix2 r d)) := by
  induction k with
  | zero => exact init_state _ _ r d
  | succ k ih =>
    rw [Nat.mul_succ]
    exact trip_state q p kk kp vv qn qr hq hp (kn k) (v k) (kr k) (512 * k) (hk k) (hr k) (hv k) _ _ _ r d ih

include hq hp hk hr hv in
/-- A head's output block, at row `r` and channel `d`: the mean of the values weighted by the softmax
of the scores, over the columns up to the row's own. -/
theorem head_value (b : Fin 4) (r : Fin 512) (d : Fin 128) :
    head qn qr kn kr v b.val (ix3 0 r d)
      = mean (512 * b.val + (r.val + 1)) (score q p kk kp r) (fun j => vv j d) := by
  unfold head
  exact diagonal q p kk kp vv b _ _ (512 * b.val)
    (score_block q p kk kp qn qr hq hp _ _ _ (hk _) (hr _)) (hv _) _ _ _ r d
    (carried_state q p kk kp vv qn qr hq hp kn kr v hk hr hv r d _)

end Cert.Kernel10Ideal.Attn

end
-- ==== Proof.MlaLoads.lean ====
module

public import proofs.«01_k».proof.Proof.MlaBlock
public import Idealize.ShloMosaic.Lib.Pipeline.ValueKit
public import Idealize.ShloMosaic.Lib.Pipeline.ReadBack

@[expose] public section

set_option maxRecDepth 16384

/-! # What one grid point of layer 3's attention loads and stores

The number of trips of the loops, the places the loads read, and the output block: one head in the
first 128 columns and one in the last 128. -/

noncomputable section

namespace Cert.Kernel10Ideal.Attn

open Cert.Kernel10Ideal Cert.Kernel10Ideal.Gen Idealize.ShloMosaic Idealize.ShloMosaic.TcCoe Idealize.SL.Sem

/-- The trips of a loop from zero up to the query block's number. -/
theorem trips_all : ∀ j : Fin 4, Scf.trips (0#32) (Scalar.addi 0#32 (Scalar.muli (Scalar.divsi
    (Scalar.subi (BitVec.ofNat 32 j.val) 0#32) 1#32) 1#32)) 1#32 = j.val := by decide +kernel

/-- The trips of such a loop's remainder. -/
theorem trips_none : ∀ j : Fin 4, Scf.trips (Scalar.addi 0#32 (Scalar.muli (Scalar.divsi
    (Scalar.subi (BitVec.ofNat 32 j.val) 0#32) 1#32) 1#32))
    (Scalar.addi 0#32 (Scalar.subi (BitVec.ofNat 32 j.val) 0#32)) 1#32 = 0 := by decide +kernel

/-- Each head's loop makes one trip per block of columns left of the diagonal block. -/
theorem trips1 (i : grid0.Coords) : (k0_t1_loop i).trips = (i 2).val := trips_all (i 2)

/-- The same of the second head. -/
theorem trips3 (i : grid0.Coords) : (k0_t3_loop i).trips = (i 2).val := trips_all (i 2)

/-- The row at which trip `j` begins. -/
theorem trip_row : ∀ j : Fin 4, (Scalar.indexCast (Scalar.muli (Scf.iv (0#32) 1#32 j.val) 512#32)).toNat
    = 512 * j.val := by decide +kernel

/-- The row at which the diagonal block begins. -/
theorem diagonal_row : ∀ j : Fin 4, (Scalar.indexCast (Scalar.muli (BitVec.ofNat 32 j.val) 512#32)).toNat
    = 512 * j.val := by decide +kernel

/-- Trip `k` of the first head loads the rows from `512 k` on, in the first 128 columns. -/
theorem off1 (i : grid0.Coords) (k : Fin (k0_t1_loop i).trips) : k0_off1 i k = ![0, 512 * k.val, 0] := by
  unfold k0_off1
  dsimp only
  rw [trip_row ⟨k.val, (k.isLt.trans_eq (trips1 i)).trans (i 2).isLt⟩]

/-- Trip `k` of the first head loads the rotary keys from row `512 k` on. -/
theorem off2 (i : grid0.Coords) (k : Fin (k0_t1_loop i).trips) : k0_off2 i k = ![512 * k.val, 0] := by
  unfold k0_off2
  dsimp only
  rw [trip_row ⟨k.val, (k.isLt.trans_eq (trips1 i)).trans (i 2).isLt⟩]

/-- The diagonal block's rows, first head. -/
theorem off5 (i : grid0.Coords) : k0_off5 i = ![0, 512 * (i 2).val, 0] := by
  unfold k0_off5
  dsimp only
  rw [diagonal_row (i 2)]

/-- The diagonal block's rows of the rotary keys. -/
theorem off6 (i : grid0.Coords) : k0_off6 i = ![512 * (i 2).val, 0] := by
  unfold k0_off6
  dsimp only
  rw [diagonal_row (i 2)]

/-- Trip `k` of the second head loads the rows from `512 k` on, in the last 128 columns. -/
theorem off7 (i : grid0.Coords) (k : Fin (k0_t3_loop i).trips) : k0_off7 i k = ![0, 512 * k.val, 128] := by
  unfold k0_off7
  dsimp only
  rw [trip_row ⟨k.val, (k.isLt.trans_eq (trips3 i)).trans (i 2).isLt⟩]

/-- Trip `k` of the second head loads the rotary keys from row `512 k` on. -/
theorem off8 (i : grid0.Coords) (k : Fin (k0_t3_loop i).trips) : k0_off8 i k = ![512 * k.val, 0] := by
  unfold k0_off8
  dsimp only
  rw [trip_row ⟨k.val, (k.isLt.trans_eq (trips3 i)).trans (i 2).isLt⟩]

/-- The diagonal block's rows, second head. -/
theorem off11 (i : grid0.Coords) : k0_off11 i = ![0, 512 * (i 2).val, 128] := by
  unfold k0_off11
  dsimp only
  rw [diagonal_row (i 2)]

/-- 512 rows and 128 columns of the keys or values, from row `512 k` and column `o` on. -/
def part (x : Vec Ideal S1x2048x256 .bf16) (o : ℕ) (k : ℕ) : Vec Ideal S1x512x128 .bf16 :=
  fun y => x (ix3 0 (Fin.ofNat 2048 (512 * k + (y 1).val)) (Fin.ofNat 256 (o + (y 2).val)))

/-- 512 rows of the rotary keys, from row `512 k` on. -/
def rotary (x : Vec Ideal S2048x64 .bf16) (k : ℕ) : Vec Ideal S512x64 .bf16 :=
  fun y => x (ix2 (Fin.ofNat 2048 (512 * k + (y 0).val)) (y 1))

/-- A head's 128 columns of the queries. -/
def query (x : Vec Ideal S1x512x256 .bf16) (o : ℕ) : Vec Ideal S1x512x128 .bf16 :=
  fun y => x (ix3 0 (y 1) (Fin.ofNat 256 (o + (y 2).val)))

/-- A load of 512 rows and 128 columns. -/
theorem part_ld (x : Vec Ideal S1x2048x256 .bf16) (off : Fin 3 → ℕ) (k o : ℕ) (ho : off = ![0, 512 * k, o])
    (h : ∀ a, off a + S1x512x128.size a ≤ S1x2048x256.size a) :
    View.ld x (Rect.unit (s := S1x2048x256) off S1x512x128.size h) = part x o k := by
  subst ho
  funext y
  refine View.ld_unit_apply_of (Val := Elt Ideal) (e := .bf16) x _ _ _ _ _ fun a => ?_
  have h1 : 512 * k + 512 ≤ 2048 := h 1
  have h2 : o + 128 ≤ 256 := h 2
  have y1 : (y 1).val < 512 := (y 1).isLt
  have y2 : (y 2).val < 128 := (y 2).isLt
  match a with
  | ⟨0, _⟩ => have y0 : (y 0).val < 1 := (y 0).isLt; show 0 = 0 + (y 0).val; omega
  | ⟨1, _⟩ => show (512 * k + (y 1).val) % 2048 = 512 * k + (y 1).val; omega
  | ⟨2, _⟩ => show (o + (y 2).val) % 256 = o + (y 2).val; omega

/-- A load of 512 rows of the rotary keys. -/
theorem rotary_ld (x : Vec Ideal S2048x64 .bf16) (off : Fin 2 → ℕ) (k : ℕ) (ho : off = ![512 * k, 0])
    (h : ∀ a, off a + S512x64.size a ≤ S2048x64.size a) :
    View.ld x (Rect.unit (s := S2048x64) off S512x64.size h) = rotary x k := by
  subst ho
  funext y
  refine View.ld_unit_apply_of (Val := Elt Ideal) (e := .bf16) x _ _ _ _ _ fun a => ?_
  have h1 : 512 * k + 512 ≤ 2048 := h 0
  have y0 : (y 0).val < 512 := (y 0).isLt
  match a with
  | ⟨0, _⟩ => show (512 * k + (y 0).val) % 2048 = 512 * k + (y 0).val; omega
  | ⟨1, _⟩ => show (y 1).val = 0 + (y 1).val; omega

/-- A load of a head's columns of the queries. -/
theorem query_ld (x : Vec Ideal S1x512x256 .bf16) (o : ℕ)
    (h : ∀ a, (![0, 0, o] : Fin 3 → ℕ) a + S1x512x128.size a ≤ S1x512x256.size a) :
    View.ld x (Rect.unit (s := S1x512x256) ![0, 0, o] S1x512x128.size h) = query x o := by
  funext y
  refine View.ld_unit_apply_of (Val := Elt Ideal) (e := .bf16) x _ _ _ _ _ fun a => ?_
  have h2 : o + 128 ≤ 256 := h 2
  have y2 : (y 2).val < 128 := (y 2).isLt
  match a with
  | ⟨0, _⟩ => have y0 : (y 0).val < 1 := (y 0).isLt; show 0 = 0 + (y 0).val; omega
  | ⟨1, _⟩ => show (y 1).val = 0 + (y 1).val; omega
  | ⟨2, _⟩ => show (o + (y 2).val) % 256 = o + (y 2).val; omega

section

variable (c : Dev nD) (i : grid0.Coords) (arg3 : Memref sig .tc .vmem S1x512x256 .bf16) (harg3 : arg3.IsWhole) (arg4 : Memref sig .tc .vmem S1x512x128 .bf16) (harg4 : arg4.IsWhole) (arg5 : Memref sig .tc .vmem S1x2048x256 .bf16) (harg5 : arg5.IsWhole) (arg6 : Memref sig .tc .vmem S1x2048x128 .bf16) (harg6 : arg6.IsWhole) (arg7 : Memref sig .tc .vmem S1x2048x256 .bf16) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x512x256 .bf16) (harg12 : arg12.IsWhole) (arg13 : Memref sig .tc .vmem S2048x64 .bf16) (harg13 : arg13.IsWhole)
  (Y5 : BufTy.Contents (Elt Ideal) arg5.view.ty) (Y7 : BufTy.Contents (Elt Ideal) arg7.view.ty) (Y13 : BufTy.Contents (Elt Ideal) arg13.view.ty)
  (x2 x4 : Vec Ideal S1x2048x256 .bf16) (K : Vec Ideal S2048x64 .bf16)
  (h5 : arg5.view.read (Elt Ideal) Y5 = x2) (h7 : arg7.view.read (Elt Ideal) Y7 = x4) (h13 : arg13.view.read (Elt Ideal) Y13 = K)

include h5 h7 h13 in
/-- What the first head's loop carries before trip `k`. -/
theorem state1 (v25 v27 v29 : FVec Ideal S512x128 .f32) (v30 : IVec S512x128 32) (b : BitVec 32) (v42 : Vec Ideal S1x512x128 .bf16)
    (k : ℕ) (hk : k ≤ (i 2).val) :
    st_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) v25 v27 v29 v30 b v42 Y5 Y7 Y13 (k0_pay9, k0_pay10, k0_pay11) k
      = carried (k0_pay7 v42) (k0_pay8 v25 v27 v29 v30 b) (part x2 0) (rotary K) (part x4 0) k := by
  induction k with
  | zero => rfl
  | succ k ih =>
    have hlt : k < (k0_t1_loop i).trips := by rw [trips1]; omega
    refine (st_k0_t1_succ (F := Ideal) Variants.none c none i arg3 harg3 arg4 harg4 arg5 harg5 arg6 harg6 arg7 harg7 arg8 harg8 arg9 harg9 arg10 harg10 arg11 harg11 arg12 harg12 arg13 harg13 _ v25 v27 v29 v30 b v42 Y5 Y7 Y13 _ ⟨k, hlt⟩).trans ?_
    dsimp only
    rw [ih (by omega)]
    unfold tripR_k0_t1 trip_k0_t1
    dsimp only
    sl_unfold_words
    simp only [View.readAt_eq_ld, h5, h7, h13]
    rw [carried_succ]
    rw [← part_ld x2 _ _ _ (off1 i ⟨k, hlt⟩) (k0_off1_inb i ⟨k, hlt⟩), ← part_ld x4 _ _ _ (off1 i ⟨k, hlt⟩) (k0_off1_inb i ⟨k, hlt⟩),
      ← rotary_ld K _ _ (off2 i ⟨k, hlt⟩) (k0_off2_inb i ⟨k, hlt⟩)]
    rfl

include h5 h7 h13 in
/-- What the second head's loop carries before trip `k`. -/
theorem state3 (qn : FVec Ideal S512x128 .bf16) (qr : FVec Ideal S512x64 .bf16) (u0 u1 : FVec Ideal S512x1 .f32) (u2 : FVec Ideal S512x128 .f32)
    (b w : BitVec 32) (k : ℕ) (hk : k ≤ (i 2).val) :
    st_k0_t3 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) qn qr u0 u1 u2 b w Y5 Y7 Y13 (k0_pay28, k0_pay29, k0_pay30) k
      = carried qn qr (part x2 128) (rotary K) (part x4 128) k := by
  induction k with
  | zero => rfl
  | succ k ih =>
    have hlt : k < (k0_t3_loop i).trips := by rw [trips3]; omega
    refine (st_k0_t3_succ (F := Ideal) Variants.none c none i arg3 harg3 arg4 harg4 arg5 harg5 arg6 harg6 arg7 harg7 arg8 harg8 arg9 harg9 arg10 harg10 arg11 harg11 arg12 harg12 arg13 harg13 _ qn qr u0 u1 u2 b w Y5 Y7 Y13 _ ⟨k, hlt⟩).trans ?_
    dsimp only
    rw [ih (by omega)]
    unfold tripR_k0_t3 trip_k0_t3
    dsimp only
    sl_unfold_words
    simp only [View.readAt_eq_ld, h5, h7, h13]
    rw [carried_succ]
    rw [← part_ld x2 _ _ _ (off7 i ⟨k, hlt⟩) (k0_off7_inb i ⟨k, hlt⟩), ← part_ld x4 _ _ _ (off7 i ⟨k, hlt⟩) (k0_off7_inb i ⟨k, hlt⟩),
      ← rotary_ld K _ _ (off8 i ⟨k, hlt⟩) (k0_off8_inb i ⟨k, hlt⟩)]
    rfl

end

variable (x0 : Vec Ideal S1x512x256 .bf16) (x1 : Vec Ideal S1x512x128 .bf16) (x2 : Vec Ideal S1x2048x256 .bf16) (x3 : Vec Ideal S1x2048x128 .bf16) (x4 : Vec Ideal S1x2048x256 .bf16) (x5 : Vec Ideal S1x512x128 .f32) (x6 : Vec Ideal S1x512x128 .f32) (x7 : Vec Ideal S1x2048x128 .f32) (x8 : Vec Ideal S1x2048x128 .f32)

/-- The roped queries of both heads. -/
abbrev roped : FVec Ideal S512x128 .bf16 :=
  k0_pay6 (k0_pay3 x1) (k0_pay4 x5) (k0_pay5 x6) (iota Kind.tc S512x128 32 [1] iota_S512x128_d1_w32) 32#32

/-- The roped queries of the first head. -/
abbrev roped0 : FVec Ideal S512x64 .bf16 :=
  k0_pay8 (k0_pay3 x1) (k0_pay4 x5) (k0_pay5 x6) (iota Kind.tc S512x128 32 [1] iota_S512x128_d1_w32) 32#32

/-- The output block at query block `j`: each head's columns. -/
def block (j : ℕ) : Vec Ideal S1x512x256 .bf16 := fun y =>
  if (y 2).val < 128 then
    head (k0_pay7 (query x0 0)) (roped0 x1 x5 x6) (part x2 0) (rotary (k0_pay2 x3 x7 x8)) (part x4 0) j
      (ix3 0 (y 1) (Fin.ofNat 128 (y 2).val))
  else
    head (k0_pay26 (query x0 128)) (k0_pay27 (roped x1 x5 x6)) (part x2 128) (rotary (k0_pay2 x3 x7 x8)) (part x4 128) j
      (ix3 0 (y 1) (Fin.ofNat 128 ((y 2).val - 128)))

/-- The first head's columns of the output block. -/
theorem block_low (j : ℕ) (x : S1x512x128.Idx) :
    block x0 x1 x2 x3 x4 x5 x6 x7 x8 j ((Rect.unit (s := S1x512x256) ![0, 0, 0] ![1, 512, 128] inb_S1x512x256_S1x512x128_0_0_0).emb x)
      = head (k0_pay7 (query x0 0)) (roped0 x1 x5 x6) (part x2 0) (rotary (k0_pay2 x3 x7 x8)) (part x4 0) j x := by
  have h0 : (x 0).val < 1 := (x 0).isLt
  have h2 : (x 2).val < 128 := (x 2).isLt
  have e2 : ((Rect.unit (s := S1x512x256) ![0, 0, 0] ![1, 512, 128] inb_S1x512x256_S1x512x128_0_0_0).emb x 2).val = (x 2).val := by
    show 0 + 1 * (x 2).val = _
    omega
  rw [block, if_pos (by omega), e2]
  refine congrArg _ (funext fun a => Fin.ext ?_)
  match a with
  | ⟨0, _⟩ => show 0 = (x 0).val; omega
  | ⟨1, _⟩ => show 0 + 1 * (x 1).val = (x 1).val; omega
  | ⟨2, _⟩ => show (x 2).val % 128 = (x 2).val; omega

/-- The second head's columns of the output block. -/
theorem block_high (j : ℕ) (x : S1x512x128.Idx) :
    block x0 x1 x2 x3 x4 x5 x6 x7 x8 j ((Rect.unit (s := S1x512x256) ![0, 0, 128] ![1, 512, 128] inb_S1x512x256_S1x512x128_0_0_128).emb x)
      = head (k0_pay26 (query x0 128)) (k0_pay27 (roped x1 x5 x6)) (part x2 128) (rotary (k0_pay2 x3 x7 x8)) (part x4 128) j x := by
  have h0 : (x 0).val < 1 := (x 0).isLt
  have h2 : (x 2).val < 128 := (x 2).isLt
  have e2 : ((Rect.unit (s := S1x512x256) ![0, 0, 128] ![1, 512, 128] inb_S1x512x256_S1x512x128_0_0_128).emb x 2).val = 128 + (x 2).val := by
    show 128 + 1 * (x 2).val = _
    omega
  rw [block, if_neg (by omega), e2]
  refine congrArg _ (funext fun a => Fin.ext ?_)
  match a with
  | ⟨0, _⟩ => show 0 = (x 0).val; omega
  | ⟨1, _⟩ => show 0 + 1 * (x 1).val = (x 1).val; omega
  | ⟨2, _⟩ => show (128 + (x 2).val - 128) % 128 = (x 2).val; omega

variable (c : Dev nD) (i : grid0.Coords) (arg3 : Memref sig .tc .vmem S1x512x256 .bf16) (harg3 : arg3.IsWhole) (arg4 : Memref sig .tc .vmem S1x512x128 .bf16) (harg4 : arg4.IsWhole) (arg5 : Memref sig .tc .vmem S1x2048x256 .bf16) (harg5 : arg5.IsWhole) (arg6 : Memref sig .tc .vmem S1x2048x128 .bf16) (harg6 : arg6.IsWhole) (arg7 : Memref sig .tc .vmem S1x2048x256 .bf16) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x512x256 .bf16) (harg12 : arg12.IsWhole) (arg13 : Memref sig .tc .vmem S2048x64 .bf16) (harg13 : arg13.IsWhole)

/-- What the run leaves in the output's staging buffer. -/
theorem out_eq : out0_A_9 c i arg3 harg3 arg4 harg4 arg5 harg5 arg6 harg6 arg7 harg7 arg8 harg8 arg9 harg9 arg10 harg10 arg11 harg11 arg12 harg12 arg13 harg13 x0 x1 x2 x3 x4 x5 x6 x7 x8 = block x0 x1 x2 x3 x4 x5 x6 x7 x8 (i 2).val := by
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 arg13 harg13 x0 x1 x2 x3 x4 x5 x6 x7 x8)]
  funext y
  have h := View.canon_append_of_piecesOf (Val := Elt Ideal) (e := .bf16) (block x0 x1 x2 x3 x4 x5 x6 x7 x8 (i 2).val) []
    (kernelRun0_A c i arg3 harg3 arg4 harg4 arg5 harg5 arg6 harg6 arg7 harg7 arg8 harg8 arg9 harg9 arg10 harg10 arg11 harg11 arg12 harg12 arg13 harg13 x0 x1 x2 x3 x4 x5 x6 x7 x8).1 ?_ y (cover0_A_9 c i arg3 harg3 arg4 harg4 arg5 harg5 arg6 harg6 arg7 harg7 arg8 harg8 arg9 harg9 arg10 harg10 arg11 harg11 arg12 harg12 arg13 harg13 x0 x1 x2 x3 x4 x5 x6 x7 x8 y)
  · rw [List.append_nil] at h
    exact h
  unfold kernelRun0_A
  dsimp only
  sl_unfold_words
  have t1 : Scf.trips (k0_t1_loop i).lb (k0_t1_loop i).ub (k0_t1_loop i).st = (i 2).val := trips1 i
  have t2 : Scf.trips (k0_t2_loop i).lb (k0_t2_loop i).ub (k0_t2_loop i).st = 0 := trips_none (i 2)
  have t3 : Scf.trips (k0_t3_loop i).lb (k0_t3_loop i).ub (k0_t3_loop i).st = (i 2).val := trips3 i
  have t4 : Scf.trips (k0_t4_loop i).lb (k0_t4_loop i).ub (k0_t4_loop i).st = 0 := trips_none (i 2)
  have z1 : ∀ h, View.ld x1 (Rect.unit (s := S1x512x128) ![0, 0, 0] ![1, 512, 128] h) = x1 := fun h =>
    View.ld_unit_zero (S := S1x512x128) (funext fun a => by fin_cases a <;> rfl) h x1
  have z3 : ∀ h, View.ld x3 (Rect.unit (s := S1x2048x128) ![0, 0, 0] ![1, 2048, 128] h) = x3 := fun h =>
    View.ld_unit_zero (S := S1x2048x128) (funext fun a => by fin_cases a <;> rfl) h x3
  have z5 : ∀ h, View.ld x5 (Rect.unit (s := S1x512x128) ![0, 0, 0] ![1, 512, 128] h) = x5 := fun h =>
    View.ld_unit_zero (S := S1x512x128) (funext fun a => by fin_cases a <;> rfl) h x5
  have z6 : ∀ h, View.ld x6 (Rect.unit (s := S1x512x128) ![0, 0, 0] ![1, 512, 128] h) = x6 := fun h =>
    View.ld_unit_zero (S := S1x512x128) (funext fun a => by fin_cases a <;> rfl) h x6
  have z7 : ∀ h, View.ld x7 (Rect.unit (s := S1x2048x128) ![0, 0, 0] ![1, 2048, 128] h) = x7 := fun h =>
    View.ld_unit_zero (S := S1x2048x128) (funext fun a => by fin_cases a <;> rfl) h x7
  have z8 : ∀ h, View.ld x8 (Rect.unit (s := S1x2048x128) ![0, 0, 0] ![1, 2048, 128] h) = x8 := fun h =>
    View.ld_unit_zero (S := S1x2048x128) (funext fun a => by fin_cases a <;> rfl) h x8
  have hK : arg13.view.read (Elt Ideal) (arg13.view.writes (Elt Ideal) arg13.view.junk
      [⟨Rect.unit ![0, 0] ![2048, 64] inb_S2048x64_S2048x64_0_0, k0_pay2 x3 x7 x8⟩]) = k0_pay2 x3 x7 x8 := by
    rw [View.read_writes_eq_canon _ _ _ (View.cover_of_tiledBy _ ![2048, 64] (by sl_kernel_rfl))]
    exact View.canon_unit_zero (S := S2048x64) (funext fun a => by fin_cases a <;> rfl) _ _
  simp only [View.readAt_eq_ld, harg3.read_unread, harg4.read_unread, harg5.read_unread, harg6.read_unread, harg7.read_unread,
    harg8.read_unread, harg9.read_unread, harg10.read_unread, harg11.read_unread, z1, z3, z5, z6, z7, z8, t1, t2, t3, t4]
  generalize arg13.view.writes (Elt Ideal) arg13.view.junk
      [⟨Rect.unit ![0, 0] ![2048, 64] inb_S2048x64_S2048x64_0_0, k0_pay2 x3 x7 x8⟩] = Y13 at hK ⊢
  have p0 := part_ld x2 _ _ _ (off5 i) (k0_off5_inb i)
  have p1 := part_ld x4 _ _ _ (off5 i) (k0_off5_inb i)
  have p2 := part_ld x2 _ _ _ (off11 i) (k0_off11_inb i)
  have p3 := part_ld x4 _ _ _ (off11 i) (k0_off11_inb i)
  have p4 := rotary_ld (k0_pay2 x3 x7 x8) _ _ (off6 i) (k0_off6_inb i)
  have s1 := fun v25 v27 v29 v30 b v42 => state1 c i arg3 harg3 arg4 harg4 arg5 harg5 arg6 harg6 arg7 harg7 arg8 harg8 arg9 harg9 arg10 harg10 arg11 harg11 arg12 harg12 arg13 harg13 (harg5.unread x2) (harg7.unread x4) Y13 x2 x4 _
    (harg5.read_unread x2) (harg7.read_unread x4) hK v25 v27 v29 v30 b v42 (i 2).val le_rfl
  have s3 := fun qn qr u0 u1 u2 b w => state3 c i arg3 harg3 arg4 harg4 arg5 harg5 arg6 harg6 arg7 harg7 arg8 harg8 arg9 harg9 arg10 harg10 arg11 harg11 arg12 harg12 arg13 harg13 (harg5.unread x2) (harg7.unread x4) Y13 x2 x4 _
    (harg5.read_unread x2) (harg7.read_unread x4) hK qn qr u0 u1 u2 b w (i 2).val le_rfl
  refine ⟨fun x => ?_, fun x => ?_, trivial⟩
  · refine Eq.trans (congrFun ?_ x) (block_high x0 x1 x2 x3 x4 x5 x6 x7 x8 _ x).symm
    rw [head, ← p2, ← p3, ← p4, ← query_ld x0 128 inb_S1x512x256_S1x512x128_0_0_128]
    dsimp only
    simp only [st_k0_t4.eq_1, s3, hK]
    rfl
  · refine Eq.trans (congrFun ?_ x) (block_low x0 x1 x2 x3 x4 x5 x6 x7 x8 _ x).symm
    rw [head, ← p0, ← p1, ← p4, ← query_ld x0 0 inb_S1x512x256_S1x512x128_0_0_0]
    dsimp only
    simp only [st_k0_t2.eq_1, s1, hK]
    rfl

end Cert.Kernel10Ideal.Attn

end
-- ==== Proof.MlaRope.lean ====
module

public import proofs.«01_k».proof.Proof.MlaLoads

@[expose] public section

set_option maxRecDepth 16384

/-! # The rotary embedding of layer 3's attention

The kernel keeps the two halves of 64 channels in one row of 128 lanes and exchanges them by two
rotations of the lanes and a choice between them; the tables carry the sign. -/

noncomputable section

namespace Cert.Kernel10Ideal.Attn

open Cert.Kernel10Ideal Cert.Kernel10Ideal.Gen Cert.Kernel10Ideal.Value Idealize.ShloMosaic Idealize.ShloMosaic.TcCoe Idealize.SL.Sem

/-- Channel `e` of 64 channels `f` turned by the angles with cosines `c` and sines `s`. -/
def rope (f c s : ℕ → ℝ) (e : ℕ) : ℝ :=
  if e < 32 then f e * c e - f (e + 32) * s e else f e * c (e - 32) + f (e - 32) * s (e - 32)

/-- The choice between the two rotations: by the half in which a lane lies. -/
theorem half : ∀ l : Fin 128, IntOp.cmpi .eq (IntOp.andi (BitVec.ofNat 32 l.val) 32#32) 0#32
    = BitVec.ofBool (decide (l.val % 64 < 32)) := by decide +kernel

/-- One lane of the embedding, where the 64 channels begin at lane `o`. -/
theorem lane (x ct st : Fin 128 → EReal) (o : ℕ) (ho : o = 0 ∨ o = 64) (f c s : ℕ → ℝ)
    (hx : ∀ l : Fin 128, ∀ j, j < 64 → l.val = o + j → x l = (f j : EReal))
    (hc : ∀ l : Fin 128, ct l = (c (l.val % 32) : EReal))
    (hs : ∀ l : Fin 128, st l = ((if l.val % 64 < 32 then -s (l.val % 32) else s (l.val % 32) : ℝ) : EReal))
    (l : Fin 128) (e : Fin 64) (hl : l.val = o + e.val) :
    x l * ct l + Scalar.select (IntOp.cmpi .eq (IntOp.andi (BitVec.ofNat 32 l.val) 32#32) 0#32)
        (x ⟨(l.val + 128 - 96) % 128, Nat.mod_lt _ (by decide)⟩) (x ⟨(l.val + 128 - 32) % 128, Nat.mod_lt _ (by decide)⟩) * st l
      = (rope f c s e.val : EReal) := by
  have he := e.isLt
  rw [half, hx l e.val he hl, hc, hs, rope]
  by_cases h : e.val < 32
  · have hd : decide (l.val % 64 < 32) = true := decide_eq_true (by omega)
    have h1 : Scalar.select (BitVec.ofBool true) (x ⟨(l.val + 128 - 96) % 128, Nat.mod_lt _ (by decide)⟩)
        (x ⟨(l.val + 128 - 32) % 128, Nat.mod_lt _ (by decide)⟩) = (f (e.val + 32) : EReal) :=
      (if_pos rfl : Scalar.select (BitVec.ofBool true) _ _ = _).trans
        (hx _ (e.val + 32) (by omega) (by show (l.val + 128 - 96) % 128 = _; omega))
    rw [hd, h1, if_pos h, if_pos (by omega), ← EReal.coe_mul, ← EReal.coe_mul, ← EReal.coe_add, show l.val % 32 = e.val by omega]
    exact congrArg _ (by ring)
  · have hd : decide (l.val % 64 < 32) = false := decide_eq_false (by omega)
    have h1 : Scalar.select (BitVec.ofBool false) (x ⟨(l.val + 128 - 96) % 128, Nat.mod_lt _ (by decide)⟩)
        (x ⟨(l.val + 128 - 32) % 128, Nat.mod_lt _ (by decide)⟩) = (f (e.val - 32) : EReal) :=
      (if_neg (by decide) : Scalar.select (BitVec.ofBool false) _ _ = _).trans
        (hx _ (e.val - 32) (by omega) (by show (l.val + 128 - 32) % 128 = _; omega))
    rw [hd, h1, if_neg h, if_neg (by omega), ← EReal.coe_mul, ← EReal.coe_mul, ← EReal.coe_add, show l.val % 32 = e.val - 32 by omega]

/-- The embedded keys, at a row and a channel. -/
theorem keys_apply (x : Vec Ideal S1x2048x128 .bf16) (ct st : Vec Ideal S1x2048x128 .f32) (r : Fin 2048) (e : Fin 64) (f c s : ℕ → ℝ)
    (hx : ∀ l : Fin 128, l.val < 64 → x (ix3 0 r l) = (f l.val : EReal))
    (hc : ∀ l : Fin 128, ct (ix3 0 r l) = (c (l.val % 32) : EReal))
    (hs : ∀ l : Fin 128, st (ix3 0 r l) = ((if l.val % 64 < 32 then -s (l.val % 32) else s (l.val % 32) : ℝ) : EReal)) :
    k0_pay2 x ct st (ix2 r e) = (rope f c s e.val : EReal) := by
  pointwise [k0_pay2]
  exact lane (fun l => x (ix3 0 r l)) (fun l => ct (ix3 0 r l)) (fun l => st (ix3 0 r l)) 0 (.inl rfl) f c s
    (fun l j hj hl => (hx l (by omega)).trans (congrArg (fun n => ((f n : ℝ) : EReal)) (by omega))) hc hs ⟨e.val, by omega⟩ e (by show e.val = 0 + e.val; omega)

/-- The embedded queries of both heads, at a row and a lane. -/
theorem queries_apply (x : Vec Ideal S1x512x128 .bf16) (ct st : Vec Ideal S1x512x128 .f32) (r : Fin 512) (l : Fin 128) (e : Fin 64)
    (o : ℕ) (ho : o = 0 ∨ o = 64) (hl : l.val = o + e.val) (f c s : ℕ → ℝ)
    (hx : ∀ l : Fin 128, ∀ j, j < 64 → l.val = o + j → x (ix3 0 r l) = (f j : EReal))
    (hc : ∀ l : Fin 128, ct (ix3 0 r l) = (c (l.val % 32) : EReal))
    (hs : ∀ l : Fin 128, st (ix3 0 r l) = ((if l.val % 64 < 32 then -s (l.val % 32) else s (l.val % 32) : ℝ) : EReal)) :
    roped x ct st (ix2 r l) = (rope f c s e.val : EReal) := by
  pointwise [roped, k0_pay6, k0_pay3, k0_pay4, k0_pay5]
  exact lane (fun l => x (ix3 0 r l)) (fun l => ct (ix3 0 r l)) (fun l => st (ix3 0 r l)) o ho f c s hx hc hs l e hl

/-- The first head's embedded queries are the first 64 lanes. -/
theorem first_apply (x : Vec Ideal S1x512x128 .bf16) (ct st : Vec Ideal S1x512x128 .f32) (r : Fin 512) (e : Fin 64) :
    roped0 x ct st (ix2 r e) = roped x ct st (ix2 r ⟨e.val, by omega⟩) := by
  generalize hy : roped x ct st = z
  pointwise [roped0, k0_pay8]
  rw [← hy]

/-- The second head's embedded queries are the last 64 lanes. -/
theorem second_apply (x : FVec Ideal S512x128 .bf16) (r : Fin 512) (e : Fin 64) :
    k0_pay27 x (ix2 r e) = x (ix2 r ⟨64 + e.val, by omega⟩) := by
  pointwise [k0_pay27]

/-- A head's queries without embedding. -/
theorem plain_apply (x : Vec Ideal S1x512x128 .bf16) (r : Fin 512) (d : Fin 128) : k0_pay7 x (ix2 r d) = x (ix3 0 r d) := by
  pointwise [k0_pay7]

/-- The second head's. -/
theorem plain_apply' (x : Vec Ideal S1x512x128 .bf16) (r : Fin 512) (d : Fin 128) : k0_pay26 x (ix2 r d) = x (ix3 0 r d) := by
  pointwise [k0_pay26]

section

variable (m : (ℓ : Loc nD τ sig) → Buf (Elt Ideal) ℓ) (c : Dev nD) (cs sn : S4x2048x32.Idx → ℝ)
  (hc : ∀ i, m ((c : Thread nD τ).loc main_arg3) i = (cs i : EReal)) (hs : ∀ i, m ((c : Thread nD τ).loc main_arg4) i = (sn i : EReal))

include hc in
/-- The table of cosines: the 32 cosines four times. -/
theorem cos_table (b : Fin 4) (p : Fin 2048) (l : Fin 128) :
    V m c main_v3 (ix3 b p l) = (cs (ix3 b p (Fin.ofNat 32 (l.val % 32))) : EReal) := by
  have at' : ∀ k : Fin 32, k.val = l.val % 32 → m ((c : Thread nD τ).loc main_arg3) (ix3 b p k) = (cs (ix3 b p (Fin.ofNat 32 (l.val % 32))) : EReal) := fun k hk => by
    rw [hc]
    exact congrArg (fun k => ((cs (ix3 b p k) : ℝ) : EReal)) (Fin.ext (by show k.val = l.val % 32 % 32; omega))
  have hl := l.isLt
  entry_read
  pointwise []
  by_cases h1 : l.val < 64
  · rw [dif_pos h1]
    by_cases h2 : l.val < 32
    · rw [dif_pos h2]
      exact at' ⟨l.val, h2⟩ (by show l.val = l.val % 32; omega)
    · rw [dif_neg h2]
      exact at' ⟨l.val - 32, by omega⟩ (by show l.val - 32 = l.val % 32; omega)
  · rw [dif_neg h1]
    by_cases h2 : l.val - 64 < 32
    · rw [dif_pos h2]
      exact at' ⟨l.val - 64, h2⟩ (by show l.val - 64 = l.val % 32; omega)
    · rw [dif_neg h2]
      exact at' ⟨l.val - 64 - 32, by omega⟩ (by show l.val - 64 - 32 = l.val % 32; omega)

include hs in
/-- The table of sines: the 32 sines with the sign changed, then unchanged, twice. -/
theorem sin_table (b : Fin 4) (p : Fin 2048) (l : Fin 128) :
    V m c main_v4 (ix3 b p l)
      = ((if l.val % 64 < 32 then -sn (ix3 b p (Fin.ofNat 32 (l.val % 32))) else sn (ix3 b p (Fin.ofNat 32 (l.val % 32))) : ℝ) : EReal) := by
  have at' : ∀ k : Fin 32, k.val = l.val % 32 → m ((c : Thread nD τ).loc main_arg4) (ix3 b p k) = (sn (ix3 b p (Fin.ofNat 32 (l.val % 32))) : EReal) := fun k hk => by
    rw [hs]
    exact congrArg (fun k => ((sn (ix3 b p k) : ℝ) : EReal)) (Fin.ext (by show k.val = l.val % 32 % 32; omega))
  have hl := l.isLt
  entry_read
  pointwise []
  by_cases h : l.val % 64 < 32
  · rw [if_pos h]
    by_cases h1 : l.val < 64
    · rw [dif_pos h1, dif_pos (show l.val < 32 by omega)]
      refine (congrFun (StableHlo.unary_result ..) _).trans ?_
      refine (congrArg (fun y : EReal => -y) ((congrFun (StableHlo.binary_result_ne (h := (by decide : main_arg4 ≠ main_v0)) ..) _).trans ?_)).trans (EReal.coe_neg _).symm
      exact at' ⟨l.val, by omega⟩ (by show l.val = l.val % 32; omega)
    · rw [dif_neg h1, dif_pos (show l.val - 64 < 32 by omega)]
      refine (congrFun (StableHlo.unary_result ..) _).trans ?_
      refine (congrArg (fun y : EReal => -y) ((congrFun (StableHlo.binary_result_ne (h := (by decide : main_arg4 ≠ main_v0)) ..) _).trans ?_)).trans (EReal.coe_neg _).symm
      exact at' ⟨l.val - 64, by omega⟩ (by show l.val - 64 = l.val % 32; omega)
  · rw [if_neg h]
    by_cases h1 : l.val < 64
    · rw [dif_pos h1, dif_neg (show ¬l.val < 32 by omega)]
      refine (congrFun (StableHlo.unary_result_ne (h := (by decide : main_arg4 ≠ main_v1)) ..) _).trans ?_
      refine (congrFun (StableHlo.binary_result_ne (h := (by decide : main_arg4 ≠ main_v0)) ..) _).trans ?_
      exact at' ⟨l.val - 32, by omega⟩ (by show l.val - 32 = l.val % 32; omega)
    · rw [dif_neg h1, dif_neg (show ¬l.val - 64 < 32 by omega)]
      refine (congrFun (StableHlo.unary_result_ne (h := (by decide : main_arg4 ≠ main_v1)) ..) _).trans ?_
      refine (congrFun (StableHlo.binary_result_ne (h := (by decide : main_arg4 ≠ main_v0)) ..) _).trans ?_
      exact at' ⟨l.val - 64 - 32, by omega⟩ (by show l.val - 64 - 32 = l.val % 32; omega)

end

end Cert.Kernel10Ideal.Attn

end
-- ==== Proof.MlaArray.lean ====
/- Hand-written: LAYER 3'S ATTENTION AS ONE FUNCTION OF ITS ARGUMENTS. Each grid point's input blocks are named as places
   of the arguments, and the array after the run is the causal attention of both kinds of keys, head by head (`final`). -/
module

public import proofs.«01_k».proof.Proof.MlaRope
public import Idealize.ShloMosaic.Lib.Pipeline.ValueKit
public import Idealize.ShloMosaic.Lib.Pipeline.Covers

@[expose] public section

set_option maxRecDepth 16384

noncomputable section

namespace Cert.Kernel10Ideal.Attn

open Cert.Kernel10Ideal Cert.Kernel10Ideal.Gen Cert.Kernel10Ideal.Value Idealize.ShloMosaic Idealize.ShloMosaic.TcCoe Idealize.SL.Sem
open Cert.Online

/-- The query of head `h` at position `p`, without embedding. -/
def plain (u : S4x2048x3072.Idx → ℝ) (b : Fin 4) (h : Fin 16) (p : ℕ) (d : Fin 128) : ℝ :=
  u (ix3 b (Fin.ofNat 2048 p) (Fin.ofNat 3072 (128 * h.val + d.val)))

/-- The query of head `h` at position `p`, embedded. -/
def turned (u : S4x2048x3072.Idx → ℝ) (cs sn : S4x2048x32.Idx → ℝ) (b : Fin 4) (h : Fin 16) (p : ℕ) (e : Fin 64) : ℝ :=
  rope (fun j => u (ix3 b (Fin.ofNat 2048 p) (Fin.ofNat 3072 (2048 + 64 * h.val + j))))
    (fun j => cs (ix3 b (Fin.ofNat 2048 p) (Fin.ofNat 32 j))) (fun j => sn (ix3 b (Fin.ofNat 2048 p) (Fin.ofNat 32 j))) e.val

/-- The key of head `h` at position `j`, without embedding. -/
def plainKey (u : S4x2048x4096.Idx → ℝ) (b : Fin 4) (h : Fin 16) (j : ℕ) (d : Fin 128) : ℝ :=
  u (ix3 b (Fin.ofNat 2048 j) (Fin.ofNat 4096 (128 * h.val + d.val)))

/-- The embedded key at position `j`, the same for all heads. -/
def turnedKey (u : S4x2048x4608.Idx → ℝ) (cs sn : S4x2048x32.Idx → ℝ) (b : Fin 4) (j : ℕ) (e : Fin 64) : ℝ :=
  rope (fun k => u (ix3 b (Fin.ofNat 2048 j) (Fin.ofNat 4608 (4096 + k))))
    (fun k => cs (ix3 b (Fin.ofNat 2048 j) (Fin.ofNat 32 k))) (fun k => sn (ix3 b (Fin.ofNat 2048 j) (Fin.ofNat 32 k))) e.val

/-- The value of head `h` at position `j`. -/
def value (v : S4x2048x4096.Idx → EReal) (b : Fin 4) (h : Fin 16) (j : ℕ) (d : Fin 128) : EReal :=
  v (ix3 b (Fin.ofNat 2048 j) (Fin.ofNat 4096 (2048 + 128 * h.val + d.val)))

/-- The score of key `j` for query `p`. -/
def headScore (u0 : S4x2048x3072.Idx → ℝ) (u1 : S4x2048x4096.Idx → ℝ) (u2 : S4x2048x4608.Idx → ℝ) (cs sn : S4x2048x32.Idx → ℝ)
    (b : Fin 4) (h : Fin 16) (p j : ℕ) : ℝ :=
  (∑ d, plain u0 b h p d * plainKey u1 b h j d + ∑ e, turned u0 cs sn b h p e * turnedKey u2 cs sn b j e) * scale

/-- The attention at batch entry `b`, position `p`, head `h`, channel `d`. -/
def attn (u0 : S4x2048x3072.Idx → ℝ) (u1 : S4x2048x4096.Idx → ℝ) (u2 : S4x2048x4608.Idx → ℝ) (cs sn : S4x2048x32.Idx → ℝ)
    (v : S4x2048x4096.Idx → EReal) (b : Fin 4) (p : ℕ) (h : Fin 16) (d : Fin 128) : EReal :=
  mean (p + 1) (headScore u0 u1 u2 cs sn b h p) (fun j => value v b h j d)

/-- The result array: head `h` in columns `128 h` to `128 h + 127`. -/
def result (u0 : S4x2048x3072.Idx → ℝ) (u1 : S4x2048x4096.Idx → ℝ) (u2 : S4x2048x4608.Idx → ℝ) (cs sn : S4x2048x32.Idx → ℝ)
    (v : S4x2048x4096.Idx → EReal) (i : S4x2048x2048.Idx) : EReal :=
  attn u0 u1 u2 cs sn v (i 0) (i 1).val ⟨(i 2).val / 128, Nat.div_lt_of_lt_mul (i 2).isLt⟩ ⟨(i 2).val % 128, Nat.mod_lt _ (by decide)⟩

/-- The block that each window stages at a grid point. -/
theorem index0 : ∀ t : Fin cfg0.N, win0_0.index t = ![(grid0.coords t 0).val, (grid0.coords t 2).val, (grid0.coords t 1).val] :=
  (by decide +kernel : ∀ t : Fin grid0.N, _)
theorem index1 : ∀ t : Fin cfg0.N, win0_1.index t = ![(grid0.coords t 0).val, (grid0.coords t 2).val, 16 + (grid0.coords t 1).val] :=
  (by decide +kernel : ∀ t : Fin grid0.N, _)
theorem index2 : ∀ t : Fin cfg0.N, win0_2.index t = ![(grid0.coords t 0).val, 0, (grid0.coords t 1).val] :=
  (by decide +kernel : ∀ t : Fin grid0.N, _)
theorem index3 : ∀ t : Fin cfg0.N, win0_3.index t = ![(grid0.coords t 0).val, 0, 32] :=
  (by decide +kernel : ∀ t : Fin grid0.N, _)
theorem index4 : ∀ t : Fin cfg0.N, win0_4.index t = ![(grid0.coords t 0).val, 0, 8 + (grid0.coords t 1).val] :=
  (by decide +kernel : ∀ t : Fin grid0.N, _)
theorem index5 : ∀ t : Fin cfg0.N, win0_5.index t = ![(grid0.coords t 0).val, (grid0.coords t 2).val, 0] :=
  (by decide +kernel : ∀ t : Fin grid0.N, _)
theorem index6 : ∀ t : Fin cfg0.N, win0_6.index t = ![(grid0.coords t 0).val, (grid0.coords t 2).val, 0] :=
  (by decide +kernel : ∀ t : Fin grid0.N, _)
theorem index7 : ∀ t : Fin cfg0.N, win0_7.index t = ![(grid0.coords t 0).val, 0, 0] :=
  (by decide +kernel : ∀ t : Fin grid0.N, _)
theorem index8 : ∀ t : Fin cfg0.N, win0_8.index t = ![(grid0.coords t 0).val, 0, 0] :=
  (by decide +kernel : ∀ t : Fin grid0.N, _)
theorem index9 : ∀ t : Fin cfg0.N, win0_9.index t = ![(grid0.coords t 0).val, (grid0.coords t 2).val, (grid0.coords t 1).val] :=
  (by decide +kernel : ∀ t : Fin grid0.N, _)

/-- A place by its coordinates. -/
theorem place {w : ℕ} [NeZero w] (i : (⟨3, ![4, 2048, w]⟩ : Shape).Idx) (b : Fin 4) (n : ℕ) (k : ℕ) (hn : n < 2048) (hk : k < w)
    (h0 : (i 0).val = b.val) (h1 : (i 1).val = n) (h2 : (i 2).val = k) : i = ix3 b (Fin.ofNat 2048 n) (Fin.ofNat w k) :=
  funext fun a => Fin.ext (match a with
    | ⟨0, _⟩ => h0
    | ⟨1, _⟩ => h1.trans (Nat.mod_eq_of_lt hn).symm
    | ⟨2, _⟩ => h2.trans (Nat.mod_eq_of_lt hk).symm)

variable (m : (ℓ : Loc nD τ sig) → Buf (Elt Ideal) ℓ) (c : Dev nD)

/-- The queries of a grid point: two heads. -/
theorem query_block (t : Fin cfg0.N) (r : Fin 512) (l : Fin 256) :
    iblk m c 0 t (ix3 0 r l) = m ((c : Thread nD τ).loc main_arg0) (ix3 (grid0.coords t 0)
      (Fin.ofNat 2048 (512 * (grid0.coords t 2).val + r.val)) (Fin.ofNat 3072 (256 * (grid0.coords t 1).val + l.val))) := by
  have e := index0 t
  have h1 : (grid0.coords t 1).val < 8 := (grid0.coords t 1).isLt
  have h2 : (grid0.coords t 2).val < 4 := (grid0.coords t 2).isLt
  refine Eq.trans ?_ (congrFun (V_main_arg0 m c) _)
  show V m c main_arg0 (((cfg0.win 0).blk t).view.emb (ix3 0 r l)) = _
  exact congrArg _ (place _ _ _ _ (by omega) (by omega) (by blk_simp [e]; simp) (by blk_simp [e]; simp; omega) (by blk_simp [e]; simp; omega))

/-- The queries to be embedded: two heads. -/
theorem turned_block (t : Fin cfg0.N) (r : Fin 512) (l : Fin 128) :
    iblk m c 1 t (ix3 0 r l) = m ((c : Thread nD τ).loc main_arg0) (ix3 (grid0.coords t 0)
      (Fin.ofNat 2048 (512 * (grid0.coords t 2).val + r.val)) (Fin.ofNat 3072 (2048 + 128 * (grid0.coords t 1).val + l.val))) := by
  have e := index1 t
  have h1 : (grid0.coords t 1).val < 8 := (grid0.coords t 1).isLt
  have h2 : (grid0.coords t 2).val < 4 := (grid0.coords t 2).isLt
  refine Eq.trans ?_ (congrFun (V_main_arg0 m c) _)
  show V m c main_arg0 (((cfg0.win 1).blk t).view.emb (ix3 0 r l)) = _
  exact congrArg _ (place _ _ _ _ (by omega) (by omega) (by blk_simp [e]; simp) (by blk_simp [e]; simp; omega) (by blk_simp [e]; simp; omega))

/-- The keys: two heads. -/
theorem key_block (t : Fin cfg0.N) (j : Fin 2048) (l : Fin 256) :
    iblk m c 2 t (ix3 0 j l) = m ((c : Thread nD τ).loc main_arg1) (ix3 (grid0.coords t 0)
      (Fin.ofNat 2048 j.val) (Fin.ofNat 4096 (256 * (grid0.coords t 1).val + l.val))) := by
  have e := index2 t
  have h1 : (grid0.coords t 1).val < 8 := (grid0.coords t 1).isLt
  refine Eq.trans ?_ (congrFun (V_main_arg1 m c) _)
  show V m c main_arg1 (((cfg0.win 2).blk t).view.emb (ix3 0 j l)) = _
  exact congrArg _ (place _ _ _ _ (by omega) (by omega) (by blk_simp [e]; simp) (by blk_simp [e]) (by blk_simp [e]; simp; omega))

/-- The keys to be embedded. -/
theorem turned_key_block (t : Fin cfg0.N) (j : Fin 2048) (l : Fin 128) :
    iblk m c 3 t (ix3 0 j l) = m ((c : Thread nD τ).loc main_arg2) (ix3 (grid0.coords t 0)
      (Fin.ofNat 2048 j.val) (Fin.ofNat 4608 (4096 + l.val))) := by
  have e := index3 t
  refine Eq.trans ?_ (congrFun (V_main_arg2 m c) _)
  show V m c main_arg2 (((cfg0.win 3).blk t).view.emb (ix3 0 j l)) = _
  exact congrArg _ (place _ _ _ _ (by omega) (by omega) (by blk_simp [e]; simp) (by blk_simp [e]) (by blk_simp [e]))

/-- The values: two heads. -/
theorem value_block (t : Fin cfg0.N) (j : Fin 2048) (l : Fin 256) :
    iblk m c 4 t (ix3 0 j l) = m ((c : Thread nD τ).loc main_arg1) (ix3 (grid0.coords t 0)
      (Fin.ofNat 2048 j.val) (Fin.ofNat 4096 (2048 + 256 * (grid0.coords t 1).val + l.val))) := by
  have e := index4 t
  have h1 : (grid0.coords t 1).val < 8 := (grid0.coords t 1).isLt
  refine Eq.trans ?_ (congrFun (V_main_arg1 m c) _)
  show V m c main_arg1 (((cfg0.win 4).blk t).view.emb (ix3 0 j l)) = _
  exact congrArg _ (place _ _ _ _ (by omega) (by omega) (by blk_simp [e]; simp) (by blk_simp [e]) (by blk_simp [e]; simp; omega))

/-- The rows of the table of cosines for the queries. -/
theorem cos_block (t : Fin cfg0.N) (r : Fin 512) (l : Fin 128) :
    iblk m c 5 t (ix3 0 r l) = V m c main_v3 (ix3 (grid0.coords t 0) (Fin.ofNat 2048 (512 * (grid0.coords t 2).val + r.val)) (Fin.ofNat 128 l.val)) := by
  have e := index5 t
  have h2 : (grid0.coords t 2).val < 4 := (grid0.coords t 2).isLt
  show V m c main_v3 (((cfg0.win 5).blk t).view.emb (ix3 0 r l)) = _
  exact congrArg _ (place _ _ _ _ (by omega) (by omega) (by blk_simp [e]; simp) (by blk_simp [e]; simp; omega) (by blk_simp [e]))

/-- The rows of the table of sines for the queries. -/
theorem sin_block (t : Fin cfg0.N) (r : Fin 512) (l : Fin 128) :
    iblk m c 6 t (ix3 0 r l) = V m c main_v4 (ix3 (grid0.coords t 0) (Fin.ofNat 2048 (512 * (grid0.coords t 2).val + r.val)) (Fin.ofNat 128 l.val)) := by
  have e := index6 t
  have h2 : (grid0.coords t 2).val < 4 := (grid0.coords t 2).isLt
  show V m c main_v4 (((cfg0.win 6).blk t).view.emb (ix3 0 r l)) = _
  exact congrArg _ (place _ _ _ _ (by omega) (by omega) (by blk_simp [e]; simp) (by blk_simp [e]; simp; omega) (by blk_simp [e]))

/-- The table of cosines for the keys. -/
theorem cos_key_block (t : Fin cfg0.N) (j : Fin 2048) (l : Fin 128) :
    iblk m c 7 t (ix3 0 j l) = V m c main_v3 (ix3 (grid0.coords t 0) (Fin.ofNat 2048 j.val) (Fin.ofNat 128 l.val)) := by
  have e := index7 t
  show V m c main_v3 (((cfg0.win 7).blk t).view.emb (ix3 0 j l)) = _
  exact congrArg _ (place _ _ _ _ (by omega) (by omega) (by blk_simp [e]; simp) (by blk_simp [e]) (by blk_simp [e]))

/-- The table of sines for the keys. -/
theorem sin_key_block (t : Fin cfg0.N) (j : Fin 2048) (l : Fin 128) :
    iblk m c 8 t (ix3 0 j l) = V m c main_v4 (ix3 (grid0.coords t 0) (Fin.ofNat 2048 j.val) (Fin.ofNat 128 l.val)) := by
  have e := index8 t
  show V m c main_v4 (((cfg0.win 8).blk t).view.emb (ix3 0 j l)) = _
  exact congrArg _ (place _ _ _ _ (by omega) (by omega) (by blk_simp [e]; simp) (by blk_simp [e]) (by blk_simp [e]))

/-- Every place of the result array lies in a block that is written back. -/
theorem covered (i : S4x2048x2048.Idx) :
    ∃ t : Fin cfg0.N, (cfg0.win 9).flush t = true ∧ i ∈ ((cfg0.win 9).blk t).view.set :=
  (by decide +kernel : (cfg0.win 9).Covers).cover _ (Memref.isWhole_whole _) i

variable (u0 : S4x2048x3072.Idx → ℝ) (u1 : S4x2048x4096.Idx → ℝ) (u2 : S4x2048x4608.Idx → ℝ) (cs sn : S4x2048x32.Idx → ℝ)
  (v : S4x2048x4096.Idx → EReal)
  (hu0 : ∀ i, m ((c : Thread nD τ).loc main_arg0) i = (u0 i : EReal))
  (hv : ∀ i, m ((c : Thread nD τ).loc main_arg1) i = v i)
  (hu1 : ∀ b j (k : Fin 4096), k.val < 2048 → v (ix3 b j k) = (u1 (ix3 b j k) : EReal))
  (hu2 : ∀ b j (k : Fin 4608), 4096 ≤ k.val → k.val < 4160 → m ((c : Thread nD τ).loc main_arg2) (ix3 b j k) = (u2 (ix3 b j k) : EReal))
  (hc : ∀ i, m ((c : Thread nD τ).loc main_arg3) i = (cs i : EReal))
  (hs : ∀ i, m ((c : Thread nD τ).loc main_arg4) i = (sn i : EReal))

/-- A place of the result array by its coordinates. -/
theorem result_at (b : Fin 4) (p : ℕ) (h : Fin 16) (d : Fin 128) (i : S4x2048x2048.Idx) (h0 : (i 0).val = b.val)
    (h1 : (i 1).val = p) (h2 : (i 2).val = 128 * h.val + d.val) : result u0 u1 u2 cs sn v i = attn u0 u1 u2 cs sn v b p h d := by
  have hd := d.isLt
  unfold result
  congr 1
  · exact Fin.ext h0
  · exact Fin.ext (by show (i 2).val / 128 = h.val; omega)
  · exact Fin.ext (by show (i 2).val % 128 = d.val; omega)

include hu0 hc hs in
/-- A head's embedded queries at a grid point. -/
theorem turned_point (t : Fin cfg0.N) (s : ℕ) (hs2 : s < 2) (h : Fin 16) (hh : h.val = 2 * (grid0.coords t 1).val + s)
    (r : Fin 512) (e : Fin 64) (l : Fin 128) (hl : l.val = 64 * s + e.val) :
    roped (iblk m c 1 t) (iblk m c 5 t) (iblk m c 6 t) (ix2 r l)
      = (turned u0 cs sn (grid0.coords t 0) h (512 * (grid0.coords t 2).val + r.val) e : EReal) := by
  refine queries_apply _ _ _ r l e (64 * s) (by omega) hl _ _ _ (fun l j hj hl => ?_) (fun l => ?_) (fun l => ?_)
  · rw [turned_block, hu0]
    have hcol : 2048 + 128 * (grid0.coords t 1).val + l.val = 2048 + 64 * h.val + j := by omega
    exact congrArg (fun k => ((u0 (ix3 _ _ (Fin.ofNat 3072 k)) : ℝ) : EReal)) hcol
  · rw [cos_block]
    exact (cos_table m c cs hc _ _ _).trans <| congrArg (fun k => ((cs (ix3 _ _ (Fin.ofNat 32 (k % 32))) : ℝ) : EReal)) (Nat.mod_eq_of_lt l.isLt)
  · rw [sin_block]
    exact (sin_table m c sn hs _ _ _).trans <| congrArg (fun k : ℕ => ((if k % 64 < 32 then -sn (ix3 _ _ (Fin.ofNat 32 (k % 32))) else sn (ix3 _ _ (Fin.ofNat 32 (k % 32))) : ℝ) : EReal))
      (Nat.mod_eq_of_lt l.isLt)

include hu2 hc hs in
/-- The embedded keys at a grid point. -/
theorem turned_key_point (t : Fin cfg0.N) (j : ℕ) (e : Fin 64) :
    k0_pay2 (iblk m c 3 t) (iblk m c 7 t) (iblk m c 8 t) (ix2 (Fin.ofNat 2048 j) e)
      = (turnedKey u2 cs sn (grid0.coords t 0) j e : EReal) := by
  have hj : ∀ n : ℕ, Fin.ofNat 2048 (Fin.ofNat 2048 n).val = Fin.ofNat 2048 n := fun n => Fin.ext (Nat.mod_mod _ _)
  refine keys_apply _ _ _ _ e _ _ _ (fun l hl => ?_) (fun l => ?_) (fun l => ?_)
  · have hk : (Fin.ofNat 4608 (4096 + l.val)).val = 4096 + l.val := Nat.mod_eq_of_lt (by omega)
    rw [turned_key_block, hj]
    exact hu2 (grid0.coords t 0) (Fin.ofNat 2048 j) (Fin.ofNat 4608 (4096 + l.val)) (by omega) (by omega)
  · rw [cos_key_block, hj]
    exact (cos_table m c cs hc _ _ _).trans <| congrArg (fun k => ((cs (ix3 _ _ (Fin.ofNat 32 (k % 32))) : ℝ) : EReal)) (Nat.mod_eq_of_lt l.isLt)
  · rw [sin_key_block, hj]
    exact (sin_table m c sn hs _ _ _).trans <| congrArg (fun k : ℕ => ((if k % 64 < 32 then -sn (ix3 _ _ (Fin.ofNat 32 (k % 32))) else sn (ix3 _ _ (Fin.ofNat 32 (k % 32))) : ℝ) : EReal))
      (Nat.mod_eq_of_lt l.isLt)

include hu0 hv hu1 hu2 hc hs in
/-- One head's output at a grid point. -/
theorem head_point (t : Fin cfg0.N) (s : ℕ) (hs2 : s < 2) (h : Fin 16) (hh : h.val = 2 * (grid0.coords t 1).val + s)
    (qn : FVec Ideal S512x128 .bf16) (qr : FVec Ideal S512x64 .bf16)
    (hqn : ∀ r d, qn (ix2 r d) = iblk m c 0 t (ix3 0 r (Fin.ofNat 256 (128 * s + d.val))))
    (hqr : ∀ r (e : Fin 64), qr (ix2 r e) = roped (iblk m c 1 t) (iblk m c 5 t) (iblk m c 6 t) (ix2 r ⟨64 * s + e.val, by omega⟩))
    (r : Fin 512) (d : Fin 128) :
    head qn qr (part (iblk m c 2 t) (128 * s)) (rotary (k0_pay2 (iblk m c 3 t) (iblk m c 7 t) (iblk m c 8 t)))
        (part (iblk m c 4 t) (128 * s)) (grid0.coords t 2).val (ix3 0 r d)
      = attn u0 u1 u2 cs sn v (grid0.coords t 0) (512 * (grid0.coords t 2).val + r.val) h d := by
  have h1 : (grid0.coords t 1).val < 8 := (grid0.coords t 1).isLt
  have hj : ∀ n : ℕ, Fin.ofNat 2048 (Fin.ofNat 2048 n).val = Fin.ofNat 2048 n := fun n => Fin.ext (Nat.mod_mod _ _)
  have hl : ∀ d : Fin 128, (Fin.ofNat 256 (128 * s + d.val)).val = 128 * s + d.val := fun d => Nat.mod_eq_of_lt (by omega)
  refine (head_value
    (fun r => plain u0 (grid0.coords t 0) h (512 * (grid0.coords t 2).val + r.val))
    (fun r => turned u0 cs sn (grid0.coords t 0) h (512 * (grid0.coords t 2).val + r.val))
    (plainKey u1 (grid0.coords t 0) h) (turnedKey u2 cs sn (grid0.coords t 0)) (value v (grid0.coords t 0) h) qn qr
    (fun r d => ?_) (fun r e => ?_) _ _ _ (fun k j d => ?_) (fun k j e => ?_) (fun k j d => ?_) (grid0.coords t 2) r d).trans ?_
  · rw [hqn, query_block, hl, hu0]
    have hcol : 256 * (grid0.coords t 1).val + (128 * s + d.val) = 128 * h.val + d.val := by omega
    exact congrArg (fun k => ((u0 (ix3 _ _ (Fin.ofNat 3072 k)) : ℝ) : EReal)) hcol
  · rw [hqr]
    exact turned_point m c u0 cs sn hu0 hc hs t s hs2 h hh r e _ rfl
  · show iblk m c 2 t (ix3 0 (Fin.ofNat 2048 (512 * k + j.val)) (Fin.ofNat 256 (128 * s + d.val))) = _
    have hk : (Fin.ofNat 4096 (256 * (grid0.coords t 1).val + (128 * s + d.val))).val
        = 256 * (grid0.coords t 1).val + (128 * s + d.val) := Nat.mod_eq_of_lt (by omega)
    have hcol : 256 * (grid0.coords t 1).val + (128 * s + d.val) = 128 * h.val + d.val := by omega
    rw [key_block, hl, hj, hv]
    exact (hu1 (grid0.coords t 0) (Fin.ofNat 2048 (512 * k + j.val)) (Fin.ofNat 4096 (256 * (grid0.coords t 1).val + (128 * s + d.val))) (by omega)).trans
      (congrArg (fun k => ((u1 (ix3 _ _ (Fin.ofNat 4096 k)) : ℝ) : EReal)) hcol)
  · exact turned_key_point m c u2 cs sn hu2 hc hs t (512 * k + j.val) e
  · show iblk m c 4 t (ix3 0 (Fin.ofNat 2048 (512 * k + j.val)) (Fin.ofNat 256 (128 * s + d.val))) = _
    have hcol : 2048 + 256 * (grid0.coords t 1).val + (128 * s + d.val) = 2048 + 128 * h.val + d.val := by omega
    rw [value_block, hl, hj, hv]
    exact congrArg (fun k => v (ix3 _ _ (Fin.ofNat 4096 k))) hcol
  · rfl

include hu0 hv hu1 hu2 hc hs in
/-- What a grid point leaves in its output block. -/
theorem point_value (t : Fin cfg0.N) (y : S1x512x256.Idx) :
    block (iblk m c 0 t) (iblk m c 1 t) (iblk m c 2 t) (iblk m c 3 t) (iblk m c 4 t) (iblk m c 5 t) (iblk m c 6 t) (iblk m c 7 t)
        (iblk m c 8 t) (grid0.coords t 2).val y
      = result u0 u1 u2 cs sn v (((cfg0.win 9).blk t).view.emb y) := by
  have e := index9 t
  have h1 : (grid0.coords t 1).val < 8 := (grid0.coords t 1).isLt
  idx_vars y
  obtain rfl := Subsingleton.elim y0 0
  have hy := y2.isLt
  by_cases hd : y2.val < 128
  · refine (if_pos hd).trans ?_
    rw [result_at u0 u1 u2 cs sn v (grid0.coords t 0) (512 * (grid0.coords t 2).val + y1.val)
      ⟨2 * (grid0.coords t 1).val, by omega⟩ (Fin.ofNat 128 y2.val) _
      (by blk_simp [e]; simp) (by blk_simp [e]; simp; omega)
      (by have hm := Nat.mod_eq_of_lt hd; blk_simp [e]; simp [hm]; omega)]
    refine head_point m c u0 u1 u2 cs sn v hu0 hv hu1 hu2 hc hs t 0 (by omega) ⟨2 * (grid0.coords t 1).val, by omega⟩ rfl _ _
      (fun r d => plain_apply _ r d) (fun r e => (first_apply _ _ _ r e).trans (congrArg (fun l => roped _ _ _ (ix2 r l)) (Fin.ext (by show e.val = 64 * 0 + e.val; omega)))) y1 _
  · refine (if_neg hd).trans ?_
    rw [result_at u0 u1 u2 cs sn v (grid0.coords t 0) (512 * (grid0.coords t 2).val + y1.val)
      ⟨2 * (grid0.coords t 1).val + 1, by omega⟩ (Fin.ofNat 128 (y2.val - 128)) _
      (by blk_simp [e]; simp) (by blk_simp [e]; simp; omega)
      (by have hm : (y2.val - 128) % 128 = y2.val - 128 := Nat.mod_eq_of_lt (by omega)
          blk_simp [e]; simp [hm]; omega)]
    exact head_point m c u0 u1 u2 cs sn v hu0 hv hu1 hu2 hc hs t 1 (by omega) ⟨2 * (grid0.coords t 1).val + 1, by omega⟩ rfl _ _
      (fun r d => plain_apply' _ r d) (fun r e => second_apply _ r e) y1 _

include hu0 hv hu1 hu2 hc hs in
/-- The array after the run. -/
theorem final : (dats m 0 c).arrAt 9 cfg0.N = result u0 u1 u2 cs sn v := by
  refine (dats m 0 c).arrAt_eq_of_cover 9 (result u0 u1 u2 cs sn v) (fun t _ => ?_) covered
  rw [flushed9_A, out_eq]
  exact funext fun y => point_value m c u0 u1 u2 cs sn v hu0 hv hu1 hu2 hc hs t y

/-- The generated run with the result array at its function of the arguments. -/
theorem run (ρ : Dev nD → PrngReg) (u0 : Dev nD → S4x2048x3072.Idx → ℝ) (u1 : Dev nD → S4x2048x4096.Idx → ℝ)
    (u2 : Dev nD → S4x2048x4608.Idx → ℝ) (cs sn : Dev nD → S4x2048x32.Idx → ℝ) (v : Dev nD → S4x2048x4096.Idx → EReal)
    (hu0 : ∀ c : Dev nD, ∀ i, m ((c : Thread nD τ).loc main_arg0) i = (u0 c i : EReal))
    (hv : ∀ c : Dev nD, ∀ i, m ((c : Thread nD τ).loc main_arg1) i = v c i)
    (hu1 : ∀ c : Dev nD, ∀ b j (k : Fin 4096), k.val < 2048 → v c (ix3 b j k) = (u1 c (ix3 b j k) : EReal))
    (hu2 : ∀ c : Dev nD, ∀ b j (k : Fin 4608), 4096 ≤ k.val → k.val < 4160 →
      m ((c : Thread nD τ).loc main_arg2) (ix3 b j k) = (u2 c (ix3 b j k) : EReal))
    (hc : ∀ c : Dev nD, ∀ i, m ((c : Thread nD τ).loc main_arg3) i = (cs c i : EReal))
    (hs : ∀ c : Dev nD, ∀ i, m ((c : Thread nD τ).loc main_arg4) i = (sn c i : EReal)) :
    θ_run defs (onTc (τ := τ) (main (F := Ideal))) ⟨m, fun _ => 0, ρ⟩ fun r => ∀ c : Dev nD,
      r.2.mem ((c : Thread nD τ).loc main_v5) = result (u0 c) (u1 c) (u2 c) (cs c) (sn c) (v c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c (u0 c) (u1 c) (u2 c) (cs c) (sn c) (v c) (hu0 c) (hv c) (hu1 c) (hu2 c) (hc c) (hs c)),
    (h c).2⟩) (run_blocks m ρ)

end Cert.Kernel10Ideal.Attn

end
-- ==== Proof.MlaRef.lean ====
module

public import proofs.«01_k».proof.Proof.MlaArray
public import proofs.«01_k».proof.Proof.RefValue
public import proofs.«01_k».proof.Proof.Gen.Reference10Ideal.Read

@[expose] public section

set_option maxRecDepth 16384

/-! # What the reference of layer 3's attention computes

At real queries, keys, cosines and sines, the reference's result is the same causal attention. -/

noncomputable section

namespace Cert.Reference10Ideal.Attn

open Cert.Reference10Ideal Cert.Reference10Ideal.Read Idealize.ShloMosaic Idealize.ShloMosaic.TcCoe Idealize.SL.Sem
open Cert.Online Cert.Kernel10Ideal.Attn

/-- The first half of the channels, embedded. -/
theorem rope_low (f c s : ℕ → ℝ) (j : ℕ) (hj : j < 32) :
    (f j : EReal) * (c j : EReal) - (f (j + 32) : EReal) * (s j : EReal) = (rope f c s j : EReal) := by
  rw [rope, if_pos hj, EReal.coe_sub, EReal.coe_mul, EReal.coe_mul]

/-- The second half of the channels, embedded. -/
theorem rope_high (f c s : ℕ → ℝ) (j : ℕ) :
    (f (j + 32) : EReal) * (c j : EReal) + (f j : EReal) * (s j : EReal) = (rope f c s (j + 32) : EReal) := by
  rw [rope, if_neg (by omega), Nat.add_sub_cancel, EReal.coe_add, EReal.coe_mul, EReal.coe_mul]

variable (x0 : (⟨S4x2048x3072, .bf16⟩ : BufTy).Contents (Elt Ideal)) (x1 : (⟨S4x2048x4096, .bf16⟩ : BufTy).Contents (Elt Ideal))
  (x2 : (⟨S4x2048x4608, .bf16⟩ : BufTy).Contents (Elt Ideal)) (x3 x4 : (⟨S4x2048x32, .f32⟩ : BufTy).Contents (Elt Ideal))
  (u0 : S4x2048x3072.Idx → ℝ) (u1 : S4x2048x4096.Idx → ℝ) (u2 : S4x2048x4608.Idx → ℝ) (cs sn : S4x2048x32.Idx → ℝ)
  (hu0 : ∀ i, x0 i = (u0 i : EReal))
  (hu1 : ∀ b j (k : Fin 4096), k.val < 2048 → x1 (ix3 b j k) = (u1 (ix3 b j k) : EReal))
  (hu2 : ∀ b j (k : Fin 4608), 4096 ≤ k.val → k.val < 4160 → x2 (ix3 b j k) = (u2 (ix3 b j k) : EReal))
  (hc : ∀ i, x3 i = (cs i : EReal)) (hs : ∀ i, x4 i = (sn i : EReal))

/-- A real array at a place, by its coordinates. -/
theorem real_at {w : ℕ} [NeZero w] (x : (⟨3, ![4, 2048, w]⟩ : Shape).Idx → EReal) (u : (⟨3, ![4, 2048, w]⟩ : Shape).Idx → ℝ)
    (b : Fin 4) (p : Fin 2048) (k : Fin w) (j : ℕ) (hk : k.val = j) (hx : x (ix3 b p k) = (u (ix3 b p k) : EReal)) :
    x (ix3 b p k) = (u (ix3 b (Fin.ofNat 2048 p.val) (Fin.ofNat w j)) : EReal) :=
  hx.trans (congrArg (fun i => ((u i : ℝ) : EReal)) (place (ix3 b p k) b p.val j p.isLt (hk ▸ k.isLt) rfl rfl hk))

include hu0 in
/-- The queries without embedding. -/
theorem queries (b : Fin 4) (p : Fin 2048) (h : Fin 16) (d : Fin 128) :
    val_main_v2 (F := Ideal) x0 (ix4 b p h d) = (plain u0 b h p.val d : EReal) := by
  pointwise [val_main_v2, val_main_v1, val_main_v0]
  exact real_at x0 u0 b p _ _ (by simp; omega) (hu0 _)

include hu1 in
/-- The keys without embedding. -/
theorem keys (b : Fin 4) (p : Fin 2048) (h : Fin 16) (d : Fin 128) :
    val_main_v23 (F := Ideal) x1 (ix4 b p h d) = (plainKey u1 b h p.val d : EReal) := by
  pointwise [val_main_v23, val_main_v22, val_main_v21]
  exact real_at x1 u1 b p _ _ (by simp; omega) (hu1 _ _ _ (by simp; omega))

/-- The values. -/
theorem values (b : Fin 4) (p : Fin 2048) (h : Fin 16) (d : Fin 128) :
    val_main_v26 (F := Ideal) x1 (ix4 b p h d) = value x1 b h p.val d := by
  pointwise [val_main_v26, val_main_v25, val_main_v24]
  exact congrArg x1 (place _ b p.val _ p.isLt (by omega) rfl rfl (by simp; omega))

include hu0 hc hs in
/-- The embedded queries. -/
theorem queries_turned (b : Fin 4) (p : Fin 2048) (h : Fin 16) (e : Fin 64) :
    val_main_v20 (F := Ideal) x0 x3 x4 (ix4 b p h e) = (turned u0 cs sn b h p.val e : EReal) := by
  have hq : ∀ (k : Fin 3072) (j : ℕ), k.val = 2048 + 64 * h.val + j → x0 (ix3 b p k) = _ := fun k j hk =>
    real_at x0 u0 b p k _ hk (hu0 _)
  have hcs : ∀ (k : Fin 32), x3 (ix3 b p k) = _ := fun k => real_at x3 cs b p k _ rfl (hc _)
  have hsn : ∀ (k : Fin 32), x4 (ix3 b p k) = _ := fun k => real_at x4 sn b p k _ rfl (hs _)
  generalize hy : val_main_v14 (F := Ideal) x0 x3 x4 = y
  generalize hz : val_main_v19 (F := Ideal) x0 x3 x4 = z
  pointwise [val_main_v20]
  by_cases he : e.val < 32
  · rw [dif_pos he]
    pointwise [val_main_v14, val_main_v11, val_main_v6, val_main_v5, val_main_v4, val_main_v3, val_main_v10, val_main_v8, val_main_v13,
      val_main_v7, val_main_v12, val_main_v9]
    rw [hq _ e.val (by simp; omega), hq _ (e.val + 32) (by simp; omega), hcs, hsn]
    exact rope_low (fun j => u0 (ix3 b (Fin.ofNat 2048 p.val) (Fin.ofNat 3072 (2048 + 64 * h.val + j))))
      (fun j => cs (ix3 b (Fin.ofNat 2048 p.val) (Fin.ofNat 32 j))) (fun j => sn (ix3 b (Fin.ofNat 2048 p.val) (Fin.ofNat 32 j))) e.val he
  · rw [dif_neg he]
    obtain ⟨j, hj⟩ : ∃ j : Fin 32, e.val - 32 = j.val := ⟨⟨e.val - 32, by omega⟩, rfl⟩
    have hej : e.val = j.val + 32 := by omega
    rw [show (⟨e.val - 32, by omega⟩ : Fin 32) = j from Fin.ext hj, turned, hej]
    pointwise [val_main_v19, val_main_v16, val_main_v6, val_main_v5, val_main_v4, val_main_v3, val_main_v15, val_main_v8, val_main_v18,
      val_main_v7, val_main_v17, val_main_v9]
    rw [hq _ (j.val + 32) (by simp; omega), hq _ j.val (by simp; omega), hcs, hsn]
    exact rope_high (fun j => u0 (ix3 b (Fin.ofNat 2048 p.val) (Fin.ofNat 3072 (2048 + 64 * h.val + j))))
      (fun j => cs (ix3 b (Fin.ofNat 2048 p.val) (Fin.ofNat 32 j))) (fun j => sn (ix3 b (Fin.ofNat 2048 p.val) (Fin.ofNat 32 j))) j.val

include hu2 hc hs in
/-- The embedded keys. -/
theorem keys_turned (b : Fin 4) (p : Fin 2048) (e : Fin 64) :
    val_main_v41 (F := Ideal) x2 x3 x4 (ix3 b p e) = (turnedKey u2 cs sn b p.val e : EReal) := by
  have hq : ∀ (k : Fin 4608) (j : ℕ), k.val = 4096 + j → j < 64 → x2 (ix3 b p k) = _ := fun k j hk hj =>
    real_at x2 u2 b p k _ hk (hu2 _ _ _ (by omega) (by omega))
  have hcs : ∀ (k : Fin 32), x3 (ix3 b p k) = _ := fun k => real_at x3 cs b p k _ rfl (hc _)
  have hsn : ∀ (k : Fin 32), x4 (ix3 b p k) = _ := fun k => real_at x4 sn b p k _ rfl (hs _)
  generalize hy : val_main_v36 (F := Ideal) x2 x3 x4 = y
  generalize hz : val_main_v39 (F := Ideal) x2 x3 x4 = z
  pointwise [val_main_v41, val_main_v40]
  by_cases he : e.val < 32
  · rw [dif_pos he]
    pointwise [val_main_v36, val_main_v34, val_main_v35, val_main_v33, val_main_v32, val_main_v31, val_main_v30, val_main_v29,
      val_main_v28, val_main_v27]
    rw [hq _ e.val (by simp) (by omega), hq _ (e.val + 32) (by simp; omega) (by omega), hcs, hsn]
    exact rope_low (fun j => u2 (ix3 b (Fin.ofNat 2048 p.val) (Fin.ofNat 4608 (4096 + j))))
      (fun j => cs (ix3 b (Fin.ofNat 2048 p.val) (Fin.ofNat 32 j))) (fun j => sn (ix3 b (Fin.ofNat 2048 p.val) (Fin.ofNat 32 j))) e.val he
  · rw [dif_neg he]
    obtain ⟨j, hj⟩ : ∃ j : Fin 32, e.val - 32 = j.val := ⟨⟨e.val - 32, by omega⟩, rfl⟩
    have hej : e.val = j.val + 32 := by omega
    rw [show (⟨e.val - 32, by omega⟩ : Fin 32) = j from Fin.ext hj, turnedKey, hej]
    pointwise [val_main_v39, val_main_v37, val_main_v38, val_main_v33, val_main_v32, val_main_v31, val_main_v30, val_main_v29,
      val_main_v28, val_main_v27]
    rw [hq _ (j.val + 32) (by simp; omega) (by omega), hq _ j.val (by simp) (by omega), hcs, hsn]
    exact rope_high (fun j => u2 (ix3 b (Fin.ofNat 2048 p.val) (Fin.ofNat 4608 (4096 + j))))
      (fun j => cs (ix3 b (Fin.ofNat 2048 p.val) (Fin.ofNat 32 j))) (fun j => sn (ix3 b (Fin.ofNat 2048 p.val) (Fin.ofNat 32 j))) j.val

/-- One masked score, in the arrays it is computed from. -/
theorem score_at (b : Fin 4) (p j : Fin 2048) (h : Fin 16) :
    val_main_v54 (F := Ideal) x0 x1 x2 x3 x4 (ix4 b h p j)
      = Scalar.select (IntOp.cmpi .sle (BitVec.ofNat 32 j.val) (BitVec.ofNat 32 p.val))
      ((∑ d, val_main_v2 (F := Ideal) x0 (ix4 b p h d) * val_main_v23 (F := Ideal) x1 (ix4 b j h d)
        + ∑ e, val_main_v41 (F := Ideal) x2 x3 x4 (ix3 b j e) * val_main_v20 (F := Ideal) x0 x3 x4 (ix4 b p h e))
        * Ideal.ofBits .f32 0x3D93CD3A#32) (Ideal.ofBits .f32 0xFF800000#32) := by
  generalize h1 : val_main_v2 (F := Ideal) x0 = y1
  generalize h2 : val_main_v23 (F := Ideal) x1 = y2
  generalize h3 : val_main_v41 (F := Ideal) x2 x3 x4 = y3
  generalize h4 : val_main_v20 (F := Ideal) x0 x3 x4 = y4
  pointwise [val_main_v54, val_main_v47, val_main_v45, val_main_v42, val_main_v44, val_main_v43, val_main_v46, val_main_cst,
    val_main_call0_v2, val_main_call0_v1, val_main_call0_v0, val_main_v53, val_main_v52, val_main_v51, val_main_v50, val_main_v49,
    val_main_v48, val_main_cst_0]
  rw [h1, h2, h3, h4]
  rfl

include hu0 hu1 hu2 hc hs in
/-- One masked score. -/
theorem scores (b : Fin 4) (p j : Fin 2048) (h : Fin 16) :
    val_main_v54 (F := Ideal) x0 x1 x2 x3 x4 (ix4 b h p j)
      = if j.val < p.val + 1 then ((headScore u0 u1 u2 cs sn b h p.val j.val + 0 : ℝ) : EReal) else ⊥ := by
  rw [score_at, Cert.ReferenceIdeal.Attn.causal, Cert.KernelIdeal.Attn.neg_inf, scale_eq]
  by_cases hjp : j.val < p.val + 1
  · have hd : decide (j.val < p.val + 1) = true := decide_eq_true hjp
    rw [hd, if_pos hjp]
    simp only [queries x0 u0 hu0, keys x1 u1 hu1, keys_turned x2 x3 x4 u2 cs sn hu2 hc hs, queries_turned x0 x3 x4 u0 cs sn hu0 hc hs,
      ← EReal.coe_mul, ← coe_sum, ← EReal.coe_add]
    refine (if_pos rfl : Scalar.select (BitVec.ofBool true) _ _ = _).trans (congrArg (fun y : ℝ => (y : EReal)) ?_)
    unfold headScore
    rw [add_zero]
    simp only [mul_comm (turnedKey _ _ _ _ _ _)]
  · have hd : decide (j.val < p.val + 1) = false := decide_eq_false hjp
    rw [hd, if_neg hjp]
    rfl

/-- A row's greatest score. -/
theorem greatest (b : Fin 4) (p : Fin 2048) (h : Fin 16) : val_main_v57 (F := Ideal) x0 x1 x2 x3 x4 (ix3 b h p)
    = Finset.univ.fold max ⊥ fun k : Fin 2048 => val_main_v54 (F := Ideal) x0 x1 x2 x3 x4 (ix4 b h p k) := by
  rw [val_main_v57_apply]
  generalize hy : val_main_v54 (F := Ideal) x0 x1 x2 x3 x4 = y
  pointwise [val_main_v56, val_main_v55, val_main_cst_1, val_main_cst_2]
  rw [Cert.KernelIdeal.Attn.neg_inf, max_eq_right bot_le, hy]

/-- A score's weight before the division. -/
theorem expOne (b : Fin 4) (p j : Fin 2048) (h : Fin 16) : val_main_v61 (F := Ideal) x0 x1 x2 x3 x4 (ix4 b h p j)
    = Ideal.exp (val_main_v54 (F := Ideal) x0 x1 x2 x3 x4 (ix4 b h p j) - val_main_v57 (F := Ideal) x0 x1 x2 x3 x4 (ix3 b h p)) := by
  pointwise [val_main_v61, val_main_v60, val_main_v59, val_main_v58]

/-- The sum of a row's weights. -/
theorem total (b : Fin 4) (p : Fin 2048) (h : Fin 16) : val_main_v62 (F := Ideal) x0 x1 x2 x3 x4 (ix3 b h p)
    = ∑ k : Fin 2048, val_main_v61 (F := Ideal) x0 x1 x2 x3 x4 (ix4 b h p k) := by
  generalize hy : val_main_v61 (F := Ideal) x0 x1 x2 x3 x4 = y
  pointwise [val_main_v62, val_main_cst_3]
  rw [hy]

/-- The weighted sum of the values. -/
theorem weightedSum (b : Fin 4) (p : Fin 2048) (h : Fin 16) (d : Fin 128) :
    val_main_v66 (F := Ideal) x0 x1 x2 x3 x4 (ix4 b h d p)
      = ∑ k : Fin 2048, val_main_v26 (F := Ideal) x1 (ix4 b k h d)
          * Ideal.div (val_main_v61 (F := Ideal) x0 x1 x2 x3 x4 (ix4 b h p k)) (val_main_v62 (F := Ideal) x0 x1 x2 x3 x4 (ix3 b h p)) := by
  generalize hy : val_main_v61 (F := Ideal) x0 x1 x2 x3 x4 = y
  generalize hz : val_main_v62 (F := Ideal) x0 x1 x2 x3 x4 = z
  pointwise [val_main_v66, val_main_v65, val_main_v64, val_main_v63]
  rw [hy, hz]

include hu0 hu1 hu2 hc hs in
/-- The attention of one head at one position, before the heads are laid side by side. -/
theorem head_value (b : Fin 4) (p : Fin 2048) (h : Fin 16) (d : Fin 128) :
    val_main_v66 (F := Ideal) x0 x1 x2 x3 x4 (ix4 b h d p) = attn u0 u1 u2 cs sn x1 b p.val h d := by
  rw [weightedSum, total]
  simp only [expOne, values x1]
  exact softmax_mean (Nat.succ_pos p.val) p.isLt (headScore u0 u1 u2 cs sn b h p.val) (fun j => value x1 b h j d) 0
    _ _ (scores x0 x1 x2 x3 x4 u0 u1 u2 cs sn hu0 hu1 hu2 hc hs b p · h) (fun _ => rfl) (greatest x0 x1 x2 x3 x4 b p h)

include hu0 hu1 hu2 hc hs in
/-- The reference's result. -/
theorem result_eq : val_main_v69 (F := Ideal) x0 x1 x2 x3 x4 = result u0 u1 u2 cs sn x1 := by
  funext i
  have h0 : (i 0).val < 4 := (i 0).isLt
  have h1 : (i 1).val < 2048 := (i 1).isLt
  have h2 : (i 2).val < 2048 := (i 2).isLt
  rw [val_main_v69_apply, val_main_v68_apply, val_main_v67_apply]
  refine Eq.trans (congrArg (val_main_v66 (F := Ideal) x0 x1 x2 x3 x4)
    (?_ : _ = ix4 (i 0) ⟨(i 2).val / 128, by omega⟩ ⟨(i 2).val % 128, by omega⟩ (i 1)))
    (head_value x0 x1 x2 x3 x4 u0 u1 u2 cs sn hu0 hu1 hu2 hc hs _ _ _ _)
  refine funext fun a => Fin.ext ?_
  match a with
  | ⟨0, _⟩ => show (((i 0).val * 2048 + (i 1).val) * 2048 + (i 2).val) / 4194304 = (i 0).val; omega
  | ⟨1, _⟩ => show (((i 0).val * 2048 + (i 1).val) * 2048 + (i 2).val) / 128 % 16 = (i 2).val / 128; omega
  | ⟨2, _⟩ => show (((i 0).val * 2048 + (i 1).val) * 2048 + (i 2).val) % 128 = (i 2).val % 128; omega
  | ⟨3, _⟩ => show (((i 0).val * 2048 + (i 1).val) * 2048 + (i 2).val) / 2048 % 2048 = (i 1).val; omega

end Cert.Reference10Ideal.Attn

end
-- ==== Proof.MlaFinite.lean ====
module

public import proofs.«01_k».proof.Defs
public import proofs.«01_k».proof.Proof.Finite
public import proofs.«01_k».proof.Proof.Gen.Pre_finite_keys

@[expose] public section

set_option maxRecDepth 16384

/-! # What the precondition of layer 3's attention says

Where it holds, the queries, both kinds of keys, the cosines and the sines are real numbers. -/

noncomputable section

namespace Cert.Pre_finite_keys

open Cert.Pre_finite_keys Idealize.ShloMosaic
open Cert.Pre_finite (real_of_abs_lt)

/-- The arguments hold real numbers, but for the values and for the columns of the projections not read. -/
theorem reals (x0 : FVec Ideal S4x2048x3072 .bf16) (x1 : FVec Ideal S4x2048x4096 .bf16) (x2 : FVec Ideal S4x2048x4608 .bf16)
    (x3 x4 : FVec Ideal S4x2048x32 .f32) [Facts] (h : fn (F := Ideal) x0 x1 x2 x3 x4 = fun _ => 1#1) :
    (∀ i, ∃ r : ℝ, x0 i = (r : EReal))
    ∧ (∀ b j (k : Fin 4096), k.val < 2048 → ∃ r : ℝ, x1 (ix3 b j k) = (r : EReal))
    ∧ (∀ b j (k : Fin 4608), 4096 ≤ k.val → k.val < 4160 → ∃ r : ℝ, x2 (ix3 b j k) = (r : EReal))
    ∧ (∀ i, ∃ r : ℝ, x3 i = (r : EReal)) ∧ ∀ i, ∃ r : ℝ, x4 i = (r : EReal) := by
  have h1 := congrFun h (Shape.Idx.first Facts.h_S_)
  have hs : Subsingleton S_.Idx := ⟨fun a b => funext fun k => k.elim0⟩
  have h2 := IntOp.andi_eq_one.mp h1
  have h3 := IntOp.andi_eq_one.mp h2.1
  have h4 := IntOp.andi_eq_one.mp h3.1
  have h5 := IntOp.andi_eq_one.mp h2.2
  refine ⟨fun i => ?_, fun b j k hk => ?_, fun b j k hl hk => ?_, fun i => ?_, fun i => ?_⟩
  · exact real_of_abs_lt _ (Host.reduce_andi_all _ _ _ _ _ h4.1 i)
  · obtain ⟨r, hr⟩ := real_of_abs_lt _ (Host.reduce_andi_all _ _ _ _ _ h4.2 (ix3 b j ⟨k.val, hk⟩))
    refine ⟨r, Eq.trans (congrArg x1 ?_) hr⟩
    exact funext fun a => Fin.ext (match a with
      | ⟨0, _⟩ => (Nat.zero_add _).symm
      | ⟨1, _⟩ => (Nat.zero_add _).symm
      | ⟨2, _⟩ => (Nat.zero_add _).symm)
  · obtain ⟨r, hr⟩ := real_of_abs_lt _ (Host.reduce_andi_all _ _ _ _ _ h3.2 (ix3 b j ⟨k.val - 4096, by omega⟩))
    refine ⟨r, Eq.trans (congrArg x2 ?_) hr⟩
    exact funext fun a => Fin.ext (match a with
      | ⟨0, _⟩ => (Nat.zero_add _).symm
      | ⟨1, _⟩ => (Nat.zero_add _).symm
      | ⟨2, _⟩ => (Nat.add_sub_cancel' hl).symm)
  · exact real_of_abs_lt _ (Host.reduce_andi_all _ _ _ _ _ h5.1 i)
  · exact real_of_abs_lt _ (Host.reduce_andi_all _ _ _ _ _ h5.2 i)

end Cert.Pre_finite_keys

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite_memory
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Pre_finite_memory0
public import proofs.«01_k».proof.Proof.Gen.Pre_finite_memory1
public import proofs.«01_k».proof.Proof.Gen.Kernel10
public import proofs.«01_k».proof.Proof.Gen.Kernel10.Skeleton
public import proofs.«01_k».proof.Proof.Gen.Kernel10.Loops
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Loops
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Pre_finite_keys
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Reference14Ideal
public import proofs.«01_k».proof.Proof.Gen.Reference14Ideal.Run
public import proofs.«01_k».proof.Proof.Gen.Reference14Ideal.Read
public import proofs.«01_k».proof.Proof.Gen.Pre_finite_memory2
public import proofs.«01_k».proof.Proof.Gen.Pre_finite_lses
public import proofs.«01_k».proof.Proof.Finite
public import proofs.«01_k».proof.Proof.RefValue
public import proofs.«01_k».proof.Proof.ProjRef
public import proofs.«01_k».proof.Proof.OutRef
public import proofs.«01_k».proof.Proof.ProjLayer1
public import proofs.«01_k».proof.Proof.ProjLayer2
public import proofs.«01_k».proof.Proof.ProjLayer3
public import proofs.«01_k».proof.Proof.ProjMemory
public import proofs.«01_k».proof.Proof.OutRefLayer0
public import proofs.«01_k».proof.Proof.OutRefLayer1
public import proofs.«01_k».proof.Proof.OutRefLayer2
public import proofs.«01_k».proof.Proof.UpQueries
public import proofs.«01_k».proof.Proof.UpKeys
public import proofs.«01_k».proof.Proof.Combine
public import proofs.«01_k».proof.Proof.MlaRef
public import proofs.«01_k».proof.Proof.MlaFinite
public import Idealize.ShloMosaic.Adequacy
public import Idealize.ShloMosaic.Init

@[expose] public section

noncomputable section

namespace Cert.Proof

open Idealize.ShloMosaic Idealize.SL.Sem

/-- The reference runs, leaves its arguments and its counters: it declares no semaphore. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At finite arguments the kernel's result array and the reference's are the same attention of the same real numbers. -/
theorem attention : Cert.algebraic_KernelIdeal_ReferenceIdeal_pre_finite := by
  intro m ρ m' ρ' hpre hagree
  choose u hu using fun c => (Cert.Pre_finite.reals _ _ (hpre c)).1
  choose g hg using fun c => (Cert.Pre_finite.reals _ _ (hpre c)).2
  refine ⟨fun c => Cert.KernelIdeal.Attn.result (u c) (g c), Cert.KernelIdeal.Attn.run m ρ u g hu hg,
    (θ_run Cert.ReferenceIdeal.defs _ _).mono (fun r h c => ⟨(h c).1.trans ?_, (h c).2⟩)
      (Cert.ReferenceIdeal.Value.run (F := Ideal) m' ρ')⟩
  rw [Cert.ReferenceIdeal.Read.val_main_v39_eq, (hagree c).1, (hagree c).2]
  exact Cert.ReferenceIdeal.Attn.result_eq _ _ (u c) (g c) (hu c) (hg c)

/-- The projection's reference runs, leaves its arguments and its counters. -/
theorem projection_reference_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- At any arguments the kernel's projection and the reference's are the same array. -/
theorem projection : Cert.algebraic_Kernel2Ideal_Reference2Ideal := by
  intro m ρ m' ρ' _ hagree
  refine ⟨fun c => Cert.Kernel2Ideal.Proj.result (Cert.Kernel2Ideal.Proj.argX m c) (Cert.Kernel2Ideal.Proj.argG m c)
      (Cert.Kernel2Ideal.Proj.argW m c), Cert.Kernel2Ideal.Proj.run m ρ,
    (θ_run Cert.Reference2Ideal.defs _ _).mono (fun r h c => ⟨(h c).1.trans ?_, (h c).2⟩)
      (Cert.Reference2Ideal.Value.run (F := Ideal) m' ρ')⟩
  rw [Cert.Reference2Ideal.Read.val_main_v16_eq, (hagree c).1, (hagree c).2.1, (hagree c).2.2]
  exact Cert.Reference2Ideal.Proj.result_eq _ _ _

/-- The output projection's reference runs, leaves its arguments and its counters. -/
theorem output_reference_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Where the memory queries and keys are finite, the kernel's output rows and the reference's are the same array. -/
theorem output : Cert.algebraic_Kernel3Ideal_Reference3Ideal_pre_finite_memory := by
  intro m ρ m' ρ' hpre hagree
  have hreal := fun c => Cert.Pre_finite_memory.reals _ _ _ _ _ _ (hpre c)
  refine ⟨_, Cert.Kernel3Ideal.Out.run m ρ,
    (θ_run Cert.Reference3Ideal.defs _ _).mono (fun r h c => ⟨(h c).1.trans ?_, (h c).2⟩)
      (Cert.Reference3Ideal.Value.run (F := Ideal) m' ρ')⟩
  rw [Cert.Reference3Ideal.Read.val_main_v47_eq, (hagree c).1, (hagree c).2.1, (hagree c).2.2.1, (hagree c).2.2.2.1,
    (hagree c).2.2.2.2.1, (hagree c).2.2.2.2.2]
  exact (Cert.Reference3Ideal.Out.result_eq _ _ _ _ _ _).trans
    (Cert.Kernel3Ideal.Out.result_quotient _ _ _ _ _ _ (hreal c).1 (hreal c).2).symm

/-- The input projection of layer 1: the reference runs, leaves its arguments and its counters. -/
theorem layer1_reference_frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The input projection of layer 1: at any arguments the kernel's array and the reference's are the same. -/
theorem layer1 : Cert.algebraic_Kernel4Ideal_Reference4Ideal := by
  intro m ρ m' ρ' _ hagree
  refine ⟨_, Cert.Kernel4Ideal.Proj.run m ρ,
    (θ_run Cert.Reference4Ideal.defs _ _).mono (fun r h c => ⟨(h c).1.trans ?_, (h c).2⟩)
      (Cert.Reference4Ideal.Value.run (F := Ideal) m' ρ')⟩
  rw [Cert.Reference4Ideal.Read.val_main_v15_eq, (hagree c).1, (hagree c).2.1, (hagree c).2.2]
  exact Cert.Reference4Ideal.Proj.result_eq _ _ _

/-- The input projection of layer 2: the reference runs, leaves its arguments and its counters. -/
theorem layer2_reference_frame : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The input projection of layer 2: at any arguments the kernel's array and the reference's are the same. -/
theorem layer2 : Cert.algebraic_Kernel5Ideal_Reference5Ideal := by
  intro m ρ m' ρ' _ hagree
  refine ⟨_, Cert.Kernel5Ideal.Proj.run m ρ,
    (θ_run Cert.Reference5Ideal.defs _ _).mono (fun r h c => ⟨(h c).1.trans ?_, (h c).2⟩)
      (Cert.Reference5Ideal.Value.run (F := Ideal) m' ρ')⟩
  rw [Cert.Reference5Ideal.Read.val_main_v15_eq, (hagree c).1, (hagree c).2.1, (hagree c).2.2]
  exact Cert.Reference5Ideal.Proj.result_eq _ _ _

/-- The input projection of layer 3: the reference runs, leaves its arguments and its counters. -/
theorem layer3_reference_frame : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The input projection of layer 3: at any arguments the kernel's array and the reference's are the same. -/
theorem layer3 : Cert.algebraic_Kernel6Ideal_Reference6Ideal := by
  intro m ρ m' ρ' _ hagree
  refine ⟨_, Cert.Kernel6Ideal.Proj.run m ρ,
    (θ_run Cert.Reference6Ideal.defs _ _).mono (fun r h c => ⟨(h c).1.trans ?_, (h c).2⟩)
      (Cert.Reference6Ideal.Value.run (F := Ideal) m' ρ')⟩
  rw [Cert.Reference6Ideal.Read.val_main_v15_eq, (hagree c).1, (hagree c).2.1, (hagree c).2.2]
  exact Cert.Reference6Ideal.Proj.result_eq _ _ _

/-- The projection to the memory's keys and values: the reference runs, leaves its arguments and its counters. -/
theorem memory_reference_frame : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The projection to the memory's keys and values: at any arguments the kernel's array and the reference's are the same. -/
theorem memory : Cert.algebraic_Kernel7Ideal_Reference7Ideal := by
  intro m ρ m' ρ' _ hagree
  refine ⟨_, Cert.Kernel7Ideal.Proj.run m ρ,
    (θ_run Cert.Reference7Ideal.defs _ _).mono (fun r h c => ⟨(h c).1.trans ?_, (h c).2⟩)
      (Cert.Reference7Ideal.Value.run (F := Ideal) m' ρ')⟩
  rw [Cert.Reference7Ideal.Read.val_main_v15_eq, (hagree c).1, (hagree c).2.1, (hagree c).2.2]
  exact Cert.Reference7Ideal.Proj.result_eq _ _ _

/-- The end of layer 0: the reference runs, leaves its arguments and its counters. -/
theorem end0_reference_frame : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The end of layer 0: where the memory queries and keys are finite, the kernel's rows and the reference's are the same. -/
theorem end0 : Cert.algebraic_Kernel8Ideal_Reference8Ideal_pre_finite_memory0 := by
  intro m ρ m' ρ' hpre hagree
  have hreal := fun c => Cert.Pre_finite_memory0.reals _ _ _ _ _ (hpre c)
  refine ⟨_, Cert.Kernel8Ideal.Out.run m ρ,
    (θ_run Cert.Reference8Ideal.defs _ _).mono (fun r h c => ⟨(h c).1.trans ?_, (h c).2⟩)
      (Cert.Reference8Ideal.Value.run (F := Ideal) m' ρ')⟩
  rw [Cert.Reference8Ideal.Read.val_main_v34_eq, (hagree c).1, (hagree c).2.1, (hagree c).2.2.1, (hagree c).2.2.2.1,
    (hagree c).2.2.2.2]
  exact (Cert.Reference8Ideal.Out.result_eq _ _ _ _ _).trans
    (Cert.Arranged.result_quotient _ _ _ _ _ (hreal c).1 (hreal c).2).symm

/-- The end of layer 1: the reference runs, leaves its arguments and its counters. -/
theorem end1_reference_frame : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The end of layer 1: where the memory queries and keys are finite, the kernel's rows and the reference's are the same. -/
theorem end1 : Cert.algebraic_Kernel9Ideal_Reference9Ideal_pre_finite_memory1 := by
  intro m ρ m' ρ' hpre hagree
  have hreal := fun c => Cert.Pre_finite_memory1.reals _ _ _ _ _ (hpre c)
  refine ⟨_, Cert.Kernel9Ideal.Out.run m ρ,
    (θ_run Cert.Reference9Ideal.defs _ _).mono (fun r h c => ⟨(h c).1.trans ?_, (h c).2⟩)
      (Cert.Reference9Ideal.Value.run (F := Ideal) m' ρ')⟩
  rw [Cert.Reference9Ideal.Read.val_main_v36_eq, (hagree c).1, (hagree c).2.1, (hagree c).2.2.1, (hagree c).2.2.2.1,
    (hagree c).2.2.2.2]
  exact (Cert.Reference9Ideal.Out.result_eq _ _ _ _ _).trans
    (Cert.Arranged.result_quotient _ _ _ _ _ (hreal c).1 (hreal c).2).symm

/-- Layer 3's attention: the reference runs, leaves its arguments and its counters. -/
theorem latent_reference_frame : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- An extended real that is a real number is its real part. -/
theorem real_toReal {x : EReal} (h : ∃ r : ℝ, x = (r : EReal)) : x = (x.toReal : EReal) := by
  obtain ⟨r, rfl⟩ := h
  rfl

/-- Layer 3's attention: where queries, keys, cosines and sines are finite, the kernel's result array and the reference's are
the same attention. -/
theorem latent : Cert.algebraic_Kernel10Ideal_Reference10Ideal_pre_finite_keys := by
  intro m ρ m' ρ' hpre hagree
  have hreal := fun c => Cert.Pre_finite_keys.reals _ _ _ _ _ (hpre c)
  choose u0 hu0 using fun c => (hreal c).1
  choose cs hc using fun c => (hreal c).2.2.2.1
  choose sn hs using fun c => (hreal c).2.2.2.2
  have hu1 := fun c b j (k : Fin 4096) (hk : k.val < 2048) => (real_toReal ((hreal c).2.1 b j k hk))
  have hu2 := fun c b j (k : Fin 4608) (hl : 4096 ≤ k.val) (hk : k.val < 4160) => (real_toReal ((hreal c).2.2.1 b j k hl hk))
  refine ⟨_, Cert.Kernel10Ideal.Attn.run m ρ u0 (fun c i => (_ : EReal).toReal) (fun c i => (_ : EReal).toReal) cs sn _ hu0
      (fun _ _ => rfl) hu1 hu2 hc hs,
    (θ_run Cert.Reference10Ideal.defs _ _).mono (fun r h c => ⟨(h c).1.trans ?_, (h c).2⟩)
      (Cert.Reference10Ideal.Value.run (F := Ideal) m' ρ')⟩
  rw [Cert.Reference10Ideal.Read.val_main_v69_eq, (hagree c).1, (hagree c).2.1, (hagree c).2.2.1, (hagree c).2.2.2.1,
    (hagree c).2.2.2.2]
  exact Cert.Reference10Ideal.Attn.result_eq _ _ _ _ _ (u0 c) _ _ (cs c) (sn c) (hu0 c) (hu1 c) (hu2 c) (hc c) (hs c)

/-- The up-projection to layer 3's queries: the reference runs, leaves its arguments and its counters. -/
theorem upQueries_reference_frame : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The up-projection to layer 3's queries: at any arguments the kernel's array and the reference's are the same. -/
theorem upQueries : Cert.algebraic_Kernel11Ideal_Reference11Ideal := by
  intro m ρ m' ρ' _ hagree
  refine ⟨_, Cert.Kernel11Ideal.Up.run m ρ,
    (θ_run Cert.Reference11Ideal.defs _ _).mono (fun r h c => ⟨(h c).1.trans ?_, (h c).2⟩)
      (Cert.Reference11Ideal.Value.run (F := Ideal) m' ρ')⟩
  rw [Cert.Reference11Ideal.Read.val_main_v17_eq, (hagree c).1, (hagree c).2.1, (hagree c).2.2]
  exact Cert.Reference11Ideal.Up.result_eq _ _ _

/-- The up-projection to layer 3's keys and values: the reference runs, leaves its arguments and its counters. -/
theorem upKeys_reference_frame : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The up-projection to layer 3's keys and values: at any arguments the kernel's array and the reference's are the same. -/
theorem upKeys : Cert.algebraic_Kernel12Ideal_Reference12Ideal := by
  intro m ρ m' ρ' _ hagree
  refine ⟨_, Cert.Kernel12Ideal.Up.run m ρ,
    (θ_run Cert.Reference12Ideal.defs _ _).mono (fun r h c => ⟨(h c).1.trans ?_, (h c).2⟩)
      (Cert.Reference12Ideal.Value.run (F := Ideal) m' ρ')⟩
  rw [Cert.Reference12Ideal.Read.val_main_v17_eq, (hagree c).1, (hagree c).2.1, (hagree c).2.2]
  exact Cert.Reference12Ideal.Up.result_eq _ _ _

/-- The end of layer 2: the reference runs, leaves its arguments and its counters. -/
theorem end2_reference_frame : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The end of layer 2: where the memory queries and keys are finite, the kernel's rows and the reference's are the same. -/
theorem end2 : Cert.algebraic_Kernel13Ideal_Reference13Ideal_pre_finite_memory2 := by
  intro m ρ m' ρ' hpre hagree
  have hreal := fun c => Cert.Pre_finite_memory2.reals _ _ _ _ _ (hpre c)
  refine ⟨_, Cert.Kernel13Ideal.Out.run m ρ,
    (θ_run Cert.Reference13Ideal.defs _ _).mono (fun r h c => ⟨(h c).1.trans ?_, (h c).2⟩)
      (Cert.Reference13Ideal.Value.run (F := Ideal) m' ρ')⟩
  rw [Cert.Reference13Ideal.Read.val_main_v37_eq, (hagree c).1, (hagree c).2.1, (hagree c).2.2.1, (hagree c).2.2.2.1,
    (hagree c).2.2.2.2]
  exact (Cert.Reference13Ideal.Out.result_eq _ _ _ _ _).trans
    (Cert.Narrow.result_quotient _ _ _ _ _ (hreal c).1 (hreal c).2).symm

/-- The mixture of layer 2's groups: the reference runs, leaves its arguments and its counters. -/
theorem combine_reference_frame : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- The mixture of layer 2's groups: where the logsumexps are finite, the kernel's array and the reference's are the same. -/
theorem combine : Cert.algebraic_Kernel14Ideal_Reference14Ideal_pre_finite_lses := by
  intro m ρ m' ρ' hpre hagree
  refine ⟨_, Cert.Kernel14Ideal.Value.run (F := Ideal) m ρ,
    (θ_run Cert.Reference14Ideal.defs _ _).mono (fun r h c => ⟨(h c).1.trans ?_, (h c).2⟩)
      (Cert.Reference14Ideal.Value.run (F := Ideal) m' ρ')⟩
  rw [Cert.Reference14Ideal.Read.val_main_v20_eq, (hagree c).1, (hagree c).2.1, (hagree c).2.2.1, (hagree c).2.2.2.1,
    (hagree c).2.2.2.2.1, (hagree c).2.2.2.2.2]
  exact Cert.Kernel14Ideal.Combine.result_eq _ _ _ _ _ _ (Cert.Pre_finite_lses.reals _ _ _ _ _ _ (hpre c))

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Pre_finite.Gen.facts, Cert.Pre_finite_memory.Gen.facts, Cert.Pre_finite_memory0.Gen.facts, Cert.Pre_finite_memory1.Gen.facts,
  Cert.Pre_finite_keys.Gen.facts, Cert.Pre_finite_memory2.Gen.facts, Cert.Pre_finite_lses.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  fun m ρ _ => Cert.Kernel2.Gen.frame m ρ,
  fun m ρ _ => Cert.Kernel2Ideal.Gen.frame m ρ,
  projection_reference_frame,
  fun m ρ _ => Cert.Kernel3.Gen.frame m ρ,
  fun m ρ _ => Cert.Kernel3Ideal.Gen.frame m ρ,
  fun m ρ _ => Cert.Kernel3Ideal.Gen.frame m ρ,
  output_reference_frame,
  fun m ρ _ => output_reference_frame m ρ trivial,
  fun m ρ _ => Cert.Kernel4.Gen.frame m ρ,
  fun m ρ _ => Cert.Kernel4Ideal.Gen.frame m ρ,
  layer1_reference_frame,
  fun m ρ _ => Cert.Kernel5.Gen.frame m ρ,
  fun m ρ _ => Cert.Kernel5Ideal.Gen.frame m ρ,
  layer2_reference_frame,
  fun m ρ _ => Cert.Kernel6.Gen.frame m ρ,
  fun m ρ _ => Cert.Kernel6Ideal.Gen.frame m ρ,
  layer3_reference_frame,
  fun m ρ _ => Cert.Kernel7.Gen.frame m ρ,
  fun m ρ _ => Cert.Kernel7Ideal.Gen.frame m ρ,
  memory_reference_frame,
  fun m ρ _ => Cert.Kernel8.Gen.frame m ρ,
  fun m ρ _ => Cert.Kernel8Ideal.Gen.frame m ρ,
  fun m ρ _ => Cert.Kernel8Ideal.Gen.frame m ρ,
  end0_reference_frame,
  fun m ρ _ => end0_reference_frame m ρ trivial,
  fun m ρ _ => Cert.Kernel9.Gen.frame m ρ,
  fun m ρ _ => Cert.Kernel9Ideal.Gen.frame m ρ,
  fun m ρ _ => Cert.Kernel9Ideal.Gen.frame m ρ,
  end1_reference_frame,
  fun m ρ _ => end1_reference_frame m ρ trivial,
  fun m ρ _ => Cert.Kernel10.Gen.frame m ρ,
  fun m ρ _ => Cert.Kernel10Ideal.Gen.frame m ρ,
  fun m ρ _ => Cert.Kernel10Ideal.Gen.frame m ρ,
  latent_reference_frame,
  fun m ρ _ => latent_reference_frame m ρ trivial,
  fun m ρ _ => Cert.Kernel11.Gen.frame m ρ,
  fun m ρ _ => Cert.Kernel11Ideal.Gen.frame m ρ,
  upQueries_reference_frame,
  fun m ρ _ => Cert.Kernel12.Gen.frame m ρ,
  fun m ρ _ => Cert.Kernel12Ideal.Gen.frame m ρ,
  upKeys_reference_frame,
  fun m ρ _ => Cert.Kernel13.Gen.frame m ρ,
  fun m ρ _ => Cert.Kernel13Ideal.Gen.frame m ρ,
  fun m ρ _ => Cert.Kernel13Ideal.Gen.frame m ρ,
  end2_reference_frame,
  fun m ρ _ => end2_reference_frame m ρ trivial,
  fun m ρ _ => Cert.Kernel14.Gen.frame m ρ,
  fun m ρ _ => Cert.Kernel14Ideal.Gen.frame m ρ,
  fun m ρ _ => Cert.Kernel14Ideal.Gen.frame m ρ,
  combine_reference_frame,
  fun m ρ _ => combine_reference_frame m ρ trivial,
  IdealRules.named_const.statement Cert.KernelIdeal.κ "mask" .f32 0xF149F2CA#32 ⊥ rfl,
  attention, projection, output, layer1, layer2, layer3, memory, end0, end1,
  IdealRules.named_const.statement Cert.Kernel10Ideal.κ "mask" .f32 0xF149F2CA#32 ⊥ rfl,
  latent, upQueries, upKeys, end2, combine⟩

end Cert.Proof

end
